-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs [hPre_finite_inputs : Cert.Pre_finite_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs [hPre_finite_inputs : Cert.Pre_finite_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_inputs [hKernel4Ideal : Cert.Kernel4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_inputs [hReference4Ideal : Cert.Reference4Ideal.Facts] [hPre_finite_inputs : Cert.Pre_finite_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "neg_log2e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_inputs [hKernel4Ideal : Cert.Kernel4Ideal.Facts] [hReference4Ideal : Cert.Reference4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_gates : Cert.Pre_finite_gates.Facts) (hPre_finite_inputs : Cert.Pre_finite_inputs.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_inputs (hKernel4Ideal := hKernel4Ideal) (hPre_finite_inputs := hPre_finite_inputs)
    ∧ quiescent_Reference4Ideal (hReference4Ideal := hReference4Ideal)
    ∧ quiescent_Reference4Ideal_pre_finite_inputs (hReference4Ideal := hReference4Ideal) (hPre_finite_inputs := hPre_finite_inputs)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_inputs (hKernel4Ideal := hKernel4Ideal) (hReference4Ideal := hReference4Ideal) (hPre_finite_inputs := hPre_finite_inputs)
-- ==== Pre_finite_gates.lean ====
abbrev S8x4096x4096 : Shape := ⟨3, ![8, 4096, 4096]⟩
abbrev S8x4096x2048 : Shape := ⟨3, ![8, 4096, 2048]⟩
abbrev S8x4096x32 : Shape := ⟨3, ![8, 4096, 32]⟩
abbrev S8x4096x1024 : Shape := ⟨3, ![8, 4096, 1024]⟩
abbrev S32 : Shape := ⟨1, ![32]⟩
abbrev S2048 : Shape := ⟨1, ![2048]⟩
abbrev S2048x1024 : Shape := ⟨2, ![2048, 1024]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)
  bcast_S_S8x4096x32 : S_.BroadcastsInDim S8x4096x32 (![] : Fin 0 → Fin S8x4096x32.rank)
  bcast_S_S32 : S_.BroadcastsInDim S32 (![] : Fin 0 → Fin S32.rank)

variable [Facts]

def fn {F : FTy → Type} [FloatOps F] (main_arg0 : FVec F S8x4096x4096 .bf16) (main_arg1 : FVec F S8x4096x2048 .bf16) (main_arg2 : FVec F S8x4096x32 .f32) (main_arg3 : FVec F S8x4096x1024 .f32) (main_arg4 : FVec F S32 .f32) (main_arg5 : FVec F S32 .f32) (main_arg6 : FVec F S32 .f32) (main_arg7 : FVec F S2048 .f32) (main_arg8 : FVec F S2048x1024 .f32) : IVec S8x4096x2048 1 × IVec S8x4096x32 1 × IVec S32 1 × IVec S32 1 :=
  let main_v0 : FVec F S8x4096x2048 .f32 := (extf .f32 · bitsLt_bf16_f32) main_arg1
  let main_v1 : FVec F S8x4096x2048 .f32 := Host.absf main_v0
  let main_cst : FVec F S_ .f32 := constant S_ .f32 0x7F800000#32
  let main_v2 : FVec F S8x4096x2048 .f32 := broadcastInDim S8x4096x2048 ![] bcast_S_S8x4096x2048 main_cst
  let main_v3 : IVec S8x4096x2048 1 := cmpf .olt main_v1 main_v2
  let main_v4 : FVec F S8x4096x32 .f32 := Host.absf main_arg2
  let main_cst_0 : FVec F S_ .f32 := constant S_ .f32 0x7F800000#32
  let main_v5 : FVec F S8x4096x32 .f32 := broadcastInDim S8x4096x32 ![] bcast_S_S8x4096x32 main_cst_0
  let main_v6 : IVec S8x4096x32 1 := cmpf .olt main_v4 main_v5
  let main_v7 : FVec F S32 .f32 := Host.absf main_arg4
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  let main_v10 : FVec F S32 .f32 := Host.absf main_arg5
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  (main_v3, main_v6, main_v9, main_v12)
-- ==== Pre_finite_inputs.lean ====
abbrev S8x4096x1024 : Shape := ⟨3, ![8, 4096, 1024]⟩
abbrev S1024 : Shape := ⟨1, ![1024]⟩
abbrev S1024x6176 : Shape := ⟨2, ![1024, 6176]⟩
abbrev S4x4096 : Shape := ⟨2, ![4, 4096]⟩
abbrev S4096 : Shape := ⟨1, ![4096]⟩
abbrev S_ : Shape := ⟨0, ![]⟩
abbrev S1024x4128 : Shape := ⟨2, ![1024, 4128]⟩

class Facts : Prop where
  bcast_S_S1024 : S_.BroadcastsInDim S1024 (![] : Fin 0 → Fin S1024.rank)
  slices_S1024x6176_S1024x4128_0_2048 : S1024x6176.Slices ![0, 2048] S1024x4128
  bcast_S_S1024x4128 : S_.BroadcastsInDim S1024x4128 (![] : Fin 0 → Fin S1024x4128.rank)
  bcast_S_S4x4096 : S_.BroadcastsInDim S4x4096 (![] : Fin 0 → Fin S4x4096.rank)
  bcast_S_S4096 : S_.BroadcastsInDim S4096 (![] : Fin 0 → Fin S4096.rank)

variable [Facts]

def fn {F : FTy → Type} [FloatOps F] (main_arg0 : FVec F S8x4096x1024 .f32) (main_arg1 : FVec F S1024 .f32) (main_arg2 : FVec F S1024x6176 .f32) (main_arg3 : FVec F S4x4096 .f32) (main_arg4 : FVec F S4096 .f32) : IVec S1024 1 × IVec S1024x4128 1 × IVec S4x4096 1 × IVec S4096 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4128 .f32 := (extractStridedSlice S1024x4128 ![0, 2048] · slices_S1024x6176_S1024x4128_0_2048) main_arg2
  let main_v4 : FVec F S1024x4128 .f32 := Host.absf main_v3
  let main_cst_0 : FVec F S_ .f32 := constant S_ .f32 0x7F800000#32
  let main_v5 : FVec F S1024x4128 .f32 := broadcastInDim S1024x4128 ![] bcast_S_S1024x4128 main_cst_0
  let main_v6 : IVec S1024x4128 1 := cmpf .olt main_v4 main_v5
  let main_v7 : FVec F S4x4096 .f32 := Host.absf main_arg3
  let main_cst_1 : FVec F S_ .f32 := constant S_ .f32 0x7F800000#32
  let main_v8 : FVec F S4x4096 .f32 := broadcastInDim S4x4096 ![] bcast_S_S4x4096 main_cst_1
  let main_v9 : IVec S4x4096 1 := cmpf .olt main_v7 main_v8
  let main_v10 : FVec F S4096 .f32 := Host.absf main_arg4
  let main_cst_2 : FVec F S_ .f32 := constant S_ .f32 0x7F800000#32
  let main_v11 : FVec F S4096 .f32 := broadcastInDim S4096 ![] bcast_S_S4096 main_cst_2
  let main_v12 : IVec S4096 1 := cmpf .olt main_v10 main_v11
  (main_v2, main_v6, main_v9, main_v12)
-- ==== Kernel.lean ====
abbrev S8x4096x4096 : Shape := ⟨3, ![8, 4096, 4096]⟩
abbrev S8x4096x2048 : Shape := ⟨3, ![8, 4096, 2048]⟩
abbrev S8x4096x32 : Shape := ⟨3, ![8, 4096, 32]⟩
abbrev S8x4096x1024 : Shape := ⟨3, ![8, 4096, 1024]⟩
abbrev S32 : Shape := ⟨1, ![32]⟩
abbrev S2048 : Shape := ⟨1, ![2048]⟩
abbrev S2048x1024 : Shape := ⟨2, ![2048, 1024]⟩
abbrev S32768x1024 : Shape := ⟨2, ![32768, 1024]⟩
abbrev S32768x4096 : Shape := ⟨2, ![32768, 4096]⟩
abbrev S32768x2048 : Shape := ⟨2, ![32768, 2048]⟩
abbrev S32768x32 : Shape := ⟨2, ![32768, 32]⟩
abbrev S_ : Shape := ⟨0, ![]⟩
abbrev S32768x128 : Shape := ⟨2, ![32768, 128]⟩
abbrev S1x32 : Shape := ⟨2, ![1, 32]⟩
abbrev S1x128 : Shape := ⟨2, ![1, 128]⟩
abbrev S32x64 : Shape := ⟨2, ![32, 64]⟩
abbrev S1x2048 : Shape := ⟨2, ![1, 2048]⟩
abbrev S128 : Shape := ⟨1, ![128]⟩
abbrev S128x1 : Shape := ⟨2, ![128, 1]⟩
abbrev S128x2048 : Shape := ⟨2, ![128, 2048]⟩
abbrev S256x2048 : Shape := ⟨2, ![256, 2048]⟩
abbrev S256x4096 : Shape := ⟨2, ![256, 4096]⟩
abbrev S256x128 : Shape := ⟨2, ![256, 128]⟩
abbrev S256x1024 : Shape := ⟨2, ![256, 1024]⟩
abbrev S8x128x256 : Shape := ⟨3, ![8, 128, 256]⟩
abbrev S128x128 : Shape := ⟨2, ![128, 128]⟩
abbrev S128x256 : Shape := ⟨2, ![128, 256]⟩
abbrev S16x128 : Shape := ⟨2, ![16, 128]⟩
abbrev S400x128 : Shape := ⟨2, ![400, 128]⟩
abbrev S400x256 : Shape := ⟨2, ![400, 256]⟩
abbrev S400x2048 : Shape := ⟨2, ![400, 2048]⟩
abbrev S1x128x256 : Shape := ⟨3, ![1, 128, 256]⟩
abbrev S128x512 : Shape := ⟨2, ![128, 512]⟩
abbrev S512x256 : Shape := ⟨2, ![512, 256]⟩
abbrev S1x256 : Shape := ⟨2, ![1, 256]⟩
abbrev S128x1024 : Shape := ⟨2, ![128, 1024]⟩

abbrev nBuf : Space → Nat
  | .hbm => 57
  | .vmem => 18
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x2048, .bf16⟩
  | .hbm, ⟨2, _⟩ => ⟨S8x4096x32, .f32⟩
  | .hbm, ⟨3, _⟩ => ⟨S8x4096x1024, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S2048x1024, .f32⟩
  | .hbm, ⟨9, _⟩ => ⟨S32768x1024, .f32⟩
  | .hbm, ⟨10, _⟩ => ⟨S32768x4096, .bf16⟩
  | .hbm, ⟨11, _⟩ => ⟨S32768x2048, .bf16⟩
  | .hbm, ⟨12, _⟩ => ⟨S32768x32, .f32⟩
  | .hbm, ⟨13, _⟩ => ⟨S_, .i32⟩
  | .hbm, ⟨14, _⟩ => ⟨S_, .f32⟩
  | .hbm, ⟨15, _⟩ => ⟨S32768x128, .f32⟩
  | .hbm, ⟨16, _⟩ => ⟨S1x32, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x32, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S32x64, .f32⟩
  | .hbm, ⟨25, _⟩ => ⟨S2048, .f32⟩
  | .hbm, ⟨26, _⟩ => ⟨S1x2048, .f32⟩
  | .hbm, ⟨27, _⟩ => ⟨S1x2048, .f32⟩
  | .hbm, ⟨28, _⟩ => ⟨S128, .i32⟩
  | .hbm, ⟨29, _⟩ => ⟨S128x1, .i32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S1x2048, .i32⟩
  | .hbm, ⟨50, _⟩ => ⟨S128x2048, .i32⟩
  | .hbm, ⟨51, _⟩ => ⟨S128x2048, .i32⟩
  | .hbm, ⟨52, _⟩ => ⟨S128x2048, .i1⟩
  | .hbm, ⟨53, _⟩ => ⟨S128x2048, .bf16⟩
  | .hbm, ⟨54, _⟩ => ⟨S256x2048, .bf16⟩
  | .hbm, ⟨55, _⟩ => ⟨S2048x1024, .bf16⟩
  | .hbm, ⟨56, _⟩ => ⟨S32768x1024, .f32⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | .local _ .vmem, ⟨6, _⟩ => ⟨S256x1024, .f32⟩
  | .local _ .vmem, ⟨7, _⟩ => ⟨S256x1024, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S2048x1024, .bf16⟩
  | .local _ .vmem, ⟨14, _⟩ => ⟨S256x1024, .f32⟩
  | .local _ .vmem, ⟨15, _⟩ => ⟨S256x1024, .f32⟩
  | .local _ .vmem, ⟨16, _⟩ => ⟨S256x2048, .bf16⟩
  | .local _ .vmem, ⟨17, _⟩ => ⟨S8x128x256, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_v6 : Ref sig .tc := ⟨.hbm, 38, rfl⟩
abbrev main_call3_v7 : Ref sig .tc := ⟨.hbm, 39, rfl⟩
abbrev main_call3_v8 : Ref sig .tc := ⟨.hbm, 40, rfl⟩
abbrev main_call3_c : Ref sig .tc := ⟨.hbm, 41, rfl⟩
abbrev main_call3_v9 : Ref sig .tc := ⟨.hbm, 42, rfl⟩
abbrev main_call3_v10 : Ref sig .tc := ⟨.hbm, 43, rfl⟩
abbrev main_call3_v11 : Ref sig .tc := ⟨.hbm, 44, rfl⟩
abbrev main_call3_c_0 : Ref sig .tc := ⟨.hbm, 45, rfl⟩
abbrev main_call3_v12 : Ref sig .tc := ⟨.hbm, 46, rfl⟩
abbrev main_call3_v13 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x4096 : Shape := ⟨3, ![8, 4096, 4096]⟩
abbrev S8x4096x2048 : Shape := ⟨3, ![8, 4096, 2048]⟩
abbrev S8x4096x32 : Shape := ⟨3, ![8, 4096, 32]⟩
abbrev S8x4096x1024 : Shape := ⟨3, ![8, 4096, 1024]⟩
abbrev S32 : Shape := ⟨1, ![32]⟩
abbrev S2048 : Shape := ⟨1, ![2048]⟩
abbrev S2048x1024 : Shape := ⟨2, ![2048, 1024]⟩
abbrev S8x4096x32x64 : Shape := ⟨4, ![8, 4096, 32, 64]⟩
abbrev S8x32x128x8x128 : Shape := ⟨5, ![8, 32, 128, 8, 128]⟩
abbrev S1x1x32 : Shape := ⟨3, ![1, 1, 32]⟩
abbrev S_ : Shape := ⟨0, ![]⟩
abbrev S8x4096x32x1 : Shape := ⟨4, ![8, 4096, 32, 1]⟩
abbrev S8x32x128x8x4x64 : Shape := ⟨6, ![8, 32, 128, 8, 4, 64]⟩
abbrev S8x32x128x8x4 : Shape := ⟨5, ![8, 32, 128, 8, 4]⟩
abbrev S8x32x8x4x128 : Shape := ⟨5, ![8, 32, 8, 4, 128]⟩
abbrev S8x32x8x4x1 : Shape := ⟨5, ![8, 32, 8, 4, 1]⟩
abbrev S8x32x128x8x4x1 : Shape := ⟨6, ![8, 32, 128, 8, 4, 1]⟩
abbrev S8x32x8x4x64x128 : Shape := ⟨6, ![8, 32, 8, 4, 64, 128]⟩
abbrev S8x32x8x4 : Shape := ⟨4, ![8, 32, 8, 4]⟩
abbrev S8x8x4x64x128 : Shape := ⟨5, ![8, 8, 4, 64, 128]⟩
abbrev S32x8x8x4x64x128 : Shape := ⟨6, ![32, 8, 8, 4, 64, 128]⟩
abbrev S32x8x8x4 : Shape := ⟨4, ![32, 8, 8, 4]⟩
abbrev S1x8x8x4x64x128 : Shape := ⟨6, ![1, 8, 8, 4, 64, 128]⟩
abbrev S1x8x8x4 : Shape := ⟨4, ![1, 8, 8, 4]⟩
abbrev S8x8x4 : Shape := ⟨3, ![8, 8, 4]⟩
abbrev S8x8x4x1x1 : Shape := ⟨5, ![8, 8, 4, 1, 1]⟩
abbrev S128x128 : Shape := ⟨2, ![128, 128]⟩
abbrev S8x32x8x4x128x1 : Shape := ⟨6, ![8, 32, 8, 4, 128, 1]⟩
abbrev S8x32x8x4x1x128 : Shape := ⟨6, ![8, 32, 8, 4, 1, 128]⟩
abbrev S8x32x8x4x128x128 : Shape := ⟨6, ![8, 32, 8, 4, 128, 128]⟩
abbrev S8x32x8x128x128 : Shape := ⟨5, ![8, 32, 8, 128, 128]⟩
abbrev S8x32x8x1x128x128 : Shape := ⟨6, ![8, 32, 8, 1, 128, 128]⟩
abbrev S32x1 : Shape := ⟨2, ![32, 1]⟩
abbrev S1x1x32x1 : Shape := ⟨4, ![1, 1, 32, 1]⟩
abbrev S8x4096x8x256 : Shape := ⟨4, ![8, 4096, 8, 256]⟩
abbrev S8x4096x8 : Shape := ⟨3, ![8, 4096, 8]⟩
abbrev S8x4096x8x1 : Shape := ⟨4, ![8, 4096, 8, 1]⟩
abbrev S1x1x2048 : Shape := ⟨3, ![1, 1, 2048]⟩
abbrev S32768x1024 : Shape := ⟨2, ![32768, 1024]⟩

abbrev nBuf : Space → Nat
  | .hbm => 212
  | .vmem => 0
  | .smem => 0
  | _ => 0

abbrev hbmTy0_0 (i : Nat) : BufTy := match i % 128 with
  | 0 => ⟨S8x4096x4096, .bf16⟩
  | 1 => ⟨S8x4096x2048, .bf16⟩
  | 2 => ⟨S8x4096x32, .f32⟩
  | 3 => ⟨S8x4096x1024, .f32⟩
  | 4 => ⟨S32, .f32⟩
  | 5 => ⟨S32, .f32⟩
  | 6 => ⟨S32, .f32⟩
  | 7 => ⟨S2048, .f32⟩
  | 8 => ⟨S2048x1024, .f32⟩
  | 9 => ⟨S8x4096x4096, .f32⟩
  | 10 => ⟨S8x4096x2048, .f32⟩
  | 11 => ⟨S8x4096x32x64, .f32⟩
  | 12 => ⟨S8x4096x1024, .f32⟩
  | 13 => ⟨S8x32x128x8x128, .f32⟩
  | 14 => ⟨S8x4096x1024, .f32⟩
  | 15 => ⟨S8x32x128x8x128, .f32⟩
  | 16 => ⟨S1x1x32, .f32⟩
  | 17 => ⟨S8x4096x32, .f32⟩
  | 18 => ⟨S8x4096x32, .f32⟩
  | 19 => ⟨S_, .f32⟩
  | 20 => ⟨S8x4096x32, .f32⟩
  | 21 => ⟨S8x4096x32, .f32⟩
  | 22 => ⟨S8x4096x32, .f32⟩
  | 23 => ⟨S8x4096x32, .f32⟩
  | 24 => ⟨S8x4096x32, .i1⟩
  | 25 => ⟨S8x4096x32, .f32⟩
  | 26 => ⟨S8x4096x32, .f32⟩
  | 27 => ⟨S8x4096x32, .f32⟩
  | 28 => ⟨S8x4096x32, .f32⟩
  | 29 => ⟨S8x4096x32, .f32⟩
  | 30 => ⟨S8x4096x32, .f32⟩
  | 31 => ⟨S8x4096x32, .f32⟩
  | 32 => ⟨S8x4096x32, .f32⟩
  | 33 => ⟨S32, .f32⟩
  | 34 => ⟨S32, .f32⟩
  | 35 => ⟨S8x4096x32x1, .f32⟩
  | 36 => ⟨S8x4096x32x64, .f32⟩
  | 37 => ⟨S8x4096x32x64, .f32⟩
  | 38 => ⟨S8x32x128x8x4x64, .f32⟩
  | 39 => ⟨S1x1x32, .f32⟩
  | 40 => ⟨S8x4096x32, .f32⟩
  | 41 => ⟨S8x4096x32, .f32⟩
  | 42 => ⟨S8x32x128x8x4, .f32⟩
  | 43 => ⟨S8x32x8x4x128, .f32⟩
  | 44 => ⟨S_, .f32⟩
  | 45 => ⟨S_, .f32⟩
  | 46 => ⟨S8x32x8x4x128, .f32⟩
  | 47 => ⟨S8x32x8x4x1, .f32⟩
  | 48 => ⟨S8x32x8x4x128, .f32⟩
  | 49 => ⟨S8x32x8x4x128, .f32⟩
  | 50 => ⟨S8x32x8x4x128, .f32⟩
  | 51 => ⟨S8x32x128x8x4, .f32⟩
  | 52 => ⟨S8x32x128x8x4x1, .f32⟩
  | 53 => ⟨S8x32x128x8x4x64, .f32⟩
  | 54 => ⟨S8x32x128x8x4x64, .f32⟩
  | 55 => ⟨S8x32x8x4x64x128, .f32⟩
  | 56 => ⟨S8x32x8x4x1, .f32⟩
  | 57 => ⟨S8x32x8x4, .f32⟩
  | 58 => ⟨S8x32x8x4, .f32⟩
  | 59 => ⟨S_, .f32⟩
  | 60 => ⟨S8x8x4x64x128, .f32⟩
  | 61 => ⟨S32x8x8x4x64x128, .f32⟩
  | 62 => ⟨S32x8x8x4, .f32⟩
  | 63 => ⟨S_, .f32⟩
  | 64 => ⟨S32x8x8x4x64x128, .f32⟩
  | 65 => ⟨S_, .i32⟩
  | 66 => ⟨S32x8x8x4x64x128, .f32⟩
  | 67 => ⟨S32x8x8x4, .f32⟩
  | 68 => ⟨S_, .i32⟩
  | 69 => ⟨S8x8x4x64x128, .f32⟩
  | 70 => ⟨S32x8x8x4x64x128, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S1x8x8x4x64x128, .f32⟩
  | 79 => ⟨S8x8x4x64x128, .f32⟩
  | 80 => ⟨S_, .i32⟩
  | 81 => ⟨S_, .i32⟩
  | 82 => ⟨S_, .i32⟩
  | 83 => ⟨S1x8x8x4, .f32⟩
  | 84 => ⟨S8x8x4, .f32⟩
  | 85 => ⟨S8x8x4x1x1, .f32⟩
  | 86 => ⟨S8x8x4x64x128, .f32⟩
  | 87 => ⟨S8x8x4x64x128, .f32⟩
  | 88 => ⟨S8x8x4x64x128, .f32⟩
  | 89 => ⟨S1x8x8x4x64x128, .f32⟩
  | 90 => ⟨S_, .i32⟩
  | 91 => ⟨S_, .i32⟩
  | 92 => ⟨S_, .i32⟩
  | 93 => ⟨S_, .i32⟩
  | 94 => ⟨S_, .i32⟩
  | 95 => ⟨S32x8x8x4x64x128, .f32⟩
  | 96 => ⟨S_, .i32⟩
  | 97 => ⟨S_, .i32⟩
  | 98 => ⟨S8x32x8x4x64x128, .f32⟩
  | 99 => ⟨S8x4096x4096, .f32⟩
  | 100 => ⟨S8x4096x2048, .f32⟩
  | 101 => ⟨S8x4096x32x64, .f32⟩
  | 102 => ⟨S8x4096x1024, .f32⟩
  | 103 => ⟨S8x32x128x8x128, .f32⟩
  | 104 => ⟨S8x4096x1024, .f32⟩
  | 105 => ⟨S8x32x128x8x128, .f32⟩
  | 106 => ⟨S1x1x32, .f32⟩
  | 107 => ⟨S8x4096x32, .f32⟩
  | 108 => ⟨S8x4096x32, .f32⟩
  | 109 => ⟨S_, .f32⟩
  | 110 => ⟨S8x4096x32, .f32⟩
  | 111 => ⟨S8x4096x32, .f32⟩
  | 112 => ⟨S8x4096x32, .f32⟩
  | 113 => ⟨S8x4096x32, .f32⟩
  | 114 => ⟨S8x4096x32, .i1⟩
  | 115 => ⟨S8x4096x32, .f32⟩
  | 116 => ⟨S8x4096x32, .f32⟩
  | 117 => ⟨S8x4096x32, .f32⟩
  | 118 => ⟨S8x4096x32, .f32⟩
  | 119 => ⟨S8x4096x32, .f32⟩
  | 120 => ⟨S8x4096x32, .f32⟩
  | 121 => ⟨S8x4096x32, .f32⟩
  | 122 => ⟨S8x4096x32, .f32⟩
  | 123 => ⟨S32, .f32⟩
  | 124 => ⟨S32, .f32⟩
  | 125 => ⟨S8x4096x32x1, .f32⟩
  | 126 => ⟨S8x4096x32x64, .f32⟩
  | 127 => ⟨S8x4096x32x64, .f32⟩
  | _ => ⟨S8x4096x4096, .bf16⟩

abbrev hbmTy0_1 (i : Nat) : BufTy := match i % 128 with
  | 0 => ⟨S8x32x128x8x4x64, .f32⟩
  | 1 => ⟨S1x1x32, .f32⟩
  | 2 => ⟨S8x4096x32, .f32⟩
  | 3 => ⟨S8x4096x32, .f32⟩
  | 4 => ⟨S8x32x128x8x4, .f32⟩
  | 5 => ⟨S8x32x8x4x128, .f32⟩
  | 6 => ⟨S_, .f32⟩
  | 7 => ⟨S_, .f32⟩
  | 8 => ⟨S8x32x8x4x128, .f32⟩
  | 9 => ⟨S_, .i1⟩
  | 10 => ⟨S128x128, .i1⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .i1⟩
  | 18 => ⟨S128x128, .i1⟩
  | 19 => ⟨S128x128, .i1⟩
  | 20 => ⟨S8x32x8x4x128x1, .f32⟩
  | 21 => ⟨S8x32x8x4x1x128, .f32⟩
  | 22 => ⟨S8x32x8x4x128x128, .f32⟩
  | 23 => ⟨S8x32x8x4x128x128, .f32⟩
  | 24 => ⟨S8x32x8x4x128x128, .f32⟩
  | 25 => ⟨S_, .f32⟩
  | 26 => ⟨S_, .f32⟩
  | 27 => ⟨S8x32x8x4x128x128, .i1⟩
  | 28 => ⟨S8x32x8x4x128x128, .f32⟩
  | 29 => ⟨S8x32x8x4x128x128, .f32⟩
  | 30 => ⟨S8x32x8x4x128x128, .f32⟩
  | 31 => ⟨S8x32x8x128x128, .f32⟩
  | 32 => ⟨S8x32x8x1x128x128, .f32⟩
  | 33 => ⟨S8x32x8x4x128x128, .f32⟩
  | 34 => ⟨S8x32x8x4x128x128, .f32⟩
  | 35 => ⟨S8x32x8x4x64x128, .f32⟩
  | 36 => ⟨S8x32x128x8x4x64, .f32⟩
  | 37 => ⟨S8x32x8x4x64x128, .f32⟩
  | 38 => ⟨S8x32x128x8x4x64, .f32⟩
  | 39 => ⟨S8x32x8x4x128, .f32⟩
  | 40 => ⟨S8x32x128x8x4, .f32⟩
  | 41 => ⟨S8x32x128x8x4x1, .f32⟩
  | 42 => ⟨S8x32x128x8x4x64, .f32⟩
  | 43 => ⟨S8x32x128x8x4x64, .f32⟩
  | 44 => ⟨S8x32x128x8x4x64, .f32⟩
  | 45 => ⟨S8x4096x32x64, .f32⟩
  | 46 => ⟨S32x1, .f32⟩
  | 47 => ⟨S1x1x32x1, .f32⟩
  | 48 => ⟨S8x4096x32x64, .f32⟩
  | 49 => ⟨S8x4096x32x64, .f32⟩
  | 50 => ⟨S8x4096x32x64, .f32⟩
  | 51 => ⟨S8x4096x2048, .f32⟩
  | 52 => ⟨S8x4096x2048, .f32⟩
  | 53 => ⟨S8x4096x2048, .f32⟩
  | 54 => ⟨S8x4096x2048, .f32⟩
  | 55 => ⟨S_, .f32⟩
  | 56 => ⟨S8x4096x2048, .f32⟩
  | 57 => ⟨S8x4096x2048, .f32⟩
  | 58 => ⟨S_, .f32⟩
  | 59 => ⟨S8x4096x2048, .f32⟩
  | 60 => ⟨S8x4096x2048, .f32⟩
  | 61 => ⟨S8x4096x2048, .f32⟩
  | 62 => ⟨S8x4096x2048, .f32⟩
  | 63 => ⟨S8x4096x8x256, .f32⟩
  | 64 => ⟨S8x4096x8x256, .f32⟩
  | 65 => ⟨S_, .f32⟩
  | 66 => ⟨S8x4096x8, .f32⟩
  | 67 => ⟨S8x4096x8x1, .f32⟩
  | 68 => ⟨S_, .f32⟩
  | 69 => ⟨S8x4096x8x1, .f32⟩
  | 70 => ⟨S8x4096x8x1, .f32⟩
  | 71 => ⟨S_, .f32⟩
  | 72 => ⟨S8x4096x8x1, .f32⟩
  | 73 => ⟨S8x4096x8x1, .f32⟩
  | 74 => ⟨S8x4096x8x1, .f32⟩
  | 75 => ⟨S8x4096x8x256, .f32⟩
  | 76 => ⟨S8x4096x8x256, .f32⟩
  | 77 => ⟨S8x4096x2048, .f32⟩
  | 78 => ⟨S1x1x2048, .f32⟩
  | 79 => ⟨S8x4096x2048, .f32⟩
  | 80 => ⟨S8x4096x2048, .f32⟩
  | 81 => ⟨S8x4096x1024, .f32⟩
  | 82 => ⟨S8x4096x1024, .f32⟩
  | 83 => ⟨S32768x1024, .f32⟩
  | _ => ⟨S8x4096x4096, .bf16⟩

abbrev hbmTy (i : Nat) : BufTy := match i / 128 with
  | 0 => hbmTy0_0 i
  | 1 => hbmTy0_1 i
  | _ => ⟨S8x4096x4096, .bf16⟩

abbrev bufTy : (tb : Table) → Fin (tcTables nBuf tb) → BufTy
  | .hbm, ⟨i, _⟩ => hbmTy i
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_call0_cst : Ref sig .tc := ⟨.hbm, 44, rfl⟩
abbrev main_call1_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_0 : Ref sig .tc := ⟨.hbm, 63, rfl⟩
abbrev main_v38 : Ref sig .tc := ⟨.hbm, 64, rfl⟩
abbrev main_c : Ref sig .tc := ⟨.hbm, 65, rfl⟩
abbrev main_v39_0 : Ref sig .tc := ⟨.hbm, 66, rfl⟩
abbrev main_v39_1 : Ref sig .tc := ⟨.hbm, 67, rfl⟩
abbrev main_v39_2 : Ref sig .tc := ⟨.hbm, 68, rfl⟩
abbrev main_v39_3 : Ref sig .tc := ⟨.hbm, 69, rfl⟩
abbrev main_v39_4 : Ref sig .tc := ⟨.hbm, 70, rfl⟩
abbrev main_while0c_c_10 : Ref sig .tc := ⟨.hbm, 71, rfl⟩
abbrev main_while0c_v115 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_c_3 : Ref sig .tc := ⟨.hbm, 77, rfl⟩
abbrev main_while0b_call2_v0 : Ref sig .tc := ⟨.hbm, 78, rfl⟩
abbrev main_while0b_v115 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_v0 : Ref sig .tc := ⟨.hbm, 83, rfl⟩
abbrev main_while0b_v116 : Ref sig .tc := ⟨.hbm, 84, rfl⟩
abbrev main_while0b_v117 : Ref sig .tc := ⟨.hbm, 85, rfl⟩
abbrev main_while0b_v118 : Ref sig .tc := ⟨.hbm, 86, rfl⟩
abbrev main_while0b_v119 : Ref sig .tc := ⟨.hbm, 87, rfl⟩
abbrev main_while0b_v120 : Ref sig .tc := ⟨.hbm, 88, rfl⟩
abbrev main_while0b_call4_v0 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_call4_c_2 : Ref sig .tc := ⟨.hbm, 93, rfl⟩
abbrev main_while0b_call4_c_3 : Ref sig .tc := ⟨.hbm, 94, rfl⟩
abbrev main_while0b_v121 : Ref sig .tc := ⟨.hbm, 95, rfl⟩
abbrev main_while0b_c_10 : Ref sig .tc := ⟨.hbm, 96, rfl⟩
abbrev main_while0b_v122 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_call5_cst : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_v6 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_call6_call0_cst : Ref sig .tc := ⟨.hbm, 134, rfl⟩
abbrev main_call6_call0_v0 : Ref sig .tc := ⟨.hbm, 135, rfl⟩
abbrev main_v63 : Ref sig .tc := ⟨.hbm, 136, rfl⟩
abbrev main_c_1 : Ref sig .tc := ⟨.hbm, 137, rfl⟩
abbrev main_v64 : Ref sig .tc := ⟨.hbm, 138, rfl⟩
abbrev main_call7_v0 : Ref sig .tc := ⟨.hbm, 139, rfl⟩
abbrev main_call7_c : Ref sig .tc := ⟨.hbm, 140, rfl⟩
abbrev main_call7_v1 : Ref sig .tc := ⟨.hbm, 141, rfl⟩
abbrev main_call7_v2 : Ref sig .tc := ⟨.hbm, 142, rfl⟩
abbrev main_call7_v3 : Ref sig .tc := ⟨.hbm, 143, rfl⟩
abbrev main_call7_v4 : Ref sig .tc := ⟨.hbm, 144, rfl⟩
abbrev main_call7_c_0 : Ref sig .tc := ⟨.hbm, 145, rfl⟩
abbrev main_call7_v5 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_cst_2 : Ref sig .tc := ⟨.hbm, 153, rfl⟩
abbrev main_call8_v0 : Ref sig .tc := ⟨.hbm, 154, rfl⟩
abbrev main_call8_v1 : Ref sig .tc := ⟨.hbm, 155, rfl⟩
abbrev main_call8_v2 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_call9_v0 : Ref sig .tc := ⟨.hbm, 181, rfl⟩
abbrev main_call9_v1 : Ref sig .tc := ⟨.hbm, 182, rfl⟩
abbrev main_call9_cst : Ref sig .tc := ⟨.hbm, 183, rfl⟩
abbrev main_call9_v2 : Ref sig .tc := ⟨.hbm, 184, rfl⟩
abbrev main_call9_v3 : Ref sig .tc := ⟨.hbm, 185, rfl⟩
abbrev main_call9_cst_0 : Ref sig .tc := ⟨.hbm, 186, rfl⟩
abbrev main_call9_v4 : Ref sig .tc := ⟨.hbm, 187, rfl⟩
abbrev main_call9_v5 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_cst_3 : Ref sig .tc := ⟨.hbm, 193, rfl⟩
abbrev main_v99 : Ref sig .tc := ⟨.hbm, 194, rfl⟩
abbrev main_v100 : Ref sig .tc := ⟨.hbm, 195, rfl⟩
abbrev main_cst_4 : Ref sig .tc := ⟨.hbm, 196, rfl⟩
abbrev main_v101 : Ref sig .tc := ⟨.hbm, 197, rfl⟩
abbrev main_v102 : Ref sig .tc := ⟨.hbm, 198, rfl⟩
abbrev main_cst_5 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S8x512x128 : Shape := ⟨3, ![8, 512, 128]⟩
abbrev S16x5632 : Shape := ⟨2, ![16, 5632]⟩
abbrev S512x2816 : Shape := ⟨2, ![512, 2816]⟩
abbrev S512 : Shape := ⟨1, ![512]⟩
abbrev S512x1 : Shape := ⟨2, ![512, 1]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S1024x256 : Shape := ⟨2, ![1024, 256]⟩
abbrev S512x256 : Shape := ⟨2, ![512, 256]⟩
abbrev S1x256 : Shape := ⟨2, ![1, 256]⟩
abbrev S16x256 : Shape := ⟨2, ![16, 256]⟩
abbrev S8x256 : Shape := ⟨2, ![8, 256]⟩
abbrev S32x256 : Shape := ⟨2, ![32, 256]⟩
abbrev S24x256 : Shape := ⟨2, ![24, 256]⟩

abbrev nBuf : Space → Nat
  | .hbm => 16
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S2816x1024, .f32⟩
  | .hbm, ⟨7, _⟩ => ⟨S1024, .f32⟩
  | .hbm, ⟨8, _⟩ => ⟨S32768x1024, .f32⟩
  | .hbm, ⟨9, _⟩ => ⟨S32768x1024, .bf16⟩
  | .hbm, ⟨10, _⟩ => ⟨S1024x1024, .bf16⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x512x128, .f32⟩
  | .local _ .vmem, ⟨13, _⟩ => ⟨S16x5632, .f32⟩
  | .local _ .vmem, ⟨14, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S5632 : Shape := ⟨1, ![5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S2816x1024, .f32⟩
  | .hbm, ⟨7, _⟩ => ⟨S1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x5632, .f32⟩
  | .hbm, ⟨28, _⟩ => ⟨S_, .i32⟩
  | .hbm, ⟨29, _⟩ => ⟨S_, .f32⟩
  | .hbm, ⟨30, _⟩ => ⟨S8x4098x5632, .f32⟩
  | .hbm, ⟨31, _⟩ => ⟨S1x5632, .f32⟩
  | .hbm, ⟨32, _⟩ => ⟨S5632, .f32⟩
  | .hbm, ⟨33, _⟩ => ⟨S8x4096x5632, .f32⟩
  | .hbm, ⟨34, _⟩ => ⟨S1x1x5632, .f32⟩
  | .hbm, ⟨35, _⟩ => ⟨S8x4096x5632, .f32⟩
  | .hbm, ⟨36, _⟩ => ⟨S8x4096x5632, .f32⟩
  | .hbm, ⟨37, _⟩ => ⟨S1x5632, .f32⟩
  | .hbm, ⟨38, _⟩ => ⟨S5632, .f32⟩
  | .hbm, ⟨39, _⟩ => ⟨S8x4096x5632, .f32⟩
  | .hbm, ⟨40, _⟩ => ⟨S1x1x5632, .f32⟩
  | .hbm, ⟨41, _⟩ => ⟨S8x4096x5632, .f32⟩
  | .hbm, ⟨42, _⟩ => ⟨S8x4096x5632, .f32⟩
  | .hbm, ⟨43, _⟩ => ⟨S8x4096x5632, .f32⟩
  | .hbm, ⟨44, _⟩ => ⟨S1x5632, .f32⟩
  | .hbm, ⟨45, _⟩ => ⟨S5632, .f32⟩
  | .hbm, ⟨46, _⟩ => ⟨S8x4096x5632, .f32⟩
  | .hbm, ⟨47, _⟩ => ⟨S1x1x5632, .f32⟩
  | .hbm, ⟨48, _⟩ => ⟨S8x4096x5632, .f32⟩
  | .hbm, ⟨49, _⟩ => ⟨S8x4096x5632, .f32⟩
  | .hbm, ⟨50, _⟩ => ⟨S8x4096x5632, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S_, .f32⟩
  | .hbm, ⟨56, _⟩ => ⟨S8x4096x2816, .f32⟩
  | .hbm, ⟨57, _⟩ => ⟨S8x4096x2816, .f32⟩
  | .hbm, ⟨58, _⟩ => ⟨S_, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_2 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S8x512x128 : Shape := ⟨3, ![8, 512, 128]⟩
abbrev S16x5632 : Shape := ⟨2, ![16, 5632]⟩
abbrev S512x2816 : Shape := ⟨2, ![512, 2816]⟩
abbrev S512 : Shape := ⟨1, ![512]⟩
abbrev S512x1 : Shape := ⟨2, ![512, 1]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S1024x256 : Shape := ⟨2, ![1024, 256]⟩
abbrev S512x256 : Shape := ⟨2, ![512, 256]⟩
abbrev S1x256 : Shape := ⟨2, ![1, 256]⟩
abbrev S16x256 : Shape := ⟨2, ![16, 256]⟩
abbrev S8x256 : Shape := ⟨2, ![8, 256]⟩
abbrev S32x256 : Shape := ⟨2, ![32, 256]⟩
abbrev S24x256 : Shape := ⟨2, ![24, 256]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x512x128, .f32⟩
  | .local _ .vmem, ⟨10, _⟩ => ⟨S16x5632, .f32⟩
  | .local _ .vmem, ⟨11, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
variable {F : FTy → Type} [FloatOps F] [Named F]
def κ : String → Option EReal := fun
  | "neg_log2e" => some ((-((Real.log 2)⁻¹) : ℝ) : EReal)
  | _ => none
-- ==== Reference3Ideal.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S5632 : Shape := ⟨1, ![5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x5632, .f32⟩
  | .hbm, ⟨23, _⟩ => ⟨S_, .i32⟩
  | .hbm, ⟨24, _⟩ => ⟨S_, .f32⟩
  | .hbm, ⟨25, _⟩ => ⟨S8x4098x5632, .f32⟩
  | .hbm, ⟨26, _⟩ => ⟨S1x5632, .f32⟩
  | .hbm, ⟨27, _⟩ => ⟨S5632, .f32⟩
  | .hbm, ⟨28, _⟩ => ⟨S8x4096x5632, .f32⟩
  | .hbm, ⟨29, _⟩ => ⟨S1x1x5632, .f32⟩
  | .hbm, ⟨30, _⟩ => ⟨S8x4096x5632, .f32⟩
  | .hbm, ⟨31, _⟩ => ⟨S8x4096x5632, .f32⟩
  | .hbm, ⟨32, _⟩ => ⟨S1x5632, .f32⟩
  | .hbm, ⟨33, _⟩ => ⟨S5632, .f32⟩
  | .hbm, ⟨34, _⟩ => ⟨S8x4096x5632, .f32⟩
  | .hbm, ⟨35, _⟩ => ⟨S1x1x5632, .f32⟩
  | .hbm, ⟨36, _⟩ => ⟨S8x4096x5632, .f32⟩
  | .hbm, ⟨37, _⟩ => ⟨S8x4096x5632, .f32⟩
  | .hbm, ⟨38, _⟩ => ⟨S8x4096x5632, .f32⟩
  | .hbm, ⟨39, _⟩ => ⟨S1x5632, .f32⟩
  | .hbm, ⟨40, _⟩ => ⟨S5632, .f32⟩
  | .hbm, ⟨41, _⟩ => ⟨S8x4096x5632, .f32⟩
  | .hbm, ⟨42, _⟩ => ⟨S1x1x5632, .f32⟩
  | .hbm, ⟨43, _⟩ => ⟨S8x4096x5632, .f32⟩
  | .hbm, ⟨44, _⟩ => ⟨S8x4096x5632, .f32⟩
  | .hbm, ⟨45, _⟩ => ⟨S8x4096x5632, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S8x4096x1024, .f32⟩
  | .hbm, ⟨59, _⟩ => ⟨S8x4096x1024, .f32⟩
  | .hbm, ⟨60, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x6176 : Shape := ⟨2, ![1024, 6176]⟩
abbrev S4x4096 : Shape := ⟨2, ![4, 4096]⟩
abbrev S4096 : Shape := ⟨1, ![4096]⟩
abbrev S32768x1024 : Shape := ⟨2, ![32768, 1024]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S3072x128 : Shape := ⟨2, ![3072, 128]⟩
abbrev S1x1024 : Shape := ⟨2, ![1, 1024]⟩
abbrev S1x4096 : Shape := ⟨2, ![1, 4096]⟩
abbrev S32768x2048 : Shape := ⟨2, ![32768, 2048]⟩
abbrev S32768x4096 : Shape := ⟨2, ![32768, 4096]⟩
abbrev S32768x128 : Shape := ⟨2, ![32768, 128]⟩
abbrev S512x1024 : Shape := ⟨2, ![512, 1024]⟩
abbrev S512x2048 : Shape := ⟨2, ![512, 2048]⟩
abbrev S512x4096 : Shape := ⟨2, ![512, 4096]⟩
abbrev S512x128 : Shape := ⟨2, ![512, 128]⟩
abbrev S8x512x128 : Shape := ⟨3, ![8, 512, 128]⟩
abbrev S2x4x512x128 : Shape := ⟨4, ![2, 4, 512, 128]⟩
abbrev S24x4096 : Shape := ⟨2, ![24, 4096]⟩
abbrev S512 : Shape := ⟨1, ![512]⟩
abbrev S512x1 : Shape := ⟨2, ![512, 1]⟩
abbrev S64x128 : Shape := ⟨2, ![64, 128]⟩
abbrev S1x64x128 : Shape := ⟨3, ![1, 64, 128]⟩
abbrev S1x512x128 : Shape := ⟨3, ![1, 512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1x512 : Shape := ⟨2, ![1, 512]⟩
abbrev S24x512 : Shape := ⟨2, ![24, 512]⟩
abbrev S8x512 : Shape := ⟨2, ![8, 512]⟩
abbrev S32x512 : Shape := ⟨2, ![32, 512]⟩
abbrev S16x512 : Shape := ⟨2, ![16, 512]⟩
abbrev S32x128 : Shape := ⟨2, ![32, 128]⟩
abbrev S1x4x512x128 : Shape := ⟨4, ![1, 4, 512, 128]⟩
abbrev S4x512x128 : Shape := ⟨3, ![4, 512, 128]⟩
abbrev S1x32x128 : Shape := ⟨3, ![1, 32, 128]⟩
abbrev S512x3072 : Shape := ⟨2, ![512, 3072]⟩

abbrev nBuf : Space → Nat
  | .hbm => 24
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6176, .f32⟩
  | .hbm, ⟨3, _⟩ => ⟨S4x4096, .f32⟩
  | .hbm, ⟨4, _⟩ => ⟨S4096, .f32⟩
  | .hbm, ⟨5, _⟩ => ⟨S32768x1024, .f32⟩
  | .hbm, ⟨6, _⟩ => ⟨S1024x2048, .f32⟩
  | .hbm, ⟨7, _⟩ => ⟨S1024x2048, .bf16⟩
  | .hbm, ⟨8, _⟩ => ⟨S1024x4096, .f32⟩
  | .hbm, ⟨9, _⟩ => ⟨S1024x4096, .bf16⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S3072x128, .bf16⟩
  | .hbm, ⟨19, _⟩ => ⟨S1x1024, .f32⟩
  | .hbm, ⟨20, _⟩ => ⟨S1x4096, .f32⟩
  | .hbm, ⟨21, _⟩ => ⟨S32768x2048, .bf16⟩
  | .hbm, ⟨22, _⟩ => ⟨S32768x4096, .bf16⟩
  | .hbm, ⟨23, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x4096, .bf16⟩
  | .local _ .vmem, ⟨5, _⟩ => ⟨S3072x128, .bf16⟩
  | .local _ .vmem, ⟨6, _⟩ => ⟨S4x4096, .f32⟩
  | .local _ .vmem, ⟨7, _⟩ => ⟨S1x4096, .f32⟩
  | .local _ .vmem, ⟨8, _⟩ => ⟨S512x2048, .bf16⟩
  | .local _ .vmem, ⟨9, _⟩ => ⟨S512x2048, .bf16⟩
  | .local _ .vmem, ⟨10, _⟩ => ⟨S512x4096, .bf16⟩
  | .local _ .vmem, ⟨11, _⟩ => ⟨S512x4096, .bf16⟩
  | .local _ .vmem, ⟨12, _⟩ => ⟨S512x128, .f32⟩
  | .local _ .vmem, ⟨13, _⟩ => ⟨S512x128, .f32⟩
  | .local _ .vmem, ⟨14, _⟩ => ⟨S8x512x128, .f32⟩
  | .local _ .vmem, ⟨15, _⟩ => ⟨S2x4x512x128, .f32⟩
  | .local _ .vmem, ⟨16, _⟩ => ⟨S24x4096, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x4096x1024 : Shape := ⟨3, ![8, 4096, 1024]⟩
abbrev S1024 : Shape := ⟨1, ![1024]⟩
abbrev S1024x6176 : Shape := ⟨2, ![1024, 6176]⟩
abbrev S4x4096 : Shape := ⟨2, ![4, 4096]⟩
abbrev S4096 : Shape := ⟨1, ![4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6176 : Shape := ⟨3, ![8, 4096, 6176]⟩
abbrev S8x4096x2048 : Shape := ⟨3, ![8, 4096, 2048]⟩
abbrev S8x4096x4096 : Shape := ⟨3, ![8, 4096, 4096]⟩
abbrev S8x4099x4096 : Shape := ⟨3, ![8, 4099, 4096]⟩
abbrev S1x4096 : Shape := ⟨2, ![1, 4096]⟩
abbrev S1x1x4096 : Shape := ⟨3, ![1, 1, 4096]⟩
abbrev S8x4096x32 : Shape := ⟨3, ![8, 4096, 32]⟩
abbrev S8x4096x128 : Shape := ⟨3, ![8, 4096, 128]⟩
abbrev S32768x2048 : Shape := ⟨2, ![32768, 2048]⟩
abbrev S32768x4096 : Shape := ⟨2, ![32768, 4096]⟩
abbrev S32768x128 : Shape := ⟨2, ![32768, 128]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6176, .f32⟩
  | .hbm, ⟨3, _⟩ => ⟨S4x4096, .f32⟩
  | .hbm, ⟨4, _⟩ => ⟨S4096, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x6176, .f32⟩
  | .hbm, ⟨22, _⟩ => ⟨S8x4096x2048, .f32⟩
  | .hbm, ⟨23, _⟩ => ⟨S8x4096x4096, .f32⟩
  | .hbm, ⟨24, _⟩ => ⟨S_, .i32⟩
  | .hbm, ⟨25, _⟩ => ⟨S_, .f32⟩
  | .hbm, ⟨26, _⟩ => ⟨S8x4099x4096, .f32⟩
  | .hbm, ⟨27, _⟩ => ⟨S1x4096, .f32⟩
  | .hbm, ⟨28, _⟩ => ⟨S4096, .f32⟩
  | .hbm, ⟨29, _⟩ => ⟨S8x4096x4096, .f32⟩
  | .hbm, ⟨30, _⟩ => ⟨S1x1x4096, .f32⟩
  | .hbm, ⟨31, _⟩ => ⟨S8x4096x4096, .f32⟩
  | .hbm, ⟨32, _⟩ => ⟨S8x4096x4096, .f32⟩
  | .hbm, ⟨33, _⟩ => ⟨S1x4096, .f32⟩
  | .hbm, ⟨34, _⟩ => ⟨S4096, .f32⟩
  | .hbm, ⟨35, _⟩ => ⟨S8x4096x4096, .f32⟩
  | .hbm, ⟨36, _⟩ => ⟨S1x1x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S1x4096, .f32⟩
  | .hbm, ⟨41, _⟩ => ⟨S4096, .f32⟩
  | .hbm, ⟨42, _⟩ => ⟨S8x4096x4096, .f32⟩
  | .hbm, ⟨43, _⟩ => ⟨S1x1x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S1x4096, .f32⟩
  | .hbm, ⟨48, _⟩ => ⟨S4096, .f32⟩
  | .hbm, ⟨49, _⟩ => ⟨S8x4096x4096, .f32⟩
  | .hbm, ⟨50, _⟩ => ⟨S1x1x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S1x1x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x32, .f32⟩
  | .hbm, ⟨67, _⟩ => ⟨S_, .i32⟩
  | .hbm, ⟨68, _⟩ => ⟨S_, .f32⟩
  | .hbm, ⟨69, _⟩ => ⟨S8x4096x128, .f32⟩
  | .hbm, ⟨70, _⟩ => ⟨S32768x2048, .f32⟩
  | .hbm, ⟨71, _⟩ => ⟨S32768x2048, .bf16⟩
  | .hbm, ⟨72, _⟩ => ⟨S32768x4096, .f32⟩
  | .hbm, ⟨73, _⟩ => ⟨S32768x4096, .bf16⟩
  | .hbm, ⟨74, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v47 : Ref sig .tc := ⟨.hbm, 65, rfl⟩
abbrev main_v48 : Ref sig .tc := ⟨.hbm, 66, rfl⟩
abbrev main_c_2 : Ref sig .tc := ⟨.hbm, 67, rfl⟩
abbrev main_call2_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Spec.lean ====
/- The state-space recurrence as numbers: what the kernel and the reference both compute, position by position. A batch's
   4096 positions are 32 chunks of 128; the 2048 channels are 32 heads of 64 and 8 groups of 256. -/
module

public import Idealize.ShloMosaic.Lib.Pointwise

@[expose] public section

noncomputable section

namespace Cert.Ssd

open Idealize.ShloMosaic

/-- The arguments, by coordinates. -/
structure Inp where
  xbc : Fin 8 → Fin 4096 → Fin 4096 → EReal
  z : Fin 8 → Fin 4096 → Fin 2048 → EReal
  dt : Fin 8 → Fin 4096 → Fin 32 → EReal
  x : Fin 8 → Fin 4096 → Fin 1024 → EReal
  bias : Fin 32 → EReal
  alog : Fin 32 → EReal
  skip : Fin 32 → EReal
  nw : Fin 2048 → EReal
  wout : Fin 2048 → Fin 1024 → EReal

/-- Position `l` of chunk `c`. -/
def pos (c : Fin 32) (l : Fin 128) : Fin 4096 := ⟨c.val * 128 + l.val, by omega⟩
/-- The head of a channel. -/
def head (ch : Fin 2048) : Fin 32 := ⟨ch.val / 64, by omega⟩
/-- The group of a channel. -/
def grp (ch : Fin 2048) : Fin 8 := ⟨ch.val / 256, by omega⟩
/-- Channel `k` of group `g`. -/
def chan (g : Fin 8) (k : Fin 256) : Fin 2048 := ⟨256 * g.val + k.val, by omega⟩

variable (I : Inp) (b : Fin 8) (c : Fin 32)

/-- The three parts of the xBC array. -/
def xv (l : Fin 128) (ch : Fin 2048) : EReal := I.xbc b (pos c l) ⟨ch.val, by omega⟩
def bv (l : Fin 128) (g : Fin 8) (n : Fin 128) : EReal := I.xbc b (pos c l) ⟨2048 + (128 * g.val + n.val), by omega⟩
def cv (l : Fin 128) (g : Fin 8) (n : Fin 128) : EReal := I.xbc b (pos c l) ⟨3072 + (128 * g.val + n.val), by omega⟩

/-- `log (1 + exp u)`, without overflow. -/
def softplus (u : EReal) : EReal :=
  max u 0 + Ideal.log1p (Ideal.exp (-(FloatOps.absf (F := Ideal) (φ := .f32) u)))

/-- The time step of a position and a head. -/
def stepv (l : Fin 128) (h : Fin 32) : EReal := softplus (I.dt b (pos c l) h + I.bias h)
/-- The log decay of one position. -/
def decv (l : Fin 128) (h : Fin 32) : EReal := stepv I b c l h * (-(Ideal.exp (I.alog h)))
/-- The log decay from the chunk's start to a position. -/
def cumv (l : Fin 128) (h : Fin 32) : EReal := ∑ s : Fin 128, if s ≤ l then decv I b c s h else 0

/-- What the chunk adds to the state by its end. -/
def inflow (ch : Fin 2048) (n : Fin 128) : EReal :=
  ∑ l : Fin 128, Ideal.exp (cumv I b c 127 (head ch) - cumv I b c l (head ch)) * (xv I b c l ch * stepv I b c l (head ch)) *
    bv I b c l (grp ch) n

/-- The state before chunk `k`. -/
def state : Nat → Fin 2048 → Fin 128 → EReal
  | 0, _, _ => 0
  | k + 1, ch, n => state k ch n * Ideal.exp (cumv I b (Fin.ofNat 32 k) 127 (head ch)) + inflow I b (Fin.ofNat 32 k) ch n

/-- The product of two positions' B and C parts times the decay between them; nothing from a later position. -/
def scorev (l s : Fin 128) (g : Fin 8) (h : Fin 32) : EReal :=
  (∑ n : Fin 128, cv I b c l g n * bv I b c s g n) *
    Ideal.exp (if s ≤ l then cumv I b c l h - cumv I b c s h else ⊥)

/-- The output of the recurrence with the skip. -/
def mixv (l : Fin 128) (ch : Fin 2048) : EReal :=
  ((∑ s : Fin 128, (xv I b c s ch * stepv I b c s (head ch)) * scorev I b c l s (grp ch) (head ch)) +
    (∑ n : Fin 128, state I b c.val ch n * cv I b c l (grp ch) n) * Ideal.exp (cumv I b c l (head ch))) +
  xv I b c l ch * I.skip (head ch)

/-- The output times `z · sigmoid z`. -/
def gatev (l : Fin 128) (ch : Fin 2048) : EReal :=
  mixv I b c l ch * (I.z b (pos c l) ch * Ideal.div 1 (1 + Ideal.exp (-(I.z b (pos c l) ch))))

/-- That over its root mean square in the group, times the norm's weight. -/
def normv (l : Fin 128) (ch : Fin 2048) : EReal :=
  gatev I b c l ch *
    Ideal.rsqrt (Ideal.div (∑ k : Fin 256, gatev I b c l (chan (grp ch) k) * gatev I b c l (chan (grp ch) k))
      (Ideal.ofBits .f32 0x43800000#32) + Ideal.ofBits .f32 0x3727C5AC#32) * I.nw ch

/-- The residual plus the output projection. -/
def outv (l : Fin 128) (q : Fin 1024) : EReal :=
  I.x b (pos c l) q + ∑ ch : Fin 2048, normv I b c l ch * I.wout ch q

/-! ## Real values -/

/-- The value is a real number. -/
def IsReal (v : EReal) : Prop := ∃ r : ℝ, v = (r : EReal)

theorem isReal_of_bounds {v : EReal} (h : v < ⊤) (h' : ⊥ < v) : IsReal v :=
  ⟨v.toReal, (EReal.coe_toReal h.ne h'.ne').symm⟩

theorem IsReal.add {v w : EReal} (hv : IsReal v) (hw : IsReal w) : IsReal (v + w) := by
  obtain ⟨r, rfl⟩ := hv; obtain ⟨s, rfl⟩ := hw; exact ⟨r + s, by push_cast; rfl⟩
theorem IsReal.sub {v w : EReal} (hv : IsReal v) (hw : IsReal w) : IsReal (v - w) := by
  obtain ⟨r, rfl⟩ := hv; obtain ⟨s, rfl⟩ := hw; exact ⟨r - s, by push_cast; rfl⟩
theorem IsReal.mul {v w : EReal} (hv : IsReal v) (hw : IsReal w) : IsReal (v * w) := by
  obtain ⟨r, rfl⟩ := hv; obtain ⟨s, rfl⟩ := hw; exact ⟨r * s, by push_cast; rfl⟩
theorem IsReal.neg {v : EReal} (hv : IsReal v) : IsReal (-v) := by
  obtain ⟨r, rfl⟩ := hv; exact ⟨-r, by push_cast; rfl⟩
theorem IsReal.exp {v : EReal} (hv : IsReal v) : IsReal (Ideal.exp v) := by
  obtain ⟨r, rfl⟩ := hv; exact ⟨Real.exp r, rfl⟩
theorem isReal_zero : IsReal 0 := ⟨0, rfl⟩
theorem IsReal.max {v w : EReal} (hv : IsReal v) (hw : IsReal w) : IsReal (max v w) := by
  rcases max_choice v w with h | h <;> rw [h] <;> assumption
theorem isReal_sum {n : Nat} (f : Fin n → EReal) (h : ∀ i, IsReal (f i)) : IsReal (∑ i, f i) := by
  classical
  refine Finset.sum_induction f IsReal (fun _ _ => IsReal.add) isReal_zero (fun i _ => h i)

/-- A real number less itself is zero. -/
theorem IsReal.sub_self {v : EReal} (hv : IsReal v) : v - v = 0 := by
  obtain ⟨r, rfl⟩ := hv
  rw [← EReal.coe_sub, _root_.sub_self]; rfl

/-- The absolute value of a real number is one. -/
theorem absf_real (r : ℝ) : FloatOps.absf (F := Ideal) (φ := .f32) (r : EReal) = ((|r| : ℝ) : EReal) := by
  show max (r : EReal) (-(r : EReal)) = _
  rw [← EReal.coe_neg, ← EReal.coe_strictMono.monotone.map_max, abs_eq_max_neg]

theorem softplus_real (r : ℝ) : softplus (r : EReal) = ((max r 0 + Real.log (1 + Real.exp (-|r|)) : ℝ) : EReal) := by
  have hp : (0 : ℝ) < Real.exp (-|r|) := Real.exp_pos _
  unfold softplus
  rw [absf_real, ← EReal.coe_neg]
  show max (r : EReal) 0 + Ideal.log (1 + ((Real.exp (-|r|) : ℝ) : EReal)) = _
  rw [← EReal.coe_one, ← EReal.coe_add]
  show max (r : EReal) 0 + (if 1 + Real.exp (-|r|) ≤ 0 then ⊥ else ((Real.log (1 + Real.exp (-|r|)) : ℝ) : EReal)) = _
  rw [if_neg (by linarith), ← EReal.coe_zero, ← EReal.coe_strictMono.monotone.map_max, ← EReal.coe_add]

/-- The kernel's `log (1 + e)`, which divides the rounding of `1 + e` out again, is `log (1 + e)`: nothing is rounded. -/
theorem log1p_divided (r : ℝ) :
    (if 1 + Ideal.exp (0 - FloatOps.absf (F := Ideal) (φ := .f32) (r : EReal)) = 1 then
        Ideal.exp (0 - FloatOps.absf (F := Ideal) (φ := .f32) (r : EReal))
      else
        Ideal.log (1 + Ideal.exp (0 - FloatOps.absf (F := Ideal) (φ := .f32) (r : EReal))) *
          Ideal.div (Ideal.exp (0 - FloatOps.absf (F := Ideal) (φ := .f32) (r : EReal)))
            (1 + Ideal.exp (0 - FloatOps.absf (F := Ideal) (φ := .f32) (r : EReal)) - 1)) =
      Ideal.log1p (Ideal.exp (-(FloatOps.absf (F := Ideal) (φ := .f32) (r : EReal)))) := by
  have hp : (0 : ℝ) < Real.exp (-|r|) := Real.exp_pos _
  rw [absf_real, zero_sub, ← EReal.coe_neg]
  have he : Ideal.exp ((-|r| : ℝ) : EReal) = ((Real.exp (-|r|) : ℝ) : EReal) := rfl
  rw [he, ← EReal.coe_one, ← EReal.coe_add, ← EReal.coe_sub]
  rw [if_neg (by rw [EReal.coe_eq_coe_iff]; linarith)]
  have h1 : (1 + Real.exp (-|r|) - 1 : ℝ) = Real.exp (-|r|) := by ring
  rw [h1]
  have hd : Ideal.div ((Real.exp (-|r|) : ℝ) : EReal) ((Real.exp (-|r|) : ℝ) : EReal) = 1 := by
    unfold Ideal.div
    rw [if_neg (by rw [← EReal.coe_zero, EReal.coe_eq_coe_iff]; exact hp.ne'), ← EReal.coe_inv, ← EReal.coe_mul,
      mul_inv_cancel₀ hp.ne', EReal.coe_one]
  rw [hd, mul_one]
  unfold Ideal.log1p
  rw [EReal.coe_add, EReal.coe_one]

/-- The bit pattern of one half. -/
theorem ofBits_half : Ideal.ofBits .f32 0x3F000000#32 = ((1 / 2 : ℝ) : EReal) := by
  simp [Ideal.ofBits, Ideal.ieee, -EReal.coe_mul]; norm_num

/-- `z · sigmoid z` written with half the argument and a hyperbolic tangent. -/
theorem half_gate (r : ℝ) :
    Ideal.ofBits .f32 0x3F000000#32 * (r : EReal) +
        Ideal.ofBits .f32 0x3F000000#32 * (r : EReal) * Ideal.tanh (Ideal.ofBits .f32 0x3F000000#32 * (r : EReal)) =
      (r : EReal) * Ideal.div 1 (1 + Ideal.exp (-(r : EReal))) := by
  have hE : (0 : ℝ) < Real.exp (r / 2) := Real.exp_pos _
  have hp : (0 : ℝ) < 1 + Real.exp (-r) := by positivity
  rw [ofBits_half, ← EReal.coe_mul, ← EReal.coe_neg]
  have he : Ideal.exp ((-r : ℝ) : EReal) = ((Real.exp (-r) : ℝ) : EReal) := rfl
  have ht : Ideal.tanh ((1 / 2 * r : ℝ) : EReal) = ((Real.tanh (1 / 2 * r) : ℝ) : EReal) := rfl
  rw [he, ht, ← EReal.coe_mul, ← EReal.coe_add, ← EReal.coe_one, ← EReal.coe_add]
  unfold Ideal.div
  rw [if_neg (by rw [← EReal.coe_zero, EReal.coe_eq_coe_iff]; exact hp.ne'), ← EReal.coe_inv, ← EReal.coe_mul, ← EReal.coe_mul,
    EReal.coe_eq_coe_iff]
  have h1 : Real.exp (-r) = (Real.exp (r / 2))⁻¹ * (Real.exp (r / 2))⁻¹ := by
    rw [← Real.exp_neg, ← Real.exp_add]; congr 1; ring
  have h2 : Real.tanh (1 / 2 * r) = (Real.exp (r / 2) - (Real.exp (r / 2))⁻¹) / (Real.exp (r / 2) + (Real.exp (r / 2))⁻¹) := by
    rw [show 1 / 2 * r = r / 2 by ring, Real.tanh_eq_sinh_div_cosh, Real.sinh_eq, Real.cosh_eq, Real.exp_neg]
    field_simp
  rw [h1, h2]
  field_simp
  ring

end Cert.Ssd
-- ==== Proof.Host.lean ====
/- The arrays the region finds, read at an index: reshapes, paddings, the skip's repetition and the 0/1 matrix of heads and
   channels are read down to the arguments. -/
module

public import proofs.«01_k».proof.Proof.Gen.KernelIdeal.Value
public import proofs.«01_k».proof.Proof.Spec
public import Idealize.ShloMosaic.Lib.StableHlo.ReadAt

@[expose] public section

set_option maxRecDepth 16384

noncomputable section

namespace Cert.KernelIdeal.Host

open Idealize.ShloMosaic Idealize.ShloMosaic.TcCoe Cert.KernelIdeal Cert.KernelIdeal.Gen Cert.Ssd

variable (m : (ℓ : Loc nD τ sig) → Buf (Elt Ideal) ℓ) (d : Dev nD)

/-- The arguments by coordinates. -/
def inp : Inp where
  xbc b s ch := m (d.tc.loc main_arg0) (ix3 b s ch)
  z b s ch := m (d.tc.loc main_arg1) (ix3 b s ch)
  dt b s h := m (d.tc.loc main_arg2) (ix3 b s h)
  x b s q := m (d.tc.loc main_arg3) (ix3 b s q)
  bias h := m (d.tc.loc main_arg4) (ix1 h)
  alog h := m (d.tc.loc main_arg5) (ix1 h)
  skip h := m (d.tc.loc main_arg6) (ix1 h)
  nw ch := m (d.tc.loc main_arg7) (ix1 ch)
  wout ch q := m (d.tc.loc main_arg8) (ix2 ch q)

theorem v1_at (r : Fin 32768) (ch : Fin 4096) : V m d main_v1 (ix2 r ch) = (inp m d).xbc ⟨r.val / 4096, by omega⟩ ⟨r.val % 4096, by omega⟩ ch := by
  unfold V inp
  after_reads_at
theorem v2_at (r : Fin 32768) (ch : Fin 2048) : V m d main_v2 (ix2 r ch) = (inp m d).z ⟨r.val / 4096, by omega⟩ ⟨r.val % 4096, by omega⟩ ch := by
  unfold V inp
  after_reads_at
theorem v0_at (r : Fin 32768) (ch : Fin 1024) : V m d main_v0 (ix2 r ch) = (inp m d).x ⟨r.val / 4096, by omega⟩ ⟨r.val % 4096, by omega⟩ ch := by
  unfold V inp
  after_reads_at
theorem v4_at (r : Fin 32768) (h : Fin 32) : V m d main_v4 (ix2 r (⟨h.val, by omega⟩ : Fin 128)) = (inp m d).dt ⟨r.val / 4096, by omega⟩ ⟨r.val % 4096, by omega⟩ h := by
  unfold V inp
  after_reads_at
theorem v6_at (h : Fin 32) : V m d main_v6 (ix2 0 (⟨h.val, by omega⟩ : Fin 128)) = (inp m d).bias h := by
  unfold V inp
  after_reads_at
theorem v8_at (h : Fin 32) : V m d main_v8 (ix2 0 (⟨h.val, by omega⟩ : Fin 128)) = (inp m d).alog h := by
  unfold V inp
  after_reads_at
theorem v11_at (ch : Fin 2048) : V m d main_v11 (ix2 0 ch) = (inp m d).skip (head ch) := by
  unfold V inp
  after_reads_at
  rfl
theorem v12_at (ch : Fin 2048) : V m d main_v12 (ix2 0 ch) = (inp m d).nw ch := by
  unfold V inp
  after_reads_at
/-- A channel's number divided by the head's width, rounded down, on words. -/
theorem floor_word : ∀ ch : Fin 2048,
    Scalar.select
      (IntOp.andi
        (IntOp.cmpi CmpIPredicate.ne
          (if BitVec.ofNat 32 ch.val = 0 then (0 : BitVec 32) else if (BitVec.ofNat 32 ch.val).msb = true then -1 else 1)
          (if id (constantI S_ 32 64#32) ix0 = 0 then (0 : BitVec 32)
          else if BitVec.msb (id (constantI S_ 32 64#32) ix0) = true then -1 else 1))
        (IntOp.cmpi CmpIPredicate.ne
          (IntOp.remsi ArithUnit.host (BitVec.ofNat 32 ch.val) (id (constantI S_ 32 64#32) ix0)) 0#32))
      (IntOp.subi (IntOp.divsi ArithUnit.host (BitVec.ofNat 32 ch.val) (id (constantI S_ 32 64#32) ix0)) 1#32)
      (IntOp.divsi ArithUnit.host (BitVec.ofNat 32 ch.val) (id (constantI S_ 32 64#32) ix0)) =
    BitVec.ofNat 32 (ch.val / 64) := by decide +kernel

/-- Comparing two small numbers' words, as a number. -/
theorem one_hot (x y : Nat) (hx : x < 2 ^ 31) (hy : y < 2 ^ 31) :
    FloatOps.uitofp (F := Ideal) FTy.bf16 (IntOp.cmpi .eq (BitVec.ofNat 32 x) (BitVec.ofNat 32 y)) = if x = y then (1 : EReal) else 0 := by
  have e : IntOp.cmpi .eq (BitVec.ofNat 32 x) (BitVec.ofNat 32 y) = BitVec.ofBool (decide (x = y)) := by
    exact WordCmp.cmpi_eq_ofNat (by omega) (by omega)
  rw [e]
  by_cases h : x = y
  · rw [if_pos h, decide_eq_true h]; show ((((1#1 : BitVec 1).toNat : ℕ) : ℝ) : EReal) = 1; simp
  · rw [if_neg h, decide_eq_false h]; show ((((0#1 : BitVec 1).toNat : ℕ) : ℝ) : EReal) = 0; simp

/-- The 0/1 matrix: a head's lane, in either half, meets the head's channels. -/
theorem v22_at (x : Fin 256) (ch : Fin 2048) : V m d main_v22 (ix2 x ch) = if x.val % 128 = ch.val / 64 then (1 : EReal) else 0 := by
  unfold V
  after_reads_at
  refine (congrArg (fun W => if _h : x.val < 128 then FloatOps.uitofp (F := Ideal) FTy.bf16 (IntOp.cmpi .eq (BitVec.ofNat 32 x.val) W)
    else FloatOps.uitofp (F := Ideal) FTy.bf16 (IntOp.cmpi .eq (BitVec.ofNat 32 (x.val - 128)) W)) (floor_word ch)).trans ?_
  rw [one_hot _ _ (by omega) (by omega), one_hot _ _ (by omega) (by omega)]
  split
  · rw [Nat.mod_eq_of_lt (by omega)]
  · rw [show x.val % 128 = x.val - 128 by omega]
theorem v23_at (ch : Fin 2048) (q : Fin 1024) : V m d main_v23 (ix2 ch q) = (inp m d).wout ch q := by
  unfold V inp
  after_reads_at

end Cert.KernelIdeal.Host
-- ==== Proof.Chunk.lean ====
/- One grid point of the kernel treats two chunks of 128 positions, and each chunk treats eight groups of four heads in
   the same way. This module names what is computed once: the gates of a chunk, the rows spread over the channels, one
   group's outputs and one group's new state — as functions of the blocks loaded, the chunk and the group. The pieces
   the body's run leaves are these functions at each chunk and group (`Pieces.lean`). -/
module

public import proofs.«01_k».proof.Proof.Gen.KernelIdeal.Frame

@[expose] public section

set_option maxRecDepth 16384

noncomputable section

namespace Cert.KernelIdeal.Chunk

open Idealize.ShloMosaic Idealize.ShloMosaic.TcCoe Cert.KernelIdeal Cert.KernelIdeal.Gen

variable {F : FTy → Type} [FloatOps F] [Named F]

/-! ## Rectangles that move with the chunk and the group -/

theorem inb_rows {n w : Nat} (ci : Fin 2) : ∀ a, (![128 * ci.val, 0] : Fin 2 → Nat) a + (![128, w] : Fin 2 → Nat) a ≤ (![256, w] : Fin 2 → Nat) a := by
  intro a; fin_cases a <;> simp; omega

/-- The rows of chunk `ci` in the dt block. -/
def rDt (ci : Fin 2) : Rect S256x128 := Rect.unit ![128 * ci.val, 0] S128x128.size (inb_rows (n := 0) ci)
/-- The rows of chunk `ci` in the residual block. -/
def rX (ci : Fin 2) : Rect S256x1024 := Rect.unit ![128 * ci.val, 0] S128x1024.size (inb_rows (n := 0) ci)
/-- The rows of chunk `ci` in the block of gated outputs. -/
def rY (ci : Fin 2) : Rect S256x2048 := Rect.unit ![128 * ci.val, 0] S128x2048.size (inb_rows (n := 0) ci)

theorem inb_grp (ci : Fin 2) (g : Fin 8) : ∀ a, (![128 * ci.val, 256 * g.val] : Fin 2 → Nat) a + S128x256.size a ≤ S256x2048.size a := by
  intro a; fin_cases a <;> simp [S128x256, S256x2048] <;> omega

/-- The rows of chunk `ci` and the channels of group `g` in a block of 2048 channels. -/
def rYg (ci : Fin 2) (g : Fin 8) : Rect S256x2048 := Rect.unit ![128 * ci.val, 256 * g.val] S128x256.size (inb_grp ci g)

theorem inb_x (ci : Fin 2) (g : Fin 8) : ∀ a, (![128 * ci.val, 256 * g.val] : Fin 2 → Nat) a + S128x256.size a ≤ S256x4096.size a := by
  intro a; fin_cases a <;> simp [S128x256, S256x4096] <;> omega
theorem inb_b (ci : Fin 2) (g : Fin 8) : ∀ a, (![128 * ci.val, 2048 + 128 * g.val] : Fin 2 → Nat) a + S128x128.size a ≤ S256x4096.size a := by
  intro a; fin_cases a <;> simp [S128x128, S256x4096] <;> omega
theorem inb_c (ci : Fin 2) (g : Fin 8) : ∀ a, (![128 * ci.val, 3072 + 128 * g.val] : Fin 2 → Nat) a + S128x128.size a ≤ S256x4096.size a := by
  intro a; fin_cases a <;> simp [S128x128, S256x4096] <;> omega

/-- The x part, the B part and the C part of group `g` in chunk `ci` of the xBC block. -/
def rGx (ci : Fin 2) (g : Fin 8) : Rect S256x4096 := Rect.unit ![128 * ci.val, 256 * g.val] S128x256.size (inb_x ci g)
def rGb (ci : Fin 2) (g : Fin 8) : Rect S256x4096 := Rect.unit ![128 * ci.val, 2048 + 128 * g.val] S128x128.size (inb_b ci g)
def rGc (ci : Fin 2) (g : Fin 8) : Rect S256x4096 := Rect.unit ![128 * ci.val, 3072 + 128 * g.val] S128x128.size (inb_c ci g)

theorem inb_row (g : Fin 8) : ∀ a, (![0, 256 * g.val] : Fin 2 → Nat) a + S1x256.size a ≤ S1x2048.size a := by
  intro a; fin_cases a <;> simp [S1x256, S1x2048]; omega

/-- Group `g` of a row of 2048 channels. -/
def rRow (g : Fin 8) : Rect S1x2048 := Rect.unit ![0, 256 * g.val] S1x256.size (inb_row g)

theorem inb_st (g : Fin 8) : ∀ a, (![g.val, 0, 0] : Fin 3 → Nat) a + S1x128x256.size a ≤ S8x128x256.size a := by
  intro a; fin_cases a <;> simp [S1x128x256, S8x128x256]

/-- The state of group `g`. -/
def rSt (g : Fin 8) : Rect S8x128x256 := Rect.unit ![g.val, 0, 0] S1x128x256.size (inb_st g)

/-! ## The blocks a grid point loads -/

/-- What a grid point loads, by chunk and group. -/
structure Loads (F : FTy → Type) where
  xg : Fin 2 → Fin 8 → Vec F S128x256 .bf16
  bg : Fin 2 → Fin 8 → Vec F S128x128 .bf16
  cg : Fin 2 → Fin 8 → Vec F S128x128 .bf16
  zg : Fin 2 → Fin 8 → Vec F S128x256 .bf16
  dt : Fin 2 → Vec F S128x128 .f32
  res : Fin 2 → Vec F S128x1024 .f32
  bias : Vec F S1x128 .f32
  alog : Vec F S1x128 .f32
  skip : Fin 8 → Vec F S1x256 .f32
  nw : Fin 8 → Vec F S1x256 .f32
  spread : Vec F S256x2048 .bf16
  wout : Vec F S2048x1024 .bf16

/-! ## The gates of a chunk -/

/-- Position `l` sees position `s`: `l ≥ s`. -/
def causal : IVec S128x128 1 :=
  cmpi .sge (iota .tc S128x128 32 [0] iota_S128x128_d0_w32) (iota .tc S128x128 32 [1] iota_S128x128_d1_w32)

/-- The softplus of the time steps plus their bias. -/
def gate (D : Loads F) (ci : Fin 2) : FVec F S128x128 .f32 :=
  have u := addf (shapeCast S128x128 (D.dt ci) shapeCasts_S128x128_S128x128)
    (broadcastTo S128x128 (shapeCast S1x128 D.bias shapeCasts_S1x128_S1x128) broadcasts_S1x128_S128x128)
  have e := exp (subf (broadcast S128x128 (Scalar.ofBits .f32 0x00000000#32)) (absf u))
  have w := addf (broadcast S128x128 (Scalar.ofBits .f32 0x3F800000#32)) e
  addf (maximumf u (broadcast S128x128 (Scalar.ofBits .f32 0x00000000#32)))
    (select (cmpf .oeq w (broadcast S128x128 (Scalar.ofBits .f32 0x3F800000#32))) e
      (mulf (log w) (divf e (subf w (broadcast S128x128 (Scalar.ofBits .f32 0x3F800000#32))))))

/-- The time step times minus the exponential of `a_log`: the log decay of one position. -/
def adt (D : Loads F) (ci : Fin 2) : FVec F S128x128 .f32 :=
  mulf (gate D ci) (broadcastTo S128x128
    (subf (broadcast S1x128 (Scalar.ofBits .f32 0x00000000#32)) (exp (shapeCast S1x128 D.alog shapeCasts_S1x128_S1x128)))
    broadcasts_S1x128_S128x128)

/-- The lower triangle of ones. -/
def tril : FVec F S128x128 .bf16 :=
  truncf .bf16 (select causal (broadcast S128x128 (Scalar.ofBits .f32 0x3F800000#32))
    (broadcast S128x128 (Scalar.ofBits .f32 0x00000000#32))) bitsLt_bf16_f32

/-- The running sum of the log decays along the chunk, as three products with the triangle. -/
def cumA (D : Loads F) (ci : Fin 2) : FVec F S128x128 .f32 :=
  have v := adt D ci
  have hi := truncf .bf16 v bitsLt_bf16_f32
  have r := subf v (extf .f32 hi bitsLt_bf16_f32)
  have mid := truncf .bf16 r bitsLt_bf16_f32
  have lo := truncf .bf16 (subf r (extf .f32 mid bitsLt_bf16_f32)) bitsLt_bf16_f32
  addf (addf
      (matmul dot_S128x128_S128x128_S128x128_1_0_0_1_n_n none tril hi (constant S128x128 .f32 0x00000000#32))
      (matmul dot_S128x128_S128x128_S128x128_1_0_0_1_n_n none tril mid (constant S128x128 .f32 0x00000000#32)))
    (matmul dot_S128x128_S128x128_S128x128_1_0_0_1_n_n none tril lo (constant S128x128 .f32 0x00000000#32))

/-- The last row of the running sum. -/
def cumLast (D : Loads F) (ci : Fin 2) : FVec F S1x128 .f32 :=
  extractStridedSlice S1x128 ![127, 0] (cumA D ci) slices_S128x128_o127_0_S1x128

/-- The running sum with the heads along the rows. -/
def cumT (D : Loads F) (ci : Fin 2) : FVec F S128x128 .f32 :=
  transpose S128x128 [1, 0] (cumA D ci) transposes_S128x128_p1_0_S128x128

/-- Four blocks of rows over the heads: the time steps, the time steps times the decay to the chunk's end, the decay
    from the chunk's start, and the whole chunk's decay. -/
def headRows (D : Loads F) (ci : Fin 2) : FVec F S400x128 .f32 :=
  concatenate S400x128 0 [⟨S128x128, gate D ci⟩,
    ⟨S128x128, mulf (gate D ci) (exp (subf (broadcastTo S128x128 (cumLast D ci) broadcasts_S1x128_S128x128) (cumA D ci)))⟩,
    ⟨S128x128, exp (cumA D ci)⟩,
    ⟨S16x128, broadcastTo S16x128 (shapeCast S1x128 (exp (cumLast D ci)) shapeCasts_S1x128_S1x128) broadcasts_S1x128_S16x128⟩]
    concatenates_S128x128_S128x128_S128x128_S16x128_S400x128_d0

/-- Those rows spread over the channels: a product with the 0/1 matrix of heads and channels. -/
def chanRows (D : Loads F) (ci : Fin 2) : FVec F S400x2048 .f32 :=
  have v := headRows D ci
  have hi := truncf .bf16 v bitsLt_bf16_f32
  have lo := truncf .bf16 (subf v (extf .f32 hi bitsLt_bf16_f32)) bitsLt_bf16_f32
  matmul dot_S400x256_S256x2048_S400x2048_1_0_0_1_n_n none
    (concatenate S400x256 1 [⟨S400x128, hi⟩, ⟨S400x128, lo⟩] concatenates_S400x128_S400x128_S400x256_d1)
    (shapeCast S256x2048 D.spread shapeCasts_S256x2048_S256x2048) (constant S400x2048 .f32 0x00000000#32)

/-! ## One group of a chunk -/

/-- One at the channels of head `hh` of the group, zero elsewhere. -/
def headMask (hh : Fin 4) : FVec F S128x256 .bf16 :=
  truncf .bf16 (select (cmpi .eq k0_pay6 (broadcast S128x256 (BitVec.ofNat 32 hh.val)))
    (broadcast S128x256 (Scalar.ofBits .f32 0x3F800000#32)) (broadcast S128x256 (Scalar.ofBits .f32 0x00000000#32)))
    bitsLt_bf16_f32

theorem slices_rows (k : Fin 3) (g : Fin 8) : S400x2048.Slices ![128 * k.val, 256 * g.val] S128x256 :=
  ⟨rfl, by intro a; fin_cases a <;> simp [S128x256, S400x2048] <;> omega⟩
theorem slices_last (g : Fin 8) : S400x2048.Slices ![384, 256 * g.val] S1x256 :=
  ⟨rfl, by intro a; fin_cases a <;> simp [S1x256, S400x2048] <;> omega⟩
theorem slices_col (g : Fin 8) (hh : Fin 4) : S128x128.Slices ![0, 4 * g.val + hh.val] S128x1 :=
  ⟨rfl, by intro a; fin_cases a <;> simp [S128x1, S128x128] <;> omega⟩
theorem slices_hrow (g : Fin 8) (hh : Fin 4) : S128x128.Slices ![4 * g.val + hh.val, 0] S1x128 :=
  ⟨rfl, by intro a; fin_cases a <;> simp [S1x128, S128x128] <;> omega⟩

/-- Block `k` of the spread rows, at the channels of group `g`. -/
def rows (D : Loads F) (ci : Fin 2) (k : Fin 3) (g : Fin 8) : FVec F S128x256 .f32 :=
  extractStridedSlice S128x256 ![128 * k.val, 256 * g.val] (chanRows D ci) (slices_rows k g)

/-- The x part of the group. -/
def xs (D : Loads F) (ci : Fin 2) (g : Fin 8) : FVec F S128x256 .f32 :=
  extf .f32 (shapeCast S128x256 (D.xg ci g) shapeCasts_S128x256_S128x256) bitsLt_bf16_f32
/-- The B part and the C part of the group. -/
def bs (D : Loads F) (ci : Fin 2) (g : Fin 8) : FVec F S128x128 .bf16 :=
  shapeCast S128x128 (D.bg ci g) shapeCasts_S128x128_S128x128
def cs (D : Loads F) (ci : Fin 2) (g : Fin 8) : FVec F S128x128 .bf16 :=
  shapeCast S128x128 (D.cg ci g) shapeCasts_S128x128_S128x128

/-- `x` times the time step, and `x` times the time step times the decay to the chunk's end. -/
def xdt (D : Loads F) (ci : Fin 2) (g : Fin 8) : FVec F S128x256 .bf16 :=
  truncf .bf16 (mulf (xs D ci g) (rows D ci 0 g)) bitsLt_bf16_f32
def xend (D : Loads F) (ci : Fin 2) (g : Fin 8) : FVec F S128x256 .bf16 :=
  truncf .bf16 (mulf (xs D ci g) (rows D ci 1 g)) bitsLt_bf16_f32

/-- The scores of the chunk times the decay between two of its positions, for head `hh` of the group. -/
def scores (D : Loads F) (ci : Fin 2) (g : Fin 8) (hh : Fin 4) : FVec F S128x128 .bf16 :=
  truncf .bf16 (mulf
    (matmul dot_S128x128_S128x128_S128x128_1_1_0_0_n_n none (cs D ci g) (bs D ci g) (constant S128x128 .f32 0x00000000#32))
    (exp (select causal
      (subf
        (broadcastTo S128x128 (shapeCast S128x1
          (extractStridedSlice S128x1 ![0, 4 * g.val + hh.val] (cumA D ci) (slices_col g hh)) shapeCasts_S128x1_S128x1)
          broadcasts_S128x1_S128x128)
        (broadcastTo S128x128 (extractStridedSlice S1x128 ![4 * g.val + hh.val, 0] (cumT D ci) (slices_hrow g hh))
          broadcasts_S1x128_S128x128))
      (broadcast S128x128 (Named.named κ "mask" 0xF149F2CA#32))))) bitsLt_bf16_f32

/-- The part of the output that comes from inside the chunk: the four heads side by side in one product. -/
def inside (D : Loads F) (ci : Fin 2) (g : Fin 8) : FVec F S128x256 .f32 :=
  matmul dot_S128x512_S512x256_S128x256_1_0_0_1_n_n none
    (concatenate S128x512 1 [⟨S128x128, scores D ci g 0⟩, ⟨S128x128, scores D ci g 1⟩, ⟨S128x128, scores D ci g 2⟩,
      ⟨S128x128, scores D ci g 3⟩] concatenates_S128x128_S128x128_S128x128_S128x128_S128x512_d1)
    (concatenate S512x256 0 [⟨S128x256, mulf (xdt D ci g) (headMask 0)⟩, ⟨S128x256, mulf (xdt D ci g) (headMask 1)⟩,
      ⟨S128x256, mulf (xdt D ci g) (headMask 2)⟩, ⟨S128x256, mulf (xdt D ci g) (headMask 3)⟩]
      concatenates_S128x256_S128x256_S128x256_S128x256_S512x256_d0)
    (constant S128x256 .f32 0x00000000#32)

/-- The group's output before the gate, from the state `prev` the chunk starts with. -/
def mixed (D : Loads F) (ci : Fin 2) (g : Fin 8) (prev : Vec F S1x128x256 .f32) : FVec F S128x256 .f32 :=
  addf
    (addf (inside D ci g)
      (mulf (matmul dot_S128x128_S128x256_S128x256_1_0_0_1_n_n none (cs D ci g)
          (truncf .bf16 (shapeCast S128x256 prev shapeCasts_S1x128x256_S128x256) bitsLt_bf16_f32)
          (constant S128x256 .f32 0x00000000#32))
        (rows D ci 2 g)))
    (mulf (xs D ci g)
      (broadcastTo S128x256 (shapeCast S1x256 (D.skip g) shapeCasts_S1x256_S1x256) broadcasts_S1x256_S128x256))

/-- The group's state at the chunk's end. -/
def nextSt (D : Loads F) (ci : Fin 2) (g : Fin 8) (prev : Vec F S1x128x256 .f32) : FVec F S1x128x256 .f32 :=
  shapeCast S1x128x256
    (addf
      (mulf (shapeCast S128x256 prev shapeCasts_S1x128x256_S128x256)
        (broadcastTo S128x256 (extractStridedSlice S1x256 ![384, 256 * g.val] (chanRows D ci) (slices_last g))
          broadcasts_S1x256_S128x256))
      (matmul dot_S128x128_S128x256_S128x256_1_0_0_1_n_n none
        (transpose S128x128 [1, 0] (bs D ci g) transposes_S128x128_p1_0_S128x128) (xend D ci g)
        (constant S128x256 .f32 0x00000000#32)))
    shapeCasts_S128x256_S1x128x256

/-- The group's output times the gate `z · sigmoid z`, written with half the argument. -/
def gated (D : Loads F) (ci : Fin 2) (g : Fin 8) (prev : Vec F S1x128x256 .f32) : FVec F S128x256 .f32 :=
  have h := mulf (broadcast S128x256 (Scalar.ofBits .f32 0x3F000000#32))
    (extf .f32 (shapeCast S128x256 (D.zg ci g) shapeCasts_S128x256_S128x256) bitsLt_bf16_f32)
  mulf (mixed D ci g prev) (addf h (mulf h (tanh h)))

/-- The gated output divided by its root mean square over the group's channels, times the norm's weight. -/
def normed (D : Loads F) (ci : Fin 2) (g : Fin 8) (prev : Vec F S1x128x256 .f32) : FVec F S128x256 .bf16 :=
  have y := gated D ci g prev
  shapeCast S128x256 (truncf .bf16
    (mulf
      (mulf y (broadcastTo S128x256
        (rsqrt (addf
          (divf
            (shapeCast S128x1 (multiReduction .add [1] S128 (mulf y y) 0x00000000#32 reduces_S128x256_S128 (.inl rfl) rfl)
              shapeCasts_S128_S128x1)
            (broadcast S128x1 (Scalar.ofBits .f32 0x43800000#32)))
          (broadcast S128x1 (Scalar.ofBits .f32 0x3727C5AC#32))))
        broadcasts_S128x1_S128x256))
      (broadcastTo S128x256 (shapeCast S1x256 (D.nw g) shapeCasts_S1x256_S1x256) broadcasts_S1x256_S128x256))
    bitsLt_bf16_f32) shapeCasts_S128x256_S128x256

/-- The chunk's output rows: the residual plus the gated outputs times the output weights. -/
def outRows (D : Loads F) (ci : Fin 2) (y : Vec F S128x2048 .bf16) : FVec F S128x1024 .f32 :=
  addf (shapeCast S128x1024 (D.res ci) shapeCasts_S128x1024_S128x1024)
    (matmul dot_S128x2048_S2048x1024_S128x1024_1_0_0_1_n_n none y
      (shapeCast S2048x1024 D.wout shapeCasts_S2048x1024_S2048x1024) (constant S128x1024 .f32 0x00000000#32))

/-! ## The pieces of a chunk, group by group -/

/-- The pieces of the state after `n` groups of a chunk, each group's made from what it finds by `ld`. -/
def stPieces (D : Loads F) (ci : Fin 2)
    (ld : List (View.Piece (Elt F) S8x128x256 .f32) → Fin 8 → Vec F S1x128x256 .f32)
    (L : List (View.Piece (Elt F) S8x128x256 .f32)) : Nat → List (View.Piece (Elt F) S8x128x256 .f32)
  | 0 => L
  | n + 1 => ⟨rSt (Fin.ofNat 8 n), nextSt D ci (Fin.ofNat 8 n) (ld (stPieces D ci ld L n) (Fin.ofNat 8 n))⟩ ::
      stPieces D ci ld L n

/-- The pieces of the outputs after `n` groups of a chunk. -/
def yPieces (D : Loads F) (ci : Fin 2)
    (ld : List (View.Piece (Elt F) S8x128x256 .f32) → Fin 8 → Vec F S1x128x256 .f32)
    (L : List (View.Piece (Elt F) S8x128x256 .f32)) (Y : List (View.Piece (Elt F) S256x2048 .bf16)) :
    Nat → List (View.Piece (Elt F) S256x2048 .bf16)
  | 0 => Y
  | n + 1 => ⟨rYg ci (Fin.ofNat 8 n), normed D ci (Fin.ofNat 8 n) (ld (stPieces D ci ld L n) (Fin.ofNat 8 n))⟩ ::
      yPieces D ci ld L Y n

end Cert.KernelIdeal.Chunk
-- ==== Proof.Read.lean ====
/- A chunk of the kernel computes the numbers of `Spec.lean`: each function of `Chunk.lean` read at one position, given what
   the blocks of the chunk hold. -/
module

public import proofs.«01_k».proof.Proof.Chunk
public import proofs.«01_k».proof.Proof.Spec
public import Idealize.ShloMosaic.Lib.WordCmp

@[expose] public section

set_option maxRecDepth 16384

noncomputable section

namespace Cert.KernelIdeal.Chunk

open Idealize.ShloMosaic Idealize.ShloMosaic.TcCoe Cert.KernelIdeal Cert.KernelIdeal.Gen Cert.Ssd

/-- A head's lane among the 128 padded ones. -/
def lane (h : Fin 32) : Fin 128 := ⟨h.val, by omega⟩

/-- The blocks loaded hold chunk `c` of batch `b` of the arguments. -/
structure Reads (D : Loads Ideal) (ci : Fin 2) (I : Inp) (b : Fin 8) (c : Fin 32) : Prop where
  xg : ∀ g l k, D.xg ci g (ix2 l k) = xv I b c l (chan g k)
  bg : ∀ g l n, D.bg ci g (ix2 l n) = bv I b c l g n
  cg : ∀ g l n, D.cg ci g (ix2 l n) = cv I b c l g n
  zg : ∀ g l k, D.zg ci g (ix2 l k) = I.z b (pos c l) (chan g k)
  dt : ∀ l h, D.dt ci (ix2 l (lane h)) = I.dt b (pos c l) h
  res : ∀ l q, D.res ci (ix2 l q) = I.x b (pos c l) q
  bias : ∀ h, D.bias (ix2 0 (lane h)) = I.bias h
  alog : ∀ h, D.alog (ix2 0 (lane h)) = I.alog h
  skip : ∀ g k, D.skip g (ix2 0 k) = I.skip (head (chan g k))
  nw : ∀ g k, D.nw g (ix2 0 k) = I.nw (chan g k)
  spread : ∀ (x : Fin 256) (ch : Fin 2048), D.spread (ix2 x ch) = if x.val % 128 = ch.val / 64 then 1 else 0
  wout : ∀ ch q, D.wout (ix2 ch q) = I.wout ch q

/-- The arguments behind the gates are real numbers. -/
structure Finite (I : Inp) : Prop where
  dt : ∀ b s h, IsReal (I.dt b s h)
  bias : ∀ h, IsReal (I.bias h)
  alog : ∀ h, IsReal (I.alog h)
  z : ∀ b s ch, IsReal (I.z b s ch)

variable {D : Loads Ideal} {ci : Fin 2} {I : Inp} {b : Fin 8} {c : Fin 32}

section Real
variable (hf : Finite I)
include hf

theorem step_real (l h) : IsReal (stepv I b c l h) := by
  obtain ⟨r, hr⟩ := (hf.dt b (pos c l) h).add (hf.bias h)
  exact ⟨_, by unfold stepv; rw [hr, softplus_real]⟩
theorem dec_real (l h) : IsReal (decv I b c l h) := (step_real hf l h).mul (hf.alog h).exp.neg
theorem cum_real (l h) : IsReal (cumv I b c l h) :=
  isReal_sum _ fun s => by split; exacts [dec_real hf s h, isReal_zero]
end Real

section Gates
variable (hR : Reads D ci I b c) (hf : Finite I)
include hR hf

/-- The time step of a head. -/
theorem gate_at (l h) : gate D ci (ix2 l (lane h)) = stepv I b c l h := by
  pointwise [gate]
  rw [hR.dt, hR.bias]
  unfold stepv softplus
  obtain ⟨r, hr⟩ := (hf.dt b (pos c l) h).add (hf.bias h)
  rw [hr, log1p_divided]

/-- The log decay of a head. -/
theorem adt_at (l h) : adt D ci (ix2 l (lane h)) = decv I b c l h := by
  pointwise [adt]
  rw [gate_at hR hf, hR.alog, zero_sub]
  rfl

omit hR hf in
/-- Selecting by `l ≥ s` on the positions' words. -/
theorem sge_sel {α : Type} (l s : Fin 128) (v w : α) :
    Scalar.select (IntOp.cmpi .sge (BitVec.ofNat 32 l.val) (BitVec.ofNat 32 s.val)) v w = if s ≤ l then v else w := by
  rw [WordCmp.cmpi_sge_ofNat (by omega) (by omega)]
  by_cases h : s.val ≤ l.val
  · rw [if_pos (by exact h), decide_eq_true h]; rfl
  · rw [if_neg (by exact h), decide_eq_false h]; rfl

/-- The running sum of the log decays: the two remainders of the split are zero. -/
theorem cumA_at (l h) : cumA D ci (ix2 l (lane h)) = cumv I b c l h := by
  pointwise [cumA, tril, causal]
  simp only [adt_at hR hf, sge_sel, (dec_real hf _ h).sub_self, sub_zero, ite_self, Finset.sum_const_zero, add_zero]
  rfl

/-- A row spread over the channels: each channel gets its head's entry. -/
theorem chanRows_at (r : Fin 400) (ch : Fin 2048) (h : IsReal (headRows D ci (ix2 r (lane (head ch))))) :
    chanRows D ci (ix2 r ch) = headRows D ci (ix2 r (lane (head ch))) := by
  pointwise [chanRows]
  simp only [hR.spread]
  rw [Finset.sum_eq_single (lane (head ch)), Finset.sum_eq_zero, add_zero]
  · rw [if_pos, mul_one]
    show ch.val / 64 % 128 = ch.val / 64
    exact Nat.mod_eq_of_lt (by omega)
  · intro x _
    by_cases hx : x = lane (head ch)
    · rw [hx, h.sub_self, zero_mul]
    · rw [if_neg (fun e : (128 + x.val) % 128 = ch.val / 64 => hx (Fin.ext (by show x.val = ch.val / 64; omega))), mul_zero]
  · intro x _ hx
    rw [if_neg (fun e : x.val % 128 = ch.val / 64 => hx (Fin.ext (by show x.val = ch.val / 64; omega))), mul_zero]
  · intro hx
    exact absurd (Finset.mem_univ _) hx

/-- The four blocks of rows: the time step, the time step times the decay to the chunk's end, -/
theorem rows0_at (l h) : headRows D ci (ix2 (⟨l.val, by omega⟩ : Fin 400) (lane h)) = stepv I b c l h := by
  pointwise [headRows, cumLast]
  exact gate_at hR hf l h
theorem rows1_at (l h) : headRows D ci (ix2 (⟨128 + l.val, by omega⟩ : Fin 400) (lane h)) =
    stepv I b c l h * Ideal.exp (cumv I b c 127 h - cumv I b c l h) := by
  pointwise [headRows, cumLast]
  rw [gate_at hR hf, cumA_at hR hf, cumA_at hR hf]
/-- the decay from the chunk's start, and the whole chunk's decay. -/
theorem rows2_at (l h) : headRows D ci (ix2 (⟨256 + l.val, by omega⟩ : Fin 400) (lane h)) = Ideal.exp (cumv I b c l h) := by
  have h1 : ¬256 + l.val < 128 := by omega
  have h2 : ¬256 + l.val - 128 < 128 := by omega
  have h3 : 256 + l.val - 128 - 128 = l.val := by omega
  pointwise [headRows, cumLast]
  simp only [h1, h2, h3, l.isLt, dite_true, dite_false]
  rw [cumA_at hR hf]
theorem rows3_at (h) : headRows D ci (ix2 (384 : Fin 400) (lane h)) = Ideal.exp (cumv I b c 127 h) := by
  pointwise [headRows, cumLast]
  rw [cumA_at hR hf]

/-- The same blocks over the channels. -/
theorem chan0_at (l ch) : chanRows D ci (ix2 (⟨l.val, by omega⟩ : Fin 400) ch) = stepv I b c l (head ch) := by
  rw [chanRows_at hR hf, rows0_at hR hf]
  rw [rows0_at hR hf]; exact step_real hf _ _
theorem chan1_at (l ch) : chanRows D ci (ix2 (⟨128 + l.val, by omega⟩ : Fin 400) ch) =
    stepv I b c l (head ch) * Ideal.exp (cumv I b c 127 (head ch) - cumv I b c l (head ch)) := by
  rw [chanRows_at hR hf, rows1_at hR hf]
  rw [rows1_at hR hf]; exact (step_real hf _ _).mul ((cum_real hf _ _).sub (cum_real hf _ _)).exp
theorem chan2_at (l ch) : chanRows D ci (ix2 (⟨256 + l.val, by omega⟩ : Fin 400) ch) = Ideal.exp (cumv I b c l (head ch)) := by
  rw [chanRows_at hR hf, rows2_at hR hf]
  rw [rows2_at hR hf]; exact (cum_real hf _ _).exp
theorem chan3_at (ch) : chanRows D ci (ix2 (384 : Fin 400) ch) = Ideal.exp (cumv I b c 127 (head ch)) := by
  rw [chanRows_at hR hf, rows3_at hR hf]
  rw [rows3_at hR hf]; exact (cum_real hf _ _).exp

end Gates

/-- The kernel's lane divided by the head's width, rounded down. -/
theorem lane_head (l : Fin 128) (k : Fin 256) : k0_pay6 (ix2 l k) = BitVec.ofNat 32 (k.val / 64) := by
  pointwise [k0_pay6]
  revert k
  decide +kernel

/-- One at the channels of the head, zero elsewhere. -/
theorem headMask_at (hh : Fin 4) (l : Fin 128) (k : Fin 256) : headMask (F := Ideal) hh (ix2 l k) = if k.val / 64 = hh.val then 1 else 0 := by
  pointwise [headMask]
  rw [lane_head]
  have h : IntOp.cmpi .eq (BitVec.ofNat 32 (k.val / 64)) (BitVec.ofNat 32 hh.val) = BitVec.ofBool (decide (k.val / 64 = hh.val)) := by
    revert k hh; decide +kernel
  rw [h]
  by_cases e : k.val / 64 = hh.val
  · rw [if_pos e, decide_eq_true e]; rfl
  · rw [if_neg e, decide_eq_false e]; rfl

/-- Head `hh` of group `g`. -/
def hd (g : Fin 8) (hh : Fin 4) : Fin 32 := ⟨4 * g.val + hh.val, by omega⟩

theorem grp_chan (g : Fin 8) (k : Fin 256) : grp (chan g k) = g := by
  apply Fin.ext; show (256 * g.val + k.val) / 256 = g.val; omega
theorem head_chan (g : Fin 8) (k : Fin 256) : head (chan g k) = hd g ⟨k.val / 64, by omega⟩ := by
  apply Fin.ext; show (256 * g.val + k.val) / 64 = 4 * g.val + k.val / 64; omega

/-- A sum over four blocks of 128. -/
theorem sum_blocks (f : Fin 512 → EReal) : ∑ x, f x = (∑ s : Fin 128, f ⟨s.val, by omega⟩) + (∑ s : Fin 128, f ⟨128 + s.val, by omega⟩) +
    (∑ s : Fin 128, f ⟨256 + s.val, by omega⟩) + ∑ s : Fin 128, f ⟨384 + s.val, by omega⟩ := by
  rw [← Equiv.sum_comp (finProdFinEquiv : Fin 4 × Fin 128 ≃ Fin 512) f, Fintype.sum_prod_type, Fin.sum_univ_four]
  refine congrArg₂ (· + ·) (congrArg₂ (· + ·) (congrArg₂ (· + ·) ?_ ?_) ?_) ?_ <;>
    exact Finset.sum_congr rfl fun s _ => congrArg f (Fin.ext (by simp [finProdFinEquiv]; try omega))

section Group
variable (hR : Reads D ci I b c) (hf : Finite I)
include hR hf

/-- The scores of a head; the mask's constant is minus infinity. -/
theorem scores_at (g hh l s) : scores D ci g hh (ix2 l s) = scorev I b c l s g (hd g hh) := by
  have hb : Named.named (F := Ideal) (φ := .f32) κ "mask" 0xF149F2CA#32 = (⊥ : EReal) := rfl
  pointwise [scores, cumT, causal, cs, bs]
  rw [sge_sel, hb]
  simp only [hR.cg, hR.bg]
  exact congrArg _ (congrArg _ (congrArg (fun v => if s ≤ l then v else (⊥ : EReal))
    (congrArg₂ (· - ·) (cumA_at hR hf l (hd g hh)) (cumA_at hR hf s (hd g hh)))))

theorem xdt_at (g s k) : xdt D ci g (ix2 s k) = xv I b c s (chan g k) * stepv I b c s (head (chan g k)) := by
  pointwise [xdt, xs, rows]
  rw [hR.xg]
  exact congrArg _ (chan0_at hR hf s (chan g k))

theorem inside_at (g l k) : inside D ci g (ix2 l k) =
    ∑ s : Fin 128, (xv I b c s (chan g k) * stepv I b c s (head (chan g k))) * scorev I b c l s g (head (chan g k)) := by
  have a1 (s : Fin 128) : ¬128 + s.val < 128 := by omega
  have a2 (s : Fin 128) : 128 + s.val - 128 = s.val := by omega
  have b1 (s : Fin 128) : ¬256 + s.val < 128 := by omega
  have b2 (s : Fin 128) : ¬256 + s.val - 128 < 128 := by omega
  have b3 (s : Fin 128) : 256 + s.val - 128 - 128 = s.val := by omega
  have c1 (s : Fin 128) : ¬384 + s.val < 128 := by omega
  have c2 (s : Fin 128) : ¬384 + s.val - 128 < 128 := by omega
  have c3 (s : Fin 128) : ¬384 + s.val - 128 - 128 < 128 := by omega
  have c4 (s : Fin 128) : 384 + s.val - 128 - 128 - 128 = s.val := by omega
  pointwise [inside]
  rw [sum_blocks]
  simp only [a1, a2, b1, b2, b3, c1, c2, c3, c4, Fin.is_lt, dite_true, dite_false, scores_at hR hf, xdt_at hR hf, headMask_at]
  rw [head_chan]
  obtain ⟨hh, e⟩ : ∃ hh : Fin 4, hh = ⟨k.val / 64, by omega⟩ := ⟨_, rfl⟩
  have e' : k.val / 64 = hh.val := (congrArg Fin.val e).symm
  rw [← e, e']
  have hs (j : Fin 4) : (∑ s : Fin 128, scorev I b c l s g (hd g j) * (xv I b c s (chan g k) * stepv I b c s (hd g hh) *
      (if hh.val = j.val then 1 else 0))) = if hh = j then ∑ s : Fin 128, xv I b c s (chan g k) * stepv I b c s (hd g hh) *
        scorev I b c l s g (hd g hh) else 0 := by
    by_cases h : hh = j
    · rw [if_pos h, ← h]
      exact Finset.sum_congr rfl fun s _ => by rw [if_pos rfl, mul_one, mul_comm]
    · rw [if_neg h]
      exact Finset.sum_eq_zero fun s _ => by rw [if_neg (fun e => h (Fin.ext e)), mul_zero, mul_zero]
  rw [hs 0, hs 1, hs 2, hs 3]
  clear hs e e'
  fin_cases hh <;> simp

/-- The group's output before the gate. -/
theorem mixed_at (g prev) (hp : ∀ n k, prev (ix3 0 n k) = state I b c.val (chan g k) n) (l k) :
    mixed D ci g prev (ix2 l k) = mixv I b c l (chan g k) := by
  pointwise [mixed, xs, rows, cs]
  simp only [hR.cg, hR.xg, hR.skip, hp, inside_at hR hf]
  unfold mixv
  rw [grp_chan]
  congr 2
  refine congrArg₂ (· * ·) (Finset.sum_congr rfl fun n _ => mul_comm _ _) ?_
  exact chan2_at hR hf l (chan g k)

/-- The group's next state. -/
theorem nextSt_at (g prev) (hp : ∀ n k, prev (ix3 0 n k) = state I b c.val (chan g k) n) (n k) :
    nextSt D ci g prev (ix3 0 n k) = state I b (c.val + 1) (chan g k) n := by
  pointwise [nextSt, xs, rows, bs, xend]
  simp only [hR.bg, hR.xg, hp]
  have hc : Fin.ofNat 32 c.val = c := Fin.ext (Nat.mod_eq_of_lt c.isLt)
  rw [state, hc]
  unfold inflow
  rw [grp_chan]
  refine congrArg₂ (· + ·) (congrArg _ (chan3_at hR hf (chan g k))) (Finset.sum_congr rfl fun s _ => ?_)
  refine (congrArg (fun v => _ * (_ * v)) (chan1_at hR hf s (chan g k))).trans ?_
  ac_rfl

/-- The gated output. -/
theorem gated_at (g prev) (hp : ∀ n k, prev (ix3 0 n k) = state I b c.val (chan g k) n) (l k) :
    gated D ci g prev (ix2 l k) = gatev I b c l (chan g k) := by
  pointwise [gated]
  rw [mixed_at hR hf g prev hp, hR.zg]
  obtain ⟨r, hr⟩ := hf.z b (pos c l) (chan g k)
  unfold gatev
  rw [hr, half_gate]

/-- The normed output. -/
theorem normed_at (g prev) (hp : ∀ n k, prev (ix3 0 n k) = state I b c.val (chan g k) n) (l k) :
    normed D ci g prev (ix2 l k) = normv I b c l (chan g k) := by
  pointwise [normed]
  simp only [gated_at hR hf g prev hp, hR.nw]
  unfold normv
  rw [grp_chan]

/-- The output rows, from the normed outputs of every group. -/
theorem outRows_at (y : Vec Ideal S128x2048 .bf16) (hy : ∀ l ch, y (ix2 l ch) = normv I b c l ch) (l q) :
    outRows D ci y (ix2 l q) = outv I b c l q := by
  pointwise [outRows]
  simp only [hy, hR.res, hR.wout]
  rfl

end Group

end Cert.KernelIdeal.Chunk
-- ==== Proof.Pieces.lean ====
/- The pieces the body's run leaves, by case: two chunks after each other, each eight groups of `stPieces` and `yPieces`. -/
module

public import proofs.«01_k».proof.Proof.Chunk

@[expose] public section

set_option maxRecDepth 65536

noncomputable section

namespace Cert.KernelIdeal.Chunk

open Idealize.ShloMosaic Idealize.ShloMosaic.TcCoe Cert.KernelIdeal Cert.KernelIdeal.Gen

variable {F : FTy → Type} [FloatOps F] [Named F]

variable (c : Dev nD) (i : grid0.Coords)
  (arg2 : Memref sig .tc .vmem S256x4096 .bf16) (harg2 : arg2.IsWhole)
  (arg3 : Memref sig .tc .vmem S256x2048 .bf16) (harg3 : arg3.IsWhole)
  (arg4 : Memref sig .tc .vmem S256x128 .f32) (harg4 : arg4.IsWhole)
  (arg5 : Memref sig .tc .vmem S256x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S256x2048 .bf16) (harg10 : arg10.IsWhole)
  (arg11 : Memref sig .tc .vmem S2048x1024 .bf16) (harg11 : arg11.IsWhole)
  (arg12 : Memref sig .tc .vmem S256x1024 .f32) (harg12 : arg12.IsWhole)
  (arg13 : Memref sig .tc .vmem S256x2048 .bf16) (harg13 : arg13.IsWhole)
  (arg14 : Memref sig .tc .vmem S8x128x256 .f32) (harg14 : arg14.IsWhole)
  (x0 : Vec F S256x4096 .bf16)
  (x1 : Vec F S256x2048 .bf16)
  (x2 : Vec F S256x128 .f32)
  (x3 : Vec F S256x1024 .f32)
  (x4 : Vec F S1x128 .f32)
  (x5 : Vec F S1x128 .f32)
  (x6 : Vec F S1x2048 .f32)
  (x7 : Vec F S1x2048 .f32)
  (x8 : Vec F S256x2048 .bf16)
  (x9 : Vec F S2048x1024 .bf16)
  (xs1 : Vec F S8x128x256 .f32)

/-- What the body loads from its ten windows. -/
def loadsOf : Loads F where
  xg ci g := View.readAt (Elt F) arg2.view (rGx ci g).toLoadRect (harg2.unread x0)
  bg ci g := View.readAt (Elt F) arg2.view (rGb ci g).toLoadRect (harg2.unread x0)
  cg ci g := View.readAt (Elt F) arg2.view (rGc ci g).toLoadRect (harg2.unread x0)
  zg ci g := View.readAt (Elt F) arg3.view (rYg ci g).toLoadRect (harg3.unread x1)
  dt ci := View.readAt (Elt F) arg4.view (rDt ci).toLoadRect (harg4.unread x2)
  res ci := View.readAt (Elt F) arg5.view (rX ci).toLoadRect (harg5.unread x3)
  bias := View.readAt (Elt F) arg6.view (Rect.unit ![0, 0] S1x128.size inb_S1x128_S1x128_0_0).toLoadRect (harg6.unread x4)
  alog := View.readAt (Elt F) arg7.view (Rect.unit ![0, 0] S1x128.size inb_S1x128_S1x128_0_0).toLoadRect (harg7.unread x5)
  skip g := View.readAt (Elt F) arg8.view (rRow g).toLoadRect (harg8.unread x6)
  nw g := View.readAt (Elt F) arg9.view (rRow g).toLoadRect (harg9.unread x7)
  spread := View.readAt (Elt F) arg10.view (Rect.unit ![0, 0] S256x2048.size inb_S256x2048_S256x2048_0_0).toLoadRect (harg10.unread x8)
  wout := View.readAt (Elt F) arg11.view (Rect.unit ![0, 0] S2048x1024.size inb_S2048x1024_S2048x1024_0_0).toLoadRect (harg11.unread x9)

/-- A load of a group's state out of the pieces stored before. -/
def ldSt (L : List (View.Piece (Elt F) S8x128x256 .f32)) (g : Fin 8) : Vec F S1x128x256 .f32 :=
  arg14.view.readCov L (rSt g).toLoadRect

/-- A load of a group's state out of what the point before left. -/
def ldPrev (_ : List (View.Piece (Elt F) S8x128x256 .f32)) (g : Fin 8) : Vec F S1x128x256 .f32 :=
  View.readAt (Elt F) arg14.view (rSt g).toLoadRect (harg14.unread xs1)

/-- The state pieces of both chunks. -/
def stBoth (D : Loads F) (ld0 ld1 : List (View.Piece (Elt F) S8x128x256 .f32) → Fin 8 → Vec F S1x128x256 .f32)
    (L : List (View.Piece (Elt F) S8x128x256 .f32)) : List (View.Piece (Elt F) S8x128x256 .f32) :=
  stPieces D 1 ld1 (stPieces D 0 ld0 L 8) 8

/-- The output pieces of both chunks: each chunk's rows from the gated outputs stored until then. -/
def outBoth (D : Loads F) (ld0 ld1 : List (View.Piece (Elt F) S8x128x256 .f32) → Fin 8 → Vec F S1x128x256 .f32)
    (L : List (View.Piece (Elt F) S8x128x256 .f32)) : List (View.Piece (Elt F) S256x1024 .f32) :=
  [⟨rX 1, outRows D 1 (arg13.view.readCov (yPieces D 1 ld1 (stPieces D 0 ld0 L 8) (yPieces D 0 ld0 L [] 8) 8) (rY 1).toLoadRect)⟩,
   ⟨rX 0, outRows D 0 (arg13.view.readCov (yPieces D 0 ld0 L [] 8) (rY 0).toLoadRect)⟩]

/-- The state pieces of a point that is not a batch's first. -/
theorem state_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs1).2.1 =
      stBoth (loadsOf arg2 harg2 arg3 harg3 arg4 harg4 arg5 harg5 arg6 harg6 arg7 harg7 arg8 harg8 arg9 harg9 arg10 harg10 arg11 harg11 x0 x1 x2 x3 x4 x5 x6 x7 x8 x9) (ldPrev arg14 harg14 xs1) (ldSt arg14) [] := by sl_kernel_rfl

/-- The output pieces of a point that is not a batch's first. -/
theorem out_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs1).1 =
      outBoth arg13 (loadsOf arg2 harg2 arg3 harg3 arg4 harg4 arg5 harg5 arg6 harg6 arg7 harg7 arg8 harg8 arg9 harg9 arg10 harg10 arg11 harg11 x0 x1 x2 x3 x4 x5 x6 x7 x8 x9) (ldPrev arg14 harg14 xs1) (ldSt arg14) [] := by sl_kernel_rfl

/-- A batch's first point stores zeros as the state before anything else. -/
def zeroSt : List (View.Piece (Elt F) S8x128x256 .f32) :=
  [⟨Rect.unit ![0, 0, 0] S8x128x256.size inb_S8x128x256_S8x128x256_0_0_0, k0_pay3⟩]

/-- The state pieces of a batch's first point. -/
theorem state_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 =
      stBoth (loadsOf arg2 harg2 arg3 harg3 arg4 harg4 arg5 harg5 arg6 harg6 arg7 harg7 arg8 harg8 arg9 harg9 arg10 harg10 arg11 harg11 x0 x1 x2 x3 x4 x5 x6 x7 x8 x9) (ldSt arg14) (ldSt arg14) zeroSt := by sl_kernel_rfl

/-- The output pieces of a batch's first point. -/
theorem out_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 =
      outBoth arg13 (loadsOf arg2 harg2 arg3 harg3 arg4 harg4 arg5 harg5 arg6 harg6 arg7 harg7 arg8 harg8 arg9 harg9 arg10 harg10 arg11 harg11 x0 x1 x2 x3 x4 x5 x6 x7 x8 x9) (ldSt arg14) (ldSt arg14) zeroSt := by sl_kernel_rfl

end Cert.KernelIdeal.Chunk
-- ==== Proof.Lists.lean ====
/- What a list of pieces made group by group holds, read back at a group's rectangle. -/
module

public import proofs.«01_k».proof.Proof.Pieces
public import Idealize.ShloMosaic.Lib.Pointwise
public import Idealize.ShloMosaic.Lib.Pipeline.ValueKit
public import Idealize.ShloMosaic.Lib.VecWindow

@[expose] public section

set_option maxRecDepth 16384

noncomputable section

namespace Cert.KernelIdeal.Chunk

open Idealize.ShloMosaic Idealize.ShloMosaic.TcCoe Cert.KernelIdeal Cert.KernelIdeal.Gen

section
variable {Val : EltTy → Type} [∀ e, Nonempty (Val e)] {s : Shape} {e : EltTy}

/-- Eight pieces put one before another at disjoint rectangles: after `n` of them the first `n` rectangles hold their
    pieces and the others what the list held before. -/
theorem canon_grow (P : Nat → List (View.Piece Val s e)) (r : Fin 8 → Rect s) (w : (g : Fin 8) → (r g).shape.Idx → Val e)
    (hP : ∀ g : Fin 8, P (g.val + 1) = ⟨r g, w g⟩ :: P g.val)
    (hr : ∀ g g', g ≠ g' → Disjoint (r g).set (r g').set) (g : Fin 8) (x : (r g).shape.Idx) (n : Nat) (hn : n ≤ 8) :
    View.canon (P n) ((r g).emb x) = if g.val < n then w g x else View.canon (P 0) ((r g).emb x) := by
  induction n with
  | zero => simp
  | succ n ih =>
    have hs := hP ⟨n, hn⟩
    simp only at hs
    rw [hs]
    by_cases hg : (⟨n, hn⟩ : Fin 8) = g
    · subst hg
      rw [if_pos (Nat.lt_succ_self _)]
      exact View.canon_cons_emb _ _ _ x
    · have hv : n ≠ g.val := fun e => hg (Fin.ext e)
      rw [View.canon_cons_of_not_mem _ _ (fun h => Finset.disjoint_left.mp (hr _ _ hg) h ((r g).idx_mem x)), ih (by omega)]
      by_cases h : g.val < n
      · rw [if_pos h, if_pos (by omega)]
      · rw [if_neg h, if_neg (by omega)]

/-- Rectangles the pieces do not meet hold what the list held before. -/
theorem canon_grow_off (P : Nat → List (View.Piece Val s e)) (r : Fin 8 → Rect s) (w : (g : Fin 8) → (r g).shape.Idx → Val e)
    (hP : ∀ g : Fin 8, P (g.val + 1) = ⟨r g, w g⟩ :: P g.val) (y : s.Idx) (hy : ∀ g, y ∉ (r g).set) (n : Nat) (hn : n ≤ 8) :
    View.canon (P n) y = View.canon (P 0) y := by
  induction n with
  | zero => rfl
  | succ n ih =>
    have hs := hP ⟨n, hn⟩
    simp only at hs
    rw [hs, View.canon_cons_of_not_mem _ _ (hy _), ih (by omega)]

end

/-- The states of two groups do not meet. -/
theorem rSt_disjoint (g g' : Fin 8) (h : g ≠ g') : Disjoint (rSt g).set (rSt g').set := by
  refine Rect.unit_disjoint 0 ?_
  have : g.val ≠ g'.val := fun e => h (Fin.ext e)
  simp [S1x128x256]; omega

/-- The outputs of two groups of a chunk do not meet. -/
theorem rYg_disjoint (ci : Fin 2) (g g' : Fin 8) (h : g ≠ g') : Disjoint (rYg ci g).set (rYg ci g').set := by
  refine Rect.unit_disjoint 1 ?_
  have : g.val ≠ g'.val := fun e => h (Fin.ext e)
  simp [S128x256]; omega

variable {F : FTy → Type} [FloatOps F] [Named F]

theorem stPieces_succ (D : Loads F) (ci : Fin 2)
    (ld : List (View.Piece (Elt F) S8x128x256 .f32) → Fin 8 → Vec F S1x128x256 .f32)
    (L : List (View.Piece (Elt F) S8x128x256 .f32)) (g : Fin 8) :
    stPieces D ci ld L (g.val + 1) = ⟨rSt g, nextSt D ci g (ld (stPieces D ci ld L g.val) g)⟩ :: stPieces D ci ld L g.val := by
  rw [stPieces, Fin.ofNat_val_eq_self]

theorem yPieces_succ (D : Loads F) (ci : Fin 2)
    (ld : List (View.Piece (Elt F) S8x128x256 .f32) → Fin 8 → Vec F S1x128x256 .f32)
    (L : List (View.Piece (Elt F) S8x128x256 .f32)) (Y : List (View.Piece (Elt F) S256x2048 .bf16)) (g : Fin 8) :
    yPieces D ci ld L Y (g.val + 1) = ⟨rYg ci g, normed D ci g (ld (stPieces D ci ld L g.val) g)⟩ :: yPieces D ci ld L Y g.val := by
  rw [yPieces, Fin.ofNat_val_eq_self]

/-- After `n` groups, a group already done holds its new state and any other what the list held before. -/
theorem canon_st (D : Loads F) (ci : Fin 2)
    (ld : List (View.Piece (Elt F) S8x128x256 .f32) → Fin 8 → Vec F S1x128x256 .f32)
    (L : List (View.Piece (Elt F) S8x128x256 .f32)) (g : Fin 8) (x : S1x128x256.Idx) (n : Nat) (hn : n ≤ 8) :
    View.canon (stPieces D ci ld L n) ((rSt g).emb x) =
      if g.val < n then nextSt D ci g (ld (stPieces D ci ld L g.val) g) x else View.canon L ((rSt g).emb x) :=
  canon_grow (stPieces D ci ld L) rSt (fun g => nextSt D ci g (ld (stPieces D ci ld L g.val) g))
    (stPieces_succ D ci ld L) rSt_disjoint g x n hn

/-- The gated outputs of a chunk, block by block. -/
theorem canon_y (D : Loads F) (ci : Fin 2)
    (ld : List (View.Piece (Elt F) S8x128x256 .f32) → Fin 8 → Vec F S1x128x256 .f32)
    (L : List (View.Piece (Elt F) S8x128x256 .f32)) (Y : List (View.Piece (Elt F) S256x2048 .bf16)) (g : Fin 8) (x : S128x256.Idx) :
    View.canon (yPieces D ci ld L Y 8) ((rYg ci g).emb x) = normed D ci g (ld (stPieces D ci ld L g.val) g) x := by
  have h := canon_grow (yPieces D ci ld L Y) (rYg ci) (fun g => normed D ci g (ld (stPieces D ci ld L g.val) g))
    (yPieces_succ D ci ld L Y) (rYg_disjoint ci) g x 8 le_rfl
  rwa [if_pos g.isLt] at h

/-! ## The states of a point -/

variable (arg13 : Memref sig .tc .vmem S256x2048 .bf16) (arg14 : Memref sig .tc .vmem S8x128x256 .f32)

/-- The second chunk finds the state the first one left. -/
theorem ldSt_second (D : Loads F) (ld0 : List (View.Piece (Elt F) S8x128x256 .f32) → Fin 8 → Vec F S1x128x256 .f32)
    (L : List (View.Piece (Elt F) S8x128x256 .f32)) (g : Fin 8) :
    ldSt arg14 (stPieces D 1 (ldSt arg14) (stPieces D 0 ld0 L 8) g.val) g =
      nextSt D 0 g (ld0 (stPieces D 0 ld0 L g.val) g) := by
  unfold ldSt
  rw [View.readCov_eq_canon']
  funext x
  refine (canon_st D 1 _ _ g x g.val g.isLt.le).trans ?_
  rw [if_neg (lt_irrefl _), canon_st D 0 _ _ g x 8 le_rfl, if_pos g.isLt]

/-- The first chunk of a batch finds zeros. -/
theorem ldSt_zero (D : Loads F) (g : Fin 8) (x : S1x128x256.Idx) :
    ldSt arg14 (stPieces D 0 (ldSt arg14) zeroSt g.val) g x = Scalar.ofBits .f32 0x00000000#32 := by
  unfold ldSt
  rw [View.readCov_eq_canon']
  refine (canon_st D 0 _ _ g x g.val g.isLt.le).trans ?_
  rw [if_neg (lt_irrefl _)]
  have e : (rSt g).emb x = (Rect.unit (s := S8x128x256) ![0, 0, 0] S8x128x256.size inb_S8x128x256_S8x128x256_0_0_0).emb ((rSt g).emb x) :=
    (Rect.emb_unit_full _ _).symm
  rw [e]
  exact View.canon_cons_emb _ _ _ _

/-- What a point leaves as the state of group `g`, from what its first chunk found. -/
theorem canon_both (D : Loads F) (ld0 : List (View.Piece (Elt F) S8x128x256 .f32) → Fin 8 → Vec F S1x128x256 .f32)
    (L : List (View.Piece (Elt F) S8x128x256 .f32)) (g : Fin 8) (x : S1x128x256.Idx) :
    View.canon (stBoth D ld0 (ldSt arg14) L) ((rSt g).emb x) =
      nextSt D 1 g (nextSt D 0 g (ld0 (stPieces D 0 ld0 L g.val) g)) x := by
  unfold stBoth
  rw [canon_st D 1 _ _ g x 8 le_rfl, if_pos g.isLt, ldSt_second]

/-- The gated outputs of the first chunk, as its rows of the output find them. -/
theorem y_first (D : Loads F) (ld0 : List (View.Piece (Elt F) S8x128x256 .f32) → Fin 8 → Vec F S1x128x256 .f32)
    (L : List (View.Piece (Elt F) S8x128x256 .f32)) (l : Fin 128) (g : Fin 8) (k : Fin 256) (j : S128x2048.Idx)
    (h0 : (j 0).val = l.val) (h1 : (j 1).val = 256 * g.val + k.val) :
    arg13.view.readCov (yPieces D 0 ld0 L [] 8) (rY 0).toLoadRect j =
      normed D 0 g (ld0 (stPieces D 0 ld0 L g.val) g) (ix2 l k) := by
  rw [View.readCov_eq_canon']
  refine Eq.trans (congrArg _ ?_) (canon_y D 0 ld0 L [] g (ix2 l k))
  funext a
  apply Fin.ext
  refine Eq.trans ?_ (ValueKit.rect_emb_unit_val _ _ _ _ a).symm
  fin_cases a
  · show 128 * 0 + 1 * (j 0).val = 128 * 0 + l.val; omega
  · show 0 + 1 * (j 1).val = 256 * g.val + k.val; omega

/-- The gated outputs of the second chunk likewise. -/
theorem y_second (D : Loads F) (ld0 : List (View.Piece (Elt F) S8x128x256 .f32) → Fin 8 → Vec F S1x128x256 .f32)
    (L : List (View.Piece (Elt F) S8x128x256 .f32)) (l : Fin 128) (g : Fin 8) (k : Fin 256) (j : S128x2048.Idx)
    (h0 : (j 0).val = l.val) (h1 : (j 1).val = 256 * g.val + k.val) :
    arg13.view.readCov (yPieces D 1 (ldSt arg14) (stPieces D 0 ld0 L 8) (yPieces D 0 ld0 L [] 8) 8) (rY 1).toLoadRect j =
      normed D 1 g (nextSt D 0 g (ld0 (stPieces D 0 ld0 L g.val) g)) (ix2 l k) := by
  rw [View.readCov_eq_canon']
  refine Eq.trans (congrArg _ ?_) ((canon_y D 1 (ldSt arg14) (stPieces D 0 ld0 L 8) (yPieces D 0 ld0 L [] 8) g (ix2 l k)).trans ?_)
  · funext a
    apply Fin.ext
    refine Eq.trans ?_ (ValueKit.rect_emb_unit_val _ _ _ _ a).symm
    fin_cases a
    · show 128 * 1 + 1 * (j 0).val = 128 * 1 + l.val; omega
    · show 0 + 1 * (j 1).val = 256 * g.val + k.val; omega
  · rw [ldSt_second]

end Cert.KernelIdeal.Chunk
-- ==== Proof.Load.lean ====
/- A load out of a block, read at an index: said once for every program here. -/
module

public import Idealize.ShloMosaic.Lib.Pipeline.ValueKit

@[expose] public section

noncomputable section

namespace Cert.Load

open Idealize.ShloMosaic Idealize.ShloMosaic.TcCoe

variable {sig : RefSig}

/-- A load of a rectangle out of a block held whole reads the block at the shifted index. -/
theorem load_at {s : Shape} {e : EltTy} {arg : Memref sig .tc .vmem s e} (h : arg.IsWhole) (x : Vec Ideal s e)
    (off size : Fin s.rank → Nat) (inb : ∀ a, off a + size a ≤ s.size a) (j : (Rect.unit off size inb).shape.Idx)
    (i : s.Idx) (hi : ∀ a, (i a).val = off a + (j a).val) :
    View.readAt (Elt Ideal) arg.view (Rect.unit off size inb).toLoadRect (h.unread x) j = x i := by
  rw [View.readAt_eq_ld, h.read_unread]
  exact View.ld_unit_apply_of x off size inb j i hi

end Cert.Load

end
-- ==== Proof.Blocks.lean ====
/- The blocks a grid point loads hold two chunks of one batch of the arguments. -/
module

public import proofs.«01_k».proof.Proof.Host
public import proofs.«01_k».proof.Proof.Read
public import proofs.«01_k».proof.Proof.Lists
public import proofs.«01_k».proof.Proof.Load

@[expose] public section

set_option maxRecDepth 16384

noncomputable section

namespace Cert.KernelIdeal.Host

open Idealize.ShloMosaic Idealize.ShloMosaic.TcCoe Cert.KernelIdeal Cert.KernelIdeal.Gen Cert.KernelIdeal.Chunk Cert.Ssd Cert.Load

variable (m : (ℓ : Loc nD τ sig) → Buf (Elt Ideal) ℓ) (d : Dev nD)

/-- Row `r` of point `t`'s blocks, in an array of every position. -/
def row (t : Fin cfg0.N) (r : Fin 256) : Fin 32768 := ⟨256 * t.val + r.val, by have := lt_of_lt_of_eq t.isLt (show cfg0.N = 128 from N_0); omega⟩

variable (t : Fin cfg0.N)

/-- The block indices: the point's number down the rows of the four moving windows, zero elsewhere. -/
theorem idx_rows : ∀ t : Fin grid0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) := by decide +kernel
theorem idx_zero : ∀ t : Fin grid0.N, (win0_4.index t 0 = 0 ∧ win0_4.index t 1 = 0) ∧ (win0_5.index t 0 = 0 ∧ win0_5.index t 1 = 0) ∧
    (win0_6.index t 0 = 0 ∧ win0_6.index t 1 = 0) ∧ (win0_7.index t 0 = 0 ∧ win0_7.index t 1 = 0) ∧
    (win0_8.index t 0 = 0 ∧ win0_8.index t 1 = 0) ∧ (win0_9.index t 0 = 0 ∧ win0_9.index t 1 = 0) := by decide +kernel

theorem blk0_at (r : Fin 256) (ch : Fin 4096) : iblk m d 0 t (ix2 r ch) = V m d main_v1 (ix2 (row t r) ch) := by
  unfold row; blk_simp [iblk]; blk_ext! <;> (have h := idx_rows t; omega)
theorem blk1_at (r : Fin 256) (ch : Fin 2048) : iblk m d 1 t (ix2 r ch) = V m d main_v2 (ix2 (row t r) ch) := by
  unfold row; blk_simp [iblk]; blk_ext! <;> (have h := idx_rows t; omega)
theorem blk2_at (r : Fin 256) (h : Fin 128) : iblk m d 2 t (ix2 r h) = V m d main_v4 (ix2 (row t r) h) := by
  unfold row; blk_simp [iblk]; blk_ext! <;> (have h := idx_rows t; omega)
theorem blk3_at (r : Fin 256) (q : Fin 1024) : iblk m d 3 t (ix2 r q) = V m d main_v0 (ix2 (row t r) q) := by
  unfold row; blk_simp [iblk]; blk_ext! <;> (have h := idx_rows t; omega)
theorem blk4_at (h : Fin 128) : iblk m d 4 t (ix2 0 h) = V m d main_v6 (ix2 0 h) := by
  blk_simp [iblk]; blk_ext! <;> (have h := idx_zero t; omega)
theorem blk5_at (h : Fin 128) : iblk m d 5 t (ix2 0 h) = V m d main_v8 (ix2 0 h) := by
  blk_simp [iblk]; blk_ext! <;> (have h := idx_zero t; omega)
theorem blk6_at (ch : Fin 2048) : iblk m d 6 t (ix2 0 ch) = V m d main_v11 (ix2 0 ch) := by
  blk_simp [iblk]; blk_ext! <;> (have h := idx_zero t; omega)
theorem blk7_at (ch : Fin 2048) : iblk m d 7 t (ix2 0 ch) = V m d main_v12 (ix2 0 ch) := by
  blk_simp [iblk]; blk_ext! <;> (have h := idx_zero t; omega)
theorem blk8_at (x : Fin 256) (ch : Fin 2048) : iblk m d 8 t (ix2 x ch) = V m d main_v22 (ix2 x ch) := by
  blk_simp [iblk]; blk_ext! <;> (have h := idx_zero t; omega)
theorem blk9_at (ch : Fin 2048) (q : Fin 1024) : iblk m d 9 t (ix2 ch q) = V m d main_v23 (ix2 ch q) := by
  blk_simp [iblk]; blk_ext! <;> (have h := idx_zero t; omega)

/-- What point `t` loads. -/
def loads : Loads Ideal :=
  loadsOf (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t)
    (iblk m d 0 t) (iblk m d 1 t) (iblk m d 2 t) (iblk m d 3 t) (iblk m d 4 t) (iblk m d 5 t) (iblk m d 6 t) (iblk m d 7 t) (iblk m d 8 t) (iblk m d 9 t)

/-- The batch of a point, and the two chunks it treats. -/
def bat : Fin 8 := ⟨t.val / 16, by have := lt_of_lt_of_eq t.isLt (show cfg0.N = 128 from N_0); omega⟩
def chk (ci : Fin 2) : Fin 32 := ⟨2 * (t.val % 16) + ci.val, by omega⟩

theorem row_div (ci : Fin 2) (l : Fin 128) (r : Fin 256) (hr : r.val = 128 * ci.val + l.val) :
    (⟨(row t r).val / 4096, by omega⟩ : Fin 8) = bat t ∧ (⟨(row t r).val % 4096, by omega⟩ : Fin 4096) = pos (chk t ci) l := by
  constructor <;> apply Fin.ext
  · show (256 * t.val + r.val) / 4096 = t.val / 16; omega
  · show (256 * t.val + r.val) % 4096 = (2 * (t.val % 16) + ci.val) * 128 + l.val; omega

/-- Row `l` of chunk `ci` in a block of 256 rows. -/
def brow (ci : Fin 2) (l : Fin 128) : Fin 256 := ⟨128 * ci.val + l.val, by omega⟩

theorem reads (ci : Fin 2) : Reads (loads m d t) ci (inp m d) (bat t) (chk t ci) where
  xg g l k := by
    have h := row_div t ci l (brow ci l) rfl
    refine (load_at (hs0_0 t) _ _ _ _ _ (ix2 (brow ci l) (⟨256 * g.val + k.val, by omega⟩ : Fin 4096)) ?_).trans ?_
    · intro a; fin_cases a <;> rfl
    · rw [blk0_at, v1_at, h.1, h.2]; rfl
  bg g l n := by
    have h := row_div t ci l (brow ci l) rfl
    refine (load_at (hs0_0 t) _ _ _ _ _ (ix2 (brow ci l) (⟨2048 + (128 * g.val + n.val), by omega⟩ : Fin 4096)) ?_).trans ?_
    · intro a; fin_cases a; exacts [rfl, (Nat.add_assoc _ _ _).symm]
    · rw [blk0_at, v1_at, h.1, h.2]; rfl
  cg g l n := by
    have h := row_div t ci l (brow ci l) rfl
    refine (load_at (hs0_0 t) _ _ _ _ _ (ix2 (brow ci l) (⟨3072 + (128 * g.val + n.val), by omega⟩ : Fin 4096)) ?_).trans ?_
    · intro a; fin_cases a; exacts [rfl, (Nat.add_assoc _ _ _).symm]
    · rw [blk0_at, v1_at, h.1, h.2]; rfl
  zg g l k := by
    have h := row_div t ci l (brow ci l) rfl
    refine (load_at (hs0_1 t) _ _ _ _ _ (ix2 (brow ci l) (chan g k)) ?_).trans ?_
    · intro a; fin_cases a <;> rfl
    · rw [blk1_at, v2_at, h.1, h.2]
  dt l hh := by
    have h := row_div t ci l (brow ci l) rfl
    refine (load_at (hs0_2 t) _ _ _ _ _ (ix2 (brow ci l) (lane hh)) ?_).trans ?_
    · intro a; fin_cases a; exacts [rfl, (Nat.zero_add _).symm]
    · rw [blk2_at]; refine (v4_at m d _ hh).trans ?_; rw [h.1, h.2]
  res l q := by
    have h := row_div t ci l (brow ci l) rfl
    refine (load_at (hs0_3 t) _ _ _ _ _ (ix2 (brow ci l) q) ?_).trans ?_
    · intro a; fin_cases a; exacts [rfl, (Nat.zero_add _).symm]
    · rw [blk3_at, v0_at, h.1, h.2]
  bias hh := by
    refine (load_at (hs0_4 t) _ _ _ _ _ (ix2 0 (lane hh)) ?_).trans ?_
    · intro a; fin_cases a; exacts [rfl, (Nat.zero_add _).symm]
    · rw [blk4_at]; exact v6_at m d hh
  alog hh := by
    refine (load_at (hs0_5 t) _ _ _ _ _ (ix2 0 (lane hh)) ?_).trans ?_
    · intro a; fin_cases a; exacts [rfl, (Nat.zero_add _).symm]
    · rw [blk5_at]; exact v8_at m d hh
  skip g k := by
    refine (load_at (hs0_6 t) _ _ _ _ _ (ix2 0 (chan g k)) ?_).trans ?_
    · intro a; fin_cases a <;> rfl
    · rw [blk6_at, v11_at]
  nw g k := by
    refine (load_at (hs0_7 t) _ _ _ _ _ (ix2 0 (chan g k)) ?_).trans ?_
    · intro a; fin_cases a <;> rfl
    · rw [blk7_at, v12_at]
  spread x ch := by
    refine (load_at (hs0_8 t) _ _ _ _ _ (ix2 x ch) ?_).trans ?_
    · intro a; fin_cases a; exacts [(Nat.zero_add _).symm, (Nat.zero_add _).symm]
    · rw [blk8_at, v22_at]
  wout ch q := by
    refine (load_at (hs0_9 t) _ _ _ _ _ (ix2 ch q) ?_).trans ?_
    · intro a; fin_cases a; exacts [(Nat.zero_add _).symm, (Nat.zero_add _).symm]
    · rw [blk9_at, v23_at]

end Cert.KernelIdeal.Host
-- ==== Proof.Points.lean ====
/- Point by point: the scratch carries the recurrence's state from one pair of chunks to the next, and each point's output
   block holds the layer's output at its 256 positions. -/
module

public import proofs.«01_k».proof.Proof.Blocks

@[expose] public section

set_option maxRecDepth 16384

noncomputable section

namespace Cert.KernelIdeal.Host

open Idealize.ShloMosaic Idealize.ShloMosaic.TcCoe Cert.KernelIdeal Cert.KernelIdeal.Gen Cert.KernelIdeal.Value Cert.KernelIdeal.Chunk Cert.Ssd

variable (m : (ℓ : Loc nD τ sig) → Buf (Elt Ideal) ℓ) (d : Dev nD)

/-- After a point: the state before the next pair of chunks, and the point's rows of the output. -/
def Left (t : Fin cfg0.N) (out : Vec Ideal S256x1024 .f32) (st : Vec Ideal S8x128x256 .f32) : Prop :=
  (∀ g n k, st ((rSt g).emb (ix3 0 n k)) = state (inp m d) (bat t) (2 * (t.val % 16) + 2) (chan g k) n) ∧
    ∀ ci l q, out (ix2 (brow ci l) q) = outv (inp m d) (bat t) (chk t ci) l q

variable {m d} (hf : Finite (inp m d))

section Lists
variable {t : Fin cfg0.N} (ld0 : List (View.Piece (Elt Ideal) S8x128x256 .f32) → Fin 8 → Vec Ideal S1x128x256 .f32)
  (L : List (View.Piece (Elt Ideal) S8x128x256 .f32))
  (H : ∀ g n k, ld0 (stPieces (loads m d t) 0 ld0 L g.val) g (ix3 0 n k) = state (inp m d) (bat t) (2 * (t.val % 16)) (chan g k) n)
include hf H

/-- The state between the two chunks. -/
theorem between (g n k) : nextSt (loads m d t) 0 g (ld0 (stPieces (loads m d t) 0 ld0 L g.val) g) (ix3 0 n k) =
    state (inp m d) (bat t) (2 * (t.val % 16) + 1) (chan g k) n :=
  nextSt_at (reads m d t 0) hf g _ (fun n k => H g n k) n k

/-- Any channel is a channel of its group. -/
theorem chan_grp (ch : Fin 2048) : chan (grp ch) ⟨ch.val % 256, by omega⟩ = ch := by
  apply Fin.ext; show 256 * (ch.val / 256) + ch.val % 256 = ch.val; omega

theorem left_of_lists (out : Vec Ideal S256x1024 .f32) (st : Vec Ideal S8x128x256 .f32)
    (ho : out = View.canon (outBoth scM0_0 (loads m d t) ld0 (ldSt scM0_1) L))
    (hs : st = View.canon (stBoth (loads m d t) ld0 (ldSt scM0_1) L)) : Left m d t out st := by
  subst ho hs
  refine ⟨fun g n k => ?_, fun ci l q => ?_⟩
  · rw [canon_both]
    exact nextSt_at (reads m d t 1) hf g _ (fun n k => between hf ld0 L H g n k) n k
  · unfold outBoth
    have e (ci : Fin 2) : (ix2 (brow ci l) q : S256x1024.Idx) = (rX ci).emb (ix2 l q) := by
      funext a; apply Fin.ext
      refine Eq.trans ?_ (ValueKit.rect_emb_unit_val _ _ _ _ a).symm
      fin_cases a
      exacts [rfl, (Nat.zero_add _).symm]
    have h1 : ci = 0 ∨ ci = 1 := by omega
    rcases h1 with rfl | rfl
    · refine (View.canon_cons_of_not_mem _ _ (fun h => ?_)).trans (((congrArg _ (e 0)).trans (View.canon_cons_emb _ _ _ _)).trans ?_)
      · rw [e 0] at h
        refine Finset.disjoint_left.mp (?_ : Disjoint (rX 1).set (rX 0).set) h ((rX 0).idx_mem (ix2 l q))
        refine Rect.unit_disjoint 0 ?_
        simp [S128x1024]
      · refine outRows_at (reads m d t 0) hf _ (fun l ch => ?_) l q
        refine (y_first scM0_0 _ ld0 L l (grp ch) ⟨ch.val % 256, by omega⟩ _ rfl (by show ch.val = 256 * (ch.val / 256) + ch.val % 256; omega)).trans ?_
        rw [normed_at (reads m d t 0) hf _ _ (fun n k => H _ n k), chan_grp hf ld0 L H]
    · refine ((congrArg _ (e 1)).trans (View.canon_cons_emb _ _ _ _)).trans ?_
      refine outRows_at (reads m d t 1) hf _ (fun l ch => ?_) l q
      refine (y_second scM0_0 scM0_1 _ ld0 L l (grp ch) ⟨ch.val % 256, by omega⟩ _ rfl (by show ch.val = 256 * (ch.val / 256) + ch.val % 256; omega)).trans ?_
      rw [normed_at (reads m d t 1) hf _ _ (fun n k => between hf ld0 L H _ n k), chan_grp hf ld0 L H]
end Lists

include hf

/-- One point, over what the point before left; a batch's first point starts from zeros. -/
theorem left_point (t : Fin cfg0.N) (acc : Vec Ideal S256x1024 .f32 × Vec Ideal S8x128x256 .f32)
    (h : ¬t.val % 16 = 0 → ∀ g n k, acc.2 ((rSt g).emb (ix3 0 n k)) = state (inp m d) (bat t) (2 * (t.val % 16)) (chan g k) n) :
    Left m d t (stAt0 m d t.val t.isLt acc).1 (stAt0 m d t.val t.isLt acc).2 := by
  by_cases h0 : t.val % 16 = 0
  · rw [stAt0_A m d t acc h0]
    refine left_of_lists hf (ldSt scM0_1) zeroSt (fun g n k => ?_) _ _ ?_ ?_
    · rw [ldSt_zero, h0]
      exact Ideal.ofBits_zero_f32
    · dsimp only; unfold out0_A_10; rw [View.read_writes_junk_eq_canon]
      exact congrArg View.canon (out_A ..)
    · dsimp only; unfold sout0_A_1; rw [View.read_writes_junk_eq_canon]
      exact congrArg View.canon (state_A ..)
  · rw [stAt0_B m d t acc h0]
    refine left_of_lists hf (ldPrev scM0_1 (Memref.isWhole_whole _) acc.2) [] (fun g n k => ?_) _ _ ?_ ?_
    · unfold ldPrev
      rw [View.readAt_eq_ld, Memref.IsWhole.read_unread]
      exact h h0 g n k
    · dsimp only; unfold out0_B_10; rw [View.read_writes_junk_eq_canon]
      exact congrArg View.canon (out_B ..)
    · dsimp only; unfold sout0_B_1; rw [View.read_writes_junk_eq_canon]
      exact congrArg View.canon (state_B ..)

/-- Every point. -/
theorem left_all (n : Nat) (hn : n < cfg0.N) : Left m d ⟨n, hn⟩ (outsAt0 m d n hn).1 (outsAt0 m d n hn).2 := by
  induction n with
  | zero =>
    rw [outsAt0_zero]
    exact left_point hf ⟨0, hn⟩ _ (fun h => absurd (Nat.zero_mod _) h)
  | succ n ih =>
    rw [outsAt0_succ]
    refine left_point hf ⟨n + 1, hn⟩ _ (fun h g p k => ?_)
    have hb : bat (⟨n + 1, hn⟩ : Fin cfg0.N) = bat ⟨n, Nat.lt_of_succ_lt hn⟩ := by
      apply Fin.ext; show (n + 1) / 16 = n / 16; replace h : ¬(n + 1) % 16 = 0 := h; omega
    have hk : 2 * ((⟨n + 1, hn⟩ : Fin cfg0.N).val % 16) = 2 * (n % 16) + 2 := by
      replace h : ¬(n + 1) % 16 = 0 := h; show 2 * ((n + 1) % 16) = _; omega
    rw [hb, hk]
    exact (ih (Nat.lt_of_succ_lt hn)).1 g p k

/-- The kernel's result: the layer's output at every position. -/
theorem result_at (r : Fin 32768) (q : Fin 1024) :
    G10 m d (ix2 r q) = outv (inp m d) ⟨r.val / 4096, by omega⟩ ⟨r.val % 4096 / 128, by omega⟩ ⟨r.val % 128, by omega⟩ q := by
  have hp : pt10Of (ix2 r q) = r.val / 256 := by
    show 1 * (r.val / 256 - 0) + 1 * (q.val / 1024 - 0) = _; omega
  have hlt : r.val / 256 < cfg0.N := lt_of_lt_of_eq (b := 128) (by omega) (show cfg0.N = 128 from N_0).symm
  have hl : loc10Of (ix2 r q) = ix2 (brow ⟨r.val % 256 / 128, by omega⟩ ⟨r.val % 128, by omega⟩) q := by
    funext a; apply Fin.ext
    fin_cases a
    · show r.val % 256 = 128 * (r.val % 256 / 128) + r.val % 128; omega
    · show q.val % 1024 = q.val; omega
  unfold G10
  rw [dif_pos (lt_of_eq_of_lt hp hlt), hl, ← outsAt0_sweep m d _ (lt_of_eq_of_lt hp hlt)]
  refine ((left_all hf _ (lt_of_eq_of_lt hp hlt)).2 _ _ q).trans ?_
  congr 1
  · apply Fin.ext; show pt10Of (ix2 r q) / 16 = _; rw [hp]; show r.val / 256 / 16 = r.val / 4096; omega
  · apply Fin.ext; show 2 * (pt10Of (ix2 r q) % 16) + r.val % 256 / 128 = r.val % 4096 / 128; rw [hp]; omega

end Cert.KernelIdeal.Host
-- ==== Proof.RefRun.lean ====
/- The reference's loop: its carried buffers, trip by trip, as the state stepped, and its result as the value the operations after
   the loop make of the last state. -/
module

public import proofs.«01_k».proof.Proof.Gen.ReferenceIdeal.Run
public import proofs.«01_k».proof.Proof.Gen.ReferenceIdeal.Step
public import proofs.«01_k».proof.Proof.Spec
public import Idealize.ShloMosaic.Lib.StableHlo.ReadAt

@[expose] public section

set_option maxRecDepth 16384

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

/-- The loop's state as a valuation has it. -/
def carried (V : Valuation τ sig (Elt Ideal)) : State Ideal where
  main_v39_3 := V (Proc.devRef .tc main_v39_3)
  main_v39_4 := V (Proc.devRef .tc main_v39_4)
  main_v39_0 := V (Proc.devRef .tc main_v39_0)
  main_v39_1 := V (Proc.devRef .tc main_v39_1)

/-- The loop's counter as a valuation has it. -/
def counter (V : Valuation τ sig (Elt Ideal)) : (⟨S_, .i32⟩ : BufTy).Contents (Elt Ideal) :=
  V (Proc.devRef .tc main_v39_2)

/-- The number `j` as the counter holds it. -/
def numeral (j : ℕ) : (⟨S_, .i32⟩ : BufTy).Contents (Elt Ideal) := constantI S_ 32 (BitVec.ofNat 32 j)

/-- The state after `j` trips from `s`. -/
def after (s : State Ideal) : ℕ → State Ideal
  | 0 => s
  | j + 1 => step j (after s j)

/-- One trip with the counter at `j` makes the `j`-th step of the state. -/
theorem carried_step (V : Valuation τ sig (Elt Ideal)) (j : ℕ) (h : counter V = numeral j) :
    carried (STEP V) = step j (carried V) := by
  have e3 : step_main_v39_3 V = b15 j (carried V) := by
    unfold Value.step_main_v39_3
    unfold counter at h
    simp only [h]
    rfl
  have e4 : step_main_v39_4 V = b22 j (carried V) := by
    unfold Value.step_main_v39_4
    unfold counter at h
    simp only [h]
    rfl
  unfold carried step
  rw [STEP_main_v39_0, STEP_main_v39_1, STEP_main_v39_3, STEP_main_v39_4, e3, e4]
  rfl

/-- One trip counts one up. -/
theorem counter_step (V : Valuation τ sig (Elt Ideal)) (j : ℕ) (h : counter V = numeral j) :
    counter (STEP V) = numeral (j + 1) := by
  refine (STEP_main_v39_2 V).trans ?_
  refine (congrArg (fun w : (⟨S_, .i32⟩ : BufTy).Contents (Elt Ideal) => addi w (constantI S_ 32 1#32)) h).trans ?_
  funext i
  exact (BitVec.ofNat_add j 1).symm

variable (m : (ℓ : Loc nD τ sig) → Buf (Elt Ideal) ℓ) (c : Dev nD)

/-- The state the loop is entered with, of the launch's arguments. -/
def entry : State Ideal :=
  init (m (c.tc.loc main_arg0)) (m (c.tc.loc main_arg2)) (m (c.tc.loc main_arg4)) (m (c.tc.loc main_arg5))

set_option maxRecDepth 65536 in
set_option maxHeartbeats 1000000 in
/-- The loop is entered with that state. -/
theorem carried_entry : carried (entryContents preI m c) = entry m c := by
  unfold carried entry init
  congr 1 <;> (simp only [entryContents, afterL_cons, afterL_nil]; after_reads_simp) <;> rfl

set_option maxRecDepth 65536 in
/-- The loop is entered with its counter at nought. -/
theorem counter_entry : counter (entryContents preI m c) = numeral 0 := by
  unfold counter
  simp only [entryContents, afterL_cons, afterL_nil]
  after_reads_simp
  rfl

/-- After `k` trips the carried buffers are the state after `k` steps, and the counter is at `k`. -/
theorem iterated (k : ℕ) : carried (STEP^[k] (entryContents preI m c)) = after (entry m c) k
    ∧ counter (STEP^[k] (entryContents preI m c)) = numeral k := by
  induction k with
  | zero => exact ⟨carried_entry m c, counter_entry m c⟩
  | succ k ih =>
    rw [Function.iterate_succ_apply']
    exact ⟨(carried_step _ k ih.2).trans (congrArg (step k) ih.1), counter_step _ k ih.2⟩

/-- What the operations after the loop leave in the result, of the states after the last trip. -/
def res : (⟨S32768x1024, .f32⟩ : BufTy).Contents (Elt Ideal) :=
  R_main_v114 (after (entry m c) 32) (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7)) (m (c.tc.loc main_arg8))

set_option maxHeartbeats 2000000 in
/-- The operations after the loop read its contents only through the carried state and the arguments. -/
theorem out_carried (V : Valuation τ sig (Elt Ideal)) : out_main_v114 V
    = R_main_v114 (carried V) (V (Proc.devRef .tc main_arg0)) (V (Proc.devRef .tc main_arg1))
        (V (Proc.devRef .tc main_arg2)) (V (Proc.devRef .tc main_arg3)) (V (Proc.devRef .tc main_arg4))
        (V (Proc.devRef .tc main_arg5)) (V (Proc.devRef .tc main_arg6)) (V (Proc.devRef .tc main_arg7))
        (V (Proc.devRef .tc main_arg8)) := by
  unfold out_main_v114 R_main_v114
  rfl

/-- The run's result is that value. -/
theorem out_eq : out_main_v114 (STEP^[32] (entryContents preI m c)) = res m c := by
  rw [out_carried, (iterated m c 32).1, iter_main_arg0 m c 32, iter_main_arg1 m c 32, iter_main_arg2 m c 32,
    iter_main_arg3 m c 32, iter_main_arg4 m c 32, iter_main_arg5 m c 32, iter_main_arg6 m c 32,
    iter_main_arg7 m c 32, iter_main_arg8 m c 32]
  rfl

end Cert.ReferenceIdeal.Loop

end
-- ==== Proof.RefParts.lean ====
/- The reference's value in stages, over the step sizes, the running sums and the stored states as arrays of their own, and each
   stage read at an index. -/
module

public import proofs.«01_k».proof.Proof.RefRun

@[expose] public section

set_option maxRecDepth 16384

noncomputable section

namespace Cert.ReferenceIdeal.Loop

open Idealize.ShloMosaic Idealize.ShloMosaic.TcCoe Idealize.ShloMosaic.StableHlo
open Cert.ReferenceIdeal Cert.ReferenceIdeal.Gen Cert.ReferenceIdeal.Step

/-- An array of numbers of the given shape. -/
abbrev Arr (s : Shape) := FVec Ideal s .f32

/-- An array of numbers of the given shape, stored short. -/
abbrev Short (s : Shape) := FVec Ideal s .bf16

variable (dt : Arr S8x4096x32) (cum : Arr S8x32x8x4x128) (st : Arr S32x8x8x4x64x128)
  (xbc : Short S8x4096x4096) (z : Short S8x4096x2048) (skip : Arr S32) (nw : Arr S2048) (wout : Arr S2048x1024)
  (x : Arr S8x4096x1024)

/-- The channels by head. -/
def heads : Arr S8x4096x32x64 :=
  shapeCast _ (extractStridedSlice S8x4096x2048 ![0, 0, 0] (extf .f32 xbc bitsLt_bf16_f32)
    slices_S8x4096x4096_S8x4096x2048_0_0_0) shapeCasts_S8x4096x2048_S8x4096x32x64

/-- The output rows `C`, by chunk and group. -/
def readers : Arr S8x32x128x8x128 :=
  shapeCast _ (extractStridedSlice S8x4096x1024 ![0, 0, 3072] (extf .f32 xbc bitsLt_bf16_f32)
    slices_S8x4096x4096_S8x4096x1024_0_0_3072) shapeCasts_S8x4096x1024_S8x32x128x8x128

/-- The input rows `B`, by chunk and group. -/
def writers : Arr S8x32x128x8x128 :=
  shapeCast _ (extractStridedSlice S8x4096x1024 ![0, 0, 2048] (extf .f32 xbc bitsLt_bf16_f32)
    slices_S8x4096x4096_S8x4096x1024_0_0_2048) shapeCasts_S8x4096x1024_S8x32x128x8x128

/-- The channels times their head's step size, by chunk. -/
def stepped : Arr S8x32x128x8x4x64 :=
  shapeCast _ (mulf (heads xbc) (broadcastInDim S8x4096x32x64 ![0, 1, 2, 3] bcast_S8x4096x32x1_S8x4096x32x64_0_1_2_3
    (broadcastInDim S8x4096x32x1 ![0, 1, 2] bcast_S8x4096x32_S8x4096x32x1_0_1_2 dt)))
    shapeCasts_S8x4096x32x64_S8x32x128x8x4x64

/-- The decay from one position of a chunk to another: nothing above the diagonal. -/
def decays : Arr S8x32x8x4x128x128 :=
  Host.exp (select (broadcastInDim S8x32x8x4x128x128 ![4, 5] bcast_S128x128_S8x32x8x4x128x128_4_5
      (select (cmpi .sge (addi (iotaInDim S128x128 32 0) (broadcastInDim S128x128 ![] bcast_S_S128x128 (constantI S_ 32 0#32)))
          (iotaInDim S128x128 32 1))
        (broadcastInDim S128x128 ![] bcast_S_S128x128 (constantI S_ 1 1#1))
        (broadcastInDim S128x128 ![] bcast_S_S128x128 (constantI S_ 1 0#1))))
    (subf (broadcastInDim S8x32x8x4x128x128 ![0, 1, 2, 3, 4, 5] bcast_S8x32x8x4x128x1_S8x32x8x4x128x128_0_1_2_3_4_5
        (broadcastInDim S8x32x8x4x128x1 ![0, 1, 2, 3, 4] bcast_S8x32x8x4x128_S8x32x8x4x128x1_0_1_2_3_4 cum))
      (broadcastInDim S8x32x8x4x128x128 ![0, 1, 2, 3, 4, 5] bcast_S8x32x8x4x1x128_S8x32x8x4x128x128_0_1_2_3_4_5
        (broadcastInDim S8x32x8x4x1x128 ![0, 1, 2, 3, 5] bcast_S8x32x8x4x128_S8x32x8x4x1x128_0_1_2_3_5 cum)))
    (broadcastInDim S8x32x8x4x128x128 ![] bcast_S_S8x32x8x4x128x128 (id (constant S_ .f32 0xFF800000#32))))

/-- A chunk's positions weighed against one another. -/
def scores : Arr S8x32x8x4x128x128 :=
  mulf (broadcastInDim S8x32x8x4x128x128 ![0, 1, 2, 3, 4, 5] bcast_S8x32x8x1x128x128_S8x32x8x4x128x128_0_1_2_3_4_5
      (broadcastInDim S8x32x8x1x128x128 ![0, 1, 2, 4, 5] bcast_S8x32x8x128x128_S8x32x8x1x128x128_0_1_2_4_5
        (Host.dotGeneral dot_S8x32x128x8x128_S8x32x128x8x128_S8x32x8x128x128_4_4_2_2_013_013 none (readers xbc) (writers xbc))))
    (decays cum)

/-- What a chunk's positions take of one another. -/
def inner : Arr S8x32x128x8x4x64 :=
  transpose S8x32x128x8x4x64 [0, 1, 5, 2, 3, 4]
    (Host.dotGeneral dot_S8x32x128x8x4x64_S8x32x8x4x128x128_S8x32x8x4x64x128_2_5_5_4_0134_0123 none (stepped dt xbc)
      (scores cum xbc)) transposes_S8x32x8x4x64x128_S8x32x128x8x4x64_0_1_5_2_3_4

/-- What they take of the state their chunk starts from. -/
def outer : Arr S8x32x128x8x4x64 :=
  mulf (transpose S8x32x128x8x4x64 [0, 1, 5, 2, 3, 4]
      (Host.dotGeneral dot_S8x32x8x4x64x128_S8x32x128x8x128_S8x32x8x4x64x128_5_4_34_2_012_013 none
        (transpose S8x32x8x4x64x128 [1, 0, 2, 3, 4, 5] st transposes_S32x8x8x4x64x128_S8x32x8x4x64x128_1_0_2_3_4_5)
        (readers xbc)) transposes_S8x32x8x4x64x128_S8x32x128x8x4x64_0_1_5_2_3_4)
    (broadcastInDim S8x32x128x8x4x64 ![0, 1, 2, 3, 4, 5] bcast_S8x32x128x8x4x1_S8x32x128x8x4x64_0_1_2_3_4_5
      (broadcastInDim S8x32x128x8x4x1 ![0, 1, 2, 3, 4] bcast_S8x32x128x8x4_S8x32x128x8x4x1_0_1_2_3_4
        (transpose S8x32x128x8x4 [0, 1, 4, 2, 3] (Host.exp cum) transposes_S8x32x8x4x128_S8x32x128x8x4_0_1_4_2_3)))

/-- The recurrence's output with the channels' own share. -/
def mixed : Arr S8x4096x2048 :=
  shapeCast _ (addf (shapeCast _ (addf (inner dt cum xbc) (outer cum st xbc)) shapeCasts_S8x32x128x8x4x64_S8x4096x32x64)
    (mulf (heads xbc) (broadcastInDim S8x4096x32x64 ![0, 1, 2, 3] bcast_S1x1x32x1_S8x4096x32x64_0_1_2_3
      (broadcastInDim S1x1x32x1 ![2, 3] bcast_S32x1_S1x1x32x1_2_3
        (broadcastInDim S32x1 ![0] bcast_S32_S32x1_0 skip))))) shapeCasts_S8x4096x32x64_S8x4096x2048

/-- A gated array, of the array and the gates. -/
def gated (y : Arr S8x4096x2048) : Arr S8x4096x2048 :=
  mulf y (mulf (extf .f32 z bitsLt_bf16_f32) (Host.divf (broadcastInDim S8x4096x2048 ![] bcast_S_S8x4096x2048
      (constant S_ .f32 0x3F800000#32))
    (addf (broadcastInDim S8x4096x2048 ![] bcast_S_S8x4096x2048 (constant S_ .f32 0x3F800000#32))
      (Host.exp (Host.negf (extf .f32 z bitsLt_bf16_f32))))))

/-- An array by groups of channels. -/
def grouped (y : Arr S8x4096x2048) : Arr S8x4096x8x256 := shapeCast _ y shapeCasts_S8x4096x2048_S8x4096x8x256

/-- An array scaled to unit mean square in each group, times the weights. -/
def normed (y : Arr S8x4096x2048) : Arr S8x4096x2048 :=
  mulf (shapeCast _ (mulf (grouped y) (broadcastInDim S8x4096x8x256 ![0, 1, 2, 3] bcast_S8x4096x8x1_S8x4096x8x256_0_1_2_3
      (Host.rsqrt (addf (Host.divf (broadcastInDim S8x4096x8x1 ![0, 1, 2] bcast_S8x4096x8_S8x4096x8x1_0_1_2
            (Host.reduceAdd (mulf (grouped y) (grouped y)) (constant S_ .f32 0x00000000#32)
              reducesTo_S8x4096x8x256_S8x4096x8_d3 h_S_))
          (broadcastInDim S8x4096x8x1 ![] bcast_S_S8x4096x8x1 (constant S_ .f32 0x43800000#32)))
        (broadcastInDim S8x4096x8x1 ![] bcast_S_S8x4096x8x1 (constant S_ .f32 0x3727C5AC#32))))))
      shapeCasts_S8x4096x8x256_S8x4096x2048)
    (broadcastInDim S8x4096x2048 ![0, 1, 2] bcast_S1x1x2048_S8x4096x2048_0_1_2
      (broadcastInDim S1x1x2048 ![2] bcast_S2048_S1x1x2048_2 nw))

/-- The projected array on the residual, as rows. -/
def projected (y : Arr S8x4096x2048) : Arr S32768x1024 :=
  shapeCast _ (addf x (Host.dotGeneral dot_S8x4096x2048_S2048x1024_S8x4096x1024_2_0_01_1_n_n none y wout))
    shapeCasts_S8x4096x1024_S32768x1024

set_option maxHeartbeats 2000000 in
/-- The result is the stages in turn. -/
theorem staged (s : State Ideal) (dtraw : Arr S8x4096x32) (bias alog : Arr S32) :
    R_main_v114 s xbc z dtraw x bias alog skip nw wout
      = projected wout x (normed nw (gated z (mixed (A_main_v10 (F := Ideal) xbc dtraw bias alog) (A_main_v22 (F := Ideal) xbc dtraw bias alog)
          s.main_v39_4 xbc skip))) := by
  unfold R_main_v114 projected normed grouped gated mixed inner outer scores decays stepped readers writers heads
  rfl

end Cert.ReferenceIdeal.Loop

end
-- ==== Proof.RunningSum.lean ====
/- The host's running sum along the last of five axes, printed as a window of the whole length padded low by one less: entry `l` is
   the sum of the entries up to and including `l`. -/
module

public import proofs.«01_k».proof.Proof.Spec
public import Idealize.ShloMosaic.Lib.StableHlo.ReadAt

@[expose] public section

set_option maxRecDepth 16384

noncomputable section

namespace Cert.Ssd

open Idealize.ShloMosaic Idealize.ShloMosaic.TcCoe

/-- Adding a list's values in turn adds their sum. -/
theorem foldl_sum {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window of 128 places ending at `l` holds the entries up to `l`. -/
theorem window_sum (f : Fin 128 → EReal) (l : Fin 128) :
    (∑ k : Fin 128, if h : 127 ≤ l.val + k.val then f ⟨l.val + k.val - 127, by omega⟩ else 0)
      = ∑ s : Fin 128, if s ≤ l then f s else 0 := by
  classical
  have e : ∀ k : Fin 128, (if h : 127 ≤ l.val + k.val then f ⟨l.val + k.val - 127, by omega⟩ else 0)
      = if 127 ≤ l.val + k.val then f (Fin.ofNat 128 (l.val + k.val - 127)) else 0 := by
    intro k
    split
    · next h => exact congrArg f (Fin.ext (Nat.mod_eq_of_lt (by omega)).symm)
    · rfl
  rw [Finset.sum_congr rfl fun k _ => e k, ← Finset.sum_filter, ← Finset.sum_filter]
  refine Finset.sum_nbij' (fun k => Fin.ofNat 128 (l.val + k.val - 127)) (fun s => Fin.ofNat 128 (s.val + 127 - l.val)) ?_ ?_ ?_ ?_ ?_
  · intro k hk
    have hk := (Finset.mem_filter.mp hk).2
    refine Finset.mem_filter.mpr ⟨Finset.mem_univ _, ?_⟩
    show (l.val + k.val - 127) % 128 ≤ l.val
    omega
  · intro s hs
    have hs : s.val ≤ l.val := (Finset.mem_filter.mp hs).2
    refine Finset.mem_filter.mpr ⟨Finset.mem_univ _, ?_⟩
    show 127 ≤ l.val + (s.val + 127 - l.val) % 128
    omega
  · intro k hk
    have hk := (Finset.mem_filter.mp hk).2
    refine Fin.ext ?_
    show ((l.val + k.val - 127) % 128 + 127 - l.val) % 128 = k.val
    omega
  · intro s hs
    have hs : s.val ≤ l.val := (Finset.mem_filter.mp hs).2
    refine Fin.ext ?_
    show (l.val + (s.val + 127 - l.val) % 128 - 127) % 128 = s.val
    omega
  · intro k _; rfl

/-- The shape of the summed arrays. -/
abbrev sums : Shape := ⟨5, ![8, 32, 8, 4, 128]⟩
/-- The shape of the window. -/
abbrev win : Shape := ⟨5, ![1, 1, 1, 1, 128]⟩

/-- The places of the window are its last coordinates. -/
def winLane : win.Idx ≃ Fin 128 where
  toFun w := w 4
  invFun k := ix5 0 0 0 0 k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl
  right_inv k := rfl

/-- The running sum read at an index. -/
theorem running_at {u : Shape} (x : FVec Ideal sums .f32) (init : u.Idx → EReal)
    (h : sums.ReduceWindows ![1, 1, 1, 1, 128] ![1, 1, 1, 1, 1] ![0, 0, 0, 0, 127] ![0, 0, 0, 0, 0] sums) (hu : 0 < u.numel)
    (h0 : init (Shape.Idx.first hu) = 0) (b : Fin 8) (c : Fin 32) (g : Fin 8) (k : Fin 4) (l : Fin 128) :
    Host.reduceWindowAdd (F := Ideal) (φ := .f32) ![1, 1, 1, 1, 128] ![1, 1, 1, 1, 1] ![0, 0, 0, 0, 127] ![0, 0, 0, 0, 0] x init h hu
        (ix5 b c g k l)
      = ∑ s : Fin 128, if s ≤ l then x (ix5 b c g k s) else 0 := by
  unfold Host.reduceWindowAdd
  rw [Ideal.hostReduceWindowAdd_def]
  unfold Ideal.hostReduceWindowAdd Host.reduceWindow
  refine (foldl_sum _ _ _).trans ?_
  rw [← Fin.sum_univ_def]
  refine (congrArg (· + _) h0).trans ((zero_add _).trans ?_)
  refine (Fintype.sum_equiv (win.rowMajor.symm.trans winLane) _
    (fun w : Fin 128 => if h : 127 ≤ l.val + w.val then x (ix5 b c g k ⟨l.val + w.val - 127, by omega⟩) else 0) ?_).trans
    (window_sum (fun s => x (ix5 b c g k s)) l)
  intro n
  have h4 : ∀ v : win.Idx, (v 0).val = 0 ∧ (v 1).val = 0 ∧ (v 2).val = 0 ∧ (v 3).val = 0 ∧ (v 4).val < 128 := fun v =>
    ⟨Nat.lt_one_iff.mp (v 0).isLt, Nat.lt_one_iff.mp (v 1).isLt, Nat.lt_one_iff.mp (v 2).isLt, Nat.lt_one_iff.mp (v 3).isLt,
      (v 4).isLt⟩
  obtain ⟨w0, w1, w2, w3, w4⟩ := h4 (win.rowMajor.symm n)
  show _ = if h : 127 ≤ l.val + (win.rowMajor.symm n 4).val then
    x (ix5 b c g k ⟨l.val + (win.rowMajor.symm n 4).val - 127, by
      have := l.isLt; exact lt_of_le_of_lt (Nat.sub_le_sub_right (Nat.add_le_add (Nat.le_of_lt_succ l.isLt) (Nat.le_of_lt_succ w4)) 127) (by decide)⟩) else 0
  have hb := b.isLt
  have hc := c.isLt
  have hg := g.isLt
  have hk := k.isLt
  have hl := l.isLt
  split
  · next hin =>
    have hin4 : 127 ≤ l.val * 1 + (win.rowMajor.symm n 4).val := (hin 4).1
    rw [dif_pos (by omega)]
    refine congrArg x (funext fun a => Fin.ext ?_)
    match a with
    | ⟨0, _⟩ => show b.val * 1 + (win.rowMajor.symm n 0).val - 0 = b.val; omega
    | ⟨1, _⟩ => show c.val * 1 + (win.rowMajor.symm n 1).val - 0 = c.val; omega
    | ⟨2, _⟩ => show g.val * 1 + (win.rowMajor.symm n 2).val - 0 = g.val; omega
    | ⟨3, _⟩ => show k.val * 1 + (win.rowMajor.symm n 3).val - 0 = k.val; omega
    | ⟨4, _⟩ => show l.val * 1 + (win.rowMajor.symm n 4).val - 127 = l.val + (win.rowMajor.symm n 4).val - 127; omega
  · next hin =>
    rw [dif_neg fun hle => hin fun a => ?_]
    · exact h0
    · match a with
      | ⟨0, _⟩ => show 0 ≤ b.val * 1 + (win.rowMajor.symm n 0).val ∧ b.val * 1 + (win.rowMajor.symm n 0).val - 0 < 8; omega
      | ⟨1, _⟩ => show 0 ≤ c.val * 1 + (win.rowMajor.symm n 1).val ∧ c.val * 1 + (win.rowMajor.symm n 1).val - 0 < 32; omega
      | ⟨2, _⟩ => show 0 ≤ g.val * 1 + (win.rowMajor.symm n 2).val ∧ g.val * 1 + (win.rowMajor.symm n 2).val - 0 < 8; omega
      | ⟨3, _⟩ => show 0 ≤ k.val * 1 + (win.rowMajor.symm n 3).val ∧ k.val * 1 + (win.rowMajor.symm n 3).val - 0 < 4; omega
      | ⟨4, _⟩ => show 127 ≤ l.val * 1 + (win.rowMajor.symm n 4).val ∧ l.val * 1 + (win.rowMajor.symm n 4).val - 127 < 128; omega

end Cert.Ssd

end
-- ==== Proof.RefLoop.lean ====
/- The reference read at an index: the step sizes, the running sums, and trip by trip the states the loop carries and stores. -/
module

public import proofs.«01_k».proof.Proof.RefParts
public import proofs.«01_k».proof.Proof.RunningSum
public import Idealize.ShloMosaic.Lib.WordCmp

@[expose] public section

set_option maxRecDepth 16384

noncomputable section

namespace Cert.ReferenceIdeal.Loop

open Idealize.ShloMosaic Idealize.ShloMosaic.TcCoe Idealize.ShloMosaic.StableHlo
open Cert.ReferenceIdeal Cert.ReferenceIdeal.Gen Cert.ReferenceIdeal.Step Cert.Ssd

/-- Head `k` of group `g`. -/
def hd (g : Fin 8) (k : Fin 4) : Fin 32 := ⟨g.val * 4 + k.val, by omega⟩
/-- Channel `p` of that head. -/
def chn (g : Fin 8) (k : Fin 4) (p : Fin 64) : Fin 2048 := ⟨(g.val * 4 + k.val) * 64 + p.val, by omega⟩

theorem head_chn (g : Fin 8) (k : Fin 4) (p : Fin 64) : head (chn g k p) = hd g k :=
  Fin.ext (by show ((g.val * 4 + k.val) * 64 + p.val) / 64 = g.val * 4 + k.val; omega)
theorem grp_chn (g : Fin 8) (k : Fin 4) (p : Fin 64) : grp (chn g k p) = g :=
  Fin.ext (by show ((g.val * 4 + k.val) * 64 + p.val) / 256 = g.val; omega)

/-! ## One trip -/

variable (s : State Ideal) (j : ℕ) (hj : j < 32)

include hj in
theorem word_toInt : (BitVec.ofNat 32 j).toInt = (j : Int) := WordCmp.toInt_ofNat_of_lt (by omega)

include hj in
/-- The decay a trip reads. -/
theorem b10_at (b g : Fin 8) (k : Fin 4) : b10 j s (ix4 0 b g k) = s.main_v39_1 (ix4 ⟨j, hj⟩ b g k) := by
  unfold b10
  have hk : Shape.Slices S32x8x8x4 ![j, 0, 0, 0] S1x8x8x4 := ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 4 ≤ 4; omega⟩
  refine (congrFun (WordCmp.dynamicSlice_eq_extract S1x8x8x4 s.main_v39_1 _ _ ![j, 0, 0, 0] hk fun a => ?_) _).trans ?_
  · match a with
    | ⟨0, _⟩ => exact word_toInt j hj
    | ⟨1, _⟩ => rfl
    | ⟨2, _⟩ => rfl
    | ⟨3, _⟩ => rfl
  · unfold extractStridedSlice
    refine congrArg s.main_v39_1 (funext fun a => Fin.ext ?_)
    match a with
    | ⟨0, _⟩ => rfl
    | ⟨1, _⟩ => exact Nat.zero_add _
    | ⟨2, _⟩ => exact Nat.zero_add _
    | ⟨3, _⟩ => exact Nat.zero_add _

include hj in
/-- The chunk's state a trip reads. -/
theorem b5_at (b g : Fin 8) (k : Fin 4) (p : Fin 64) (n : Fin 128) :
    b5 j s (ix6 0 b g k p n) = s.main_v39_0 (ix6 ⟨j, hj⟩ b g k p n) := by
  unfold b5
  have hk : Shape.Slices S32x8x8x4x64x128 ![j, 0, 0, 0, 0, 0] S1x8x8x4x64x128 := ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 4 ≤ 4; omega
    | ⟨4, _⟩ => show 0 + 64 ≤ 64; omega
    | ⟨5, _⟩ => show 0 + 128 ≤ 128; omega⟩
  refine (congrFun (WordCmp.dynamicSlice_eq_extract S1x8x8x4x64x128 s.main_v39_0 _ _ ![j, 0, 0, 0, 0, 0] hk fun a => ?_) _).trans ?_
  · match a with
    | ⟨0, _⟩ => exact word_toInt j hj
    | ⟨1, _⟩ => rfl
    | ⟨2, _⟩ => rfl
    | ⟨3, _⟩ => rfl
    | ⟨4, _⟩ => rfl
    | ⟨5, _⟩ => rfl
  · unfold extractStridedSlice
    refine congrArg s.main_v39_0 (funext fun a => Fin.ext ?_)
    match a with
    | ⟨0, _⟩ => rfl
    | ⟨1, _⟩ => exact Nat.zero_add _
    | ⟨2, _⟩ => exact Nat.zero_add _
    | ⟨3, _⟩ => exact Nat.zero_add _
    | ⟨4, _⟩ => exact Nat.zero_add _
    | ⟨5, _⟩ => exact Nat.zero_add _

include hj in
/-- The state a trip leaves. -/
theorem next_at (b g : Fin 8) (k : Fin 4) (p : Fin 64) (n : Fin 128) :
    (step j s).main_v39_3 (ix5 b g k p n)
      = s.main_v39_3 (ix5 b g k p n) * s.main_v39_1 (ix4 ⟨j, hj⟩ b g k) + s.main_v39_0 (ix6 ⟨j, hj⟩ b g k p n) := by
  rw [step_main_v39_3, ← b10_at s j hj, ← b5_at s j hj]
  pointwise [b15, b14, b13, b12, b11, b6]

include hj in
/-- The states a trip leaves stored: the one it found goes to its own row. -/
theorem stored_at (c : Fin 32) (b g : Fin 8) (k : Fin 4) (p : Fin 64) (n : Fin 128) :
    (step j s).main_v39_4 (ix6 c b g k p n)
      = if c.val = j then s.main_v39_3 (ix5 b g k p n) else s.main_v39_4 (ix6 c b g k p n) := by
  rw [step_main_v39_4]
  unfold b22
  have hk : Shape.Slices S32x8x8x4x64x128 ![j, 0, 0, 0, 0, 0] S1x8x8x4x64x128 := ⟨rfl, fun a => by
    match a with
    | ⟨0, _⟩ => show j + 1 ≤ 32; omega
    | ⟨1, _⟩ => show 0 + 8 ≤ 8; omega
    | ⟨2, _⟩ => show 0 + 8 ≤ 8; omega
    | ⟨3, _⟩ => show 0 + 4 ≤ 4; omega
    | ⟨4, _⟩ => show 0 + 64 ≤ 64; omega
    | ⟨5, _⟩ => show 0 + 128 ≤ 128; omega⟩
  refine (congrFun (WordCmp.dynamicUpdateSlice_eq_update s.main_v39_4 (b16 j s) _ _ ![j, 0, 0, 0, 0, 0] hk fun a => ?_) _).trans ?_
  · match a with
    | ⟨0, _⟩ => exact word_toInt j hj
    | ⟨1, _⟩ => rfl
    | ⟨2, _⟩ => rfl
    | ⟨3, _⟩ => rfl
    | ⟨4, _⟩ => rfl
    | ⟨5, _⟩ => rfl
  · have hc := c.isLt
    have hb := b.isLt
    have hg := g.isLt
    have hk' := k.isLt
    have hp := p.isLt
    have hn := n.isLt
    unfold updateSlice
    split
    · next hin =>
      have h0 : j ≤ c.val ∧ c.val < j + 1 := hin 0
      rw [if_pos (by omega)]
      have e : b16 j s (ix6 0 b g k p n) = s.main_v39_3 (ix5 b g k p n) := by
        pointwise [b16]
      refine Eq.trans (congrArg (b16 j s) (funext fun a => Fin.ext ?_)) e
      match a with
      | ⟨0, _⟩ => show c.val - j = 0; omega
      | ⟨1, _⟩ => rfl
      | ⟨2, _⟩ => rfl
      | ⟨3, _⟩ => rfl
      | ⟨4, _⟩ => rfl
      | ⟨5, _⟩ => rfl
    · next hin =>
      rw [if_neg fun e => hin fun a => ?_]
      match a with
      | ⟨0, _⟩ => show j ≤ c.val ∧ c.val < j + 1; omega
      | ⟨1, _⟩ => show 0 ≤ b.val ∧ b.val < 0 + 8; omega
      | ⟨2, _⟩ => show 0 ≤ g.val ∧ g.val < 0 + 8; omega
      | ⟨3, _⟩ => show 0 ≤ k.val ∧ k.val < 0 + 4; omega
      | ⟨4, _⟩ => show 0 ≤ p.val ∧ p.val < 0 + 64; omega
      | ⟨5, _⟩ => show 0 ≤ n.val ∧ n.val < 0 + 128; omega

end Cert.ReferenceIdeal.Loop

end
-- ==== Proof.RefRead.lean ====
/- The reference's result at a row and a column is the recurrence's number there. -/
module

public import proofs.«01_k».proof.Proof.RefLoop

@[expose] public section

set_option maxRecDepth 16384

noncomputable section

namespace Cert.ReferenceIdeal.Loop

open Idealize.ShloMosaic Idealize.ShloMosaic.TcCoe Idealize.ShloMosaic.StableHlo
open Cert.ReferenceIdeal Cert.ReferenceIdeal.Gen Cert.ReferenceIdeal.Step Cert.Ssd

variable (m : (ℓ : Loc nD τ sig) → Buf (Elt Ideal) ℓ) (d : Dev nD)

/-- The reference's arguments by coordinates. -/
def given : Inp where
  xbc b s ch := m (d.tc.loc main_arg0) (ix3 b s ch)
  z b s ch := m (d.tc.loc main_arg1) (ix3 b s ch)
  dt b s h := m (d.tc.loc main_arg2) (ix3 b s h)
  x b s q := m (d.tc.loc main_arg3) (ix3 b s q)
  bias h := m (d.tc.loc main_arg4) (ix1 h)
  alog h := m (d.tc.loc main_arg5) (ix1 h)
  skip h := m (d.tc.loc main_arg6) (ix1 h)
  nw ch := m (d.tc.loc main_arg7) (ix1 ch)
  wout ch q := m (d.tc.loc main_arg8) (ix2 ch q)

/-- The step sizes. -/
def dts : Arr S8x4096x32 :=
  A_main_v10 (F := Ideal) (m (d.tc.loc main_arg0)) (m (d.tc.loc main_arg2)) (m (d.tc.loc main_arg4)) (m (d.tc.loc main_arg5))
/-- The running sums. -/
def cums : Arr S8x32x8x4x128 :=
  A_main_v22 (F := Ideal) (m (d.tc.loc main_arg0)) (m (d.tc.loc main_arg2)) (m (d.tc.loc main_arg4)) (m (d.tc.loc main_arg5))

theorem dts_at (b : Fin 8) (c : Fin 32) (l : Fin 128) (h : Fin 32) :
    dts m d (ix3 b (pos c l) h) = stepv (given m d) b c l h := by
  unfold dts
  pointwise [A_main_v10, A_main_call0_v4, A_main_call0_v3, A_main_call0_v6, A_main_call0_v11, A_main_call0_v1, A_main_call0_v10,
    A_main_call0_v9, A_main_call0_v8, A_main_call0_v7, K_main_call0_v2, K_main_call0_v0, K_main_call0_v5, K_main_call0_cst,
    A_main_v9, A_main_v8, A_main_v7]
  exact if_neg fun h => h rfl

theorem cums_at (b : Fin 8) (c : Fin 32) (g : Fin 8) (k : Fin 4) (l : Fin 128) :
    cums m d (ix5 b c g k l) = cumv (given m d) b c l (hd g k) := by
  unfold cums A_main_v22
  refine (running_at _ _ _ _ ?_ b c g k l).trans ?_
  · pointwise [K_main_call1_call0_v0, K_main_call1_call0_cst]
  · refine Finset.sum_congr rfl fun s _ => ?_
    have e : A_main_v21 (F := Ideal) (m (d.tc.loc main_arg0)) (m (d.tc.loc main_arg2)) (m (d.tc.loc main_arg4))
        (m (d.tc.loc main_arg5)) (ix5 b c g k s) = dts m d (ix3 b (pos c s) (hd g k)) *
          (-(Ideal.exp ((given m d).alog (hd g k)))) := by
      unfold dts
      pointwise [A_main_v21, A_main_v20, A_main_v19, A_main_v18, A_main_v17, A_main_v12, A_main_v11]
      rfl
    rw [e, dts_at]
    rfl

/-- What a chunk adds to the state. -/
theorem inflow_at (b : Fin 8) (c : Fin 32) (g : Fin 8) (k : Fin 4) (p : Fin 64) (n : Fin 128) :
    (entry m d).main_v39_0 (ix6 c b g k p n) = inflow (given m d) b c (chn g k p) n := by
  have e : (entry m d).main_v39_0 (ix6 c b g k p n)
      = ∑ l : Fin 128, Ideal.exp (cums m d (ix5 b c g k 127) - cums m d (ix5 b c g k l)) *
          ((given m d).xbc b (pos c l) ⟨(g.val * 4 + k.val) * 64 + p.val, by omega⟩ * dts m d (ix3 b (pos c l) (hd g k))) *
          (given m d).xbc b (pos c l) ⟨2048 + (g.val * 128 + n.val), by omega⟩ := by
    unfold entry init cums dts given
    pointwise [A_main_v36, A_main_v31, A_main_v30, A_main_v29, A_main_v28, A_main_v27, A_main_v26, A_main_v25, A_main_v24,
      A_main_v23, A_main_v16, A_main_v15, A_main_v14, A_main_v13, A_main_v2, A_main_v1, A_main_v0, A_main_v4, A_main_v3]
    rfl
  refine e.trans (Finset.sum_congr rfl fun l _ => ?_)
  rw [cums_at, cums_at, dts_at, head_chn, grp_chn]
  unfold xv bv
  have hb : (⟨2048 + (g.val * 128 + n.val), by omega⟩ : Fin 4096) = ⟨2048 + (128 * g.val + n.val), by omega⟩ :=
    Fin.ext (by show 2048 + (g.val * 128 + n.val) = 2048 + (128 * g.val + n.val); omega)
  rw [hb]
  rfl

/-- How much of the state a chunk keeps. -/
theorem fade_at (b : Fin 8) (c : Fin 32) (g : Fin 8) (k : Fin 4) :
    (entry m d).main_v39_1 (ix4 c b g k) = Ideal.exp (cumv (given m d) b c 127 (hd g k)) := by
  refine Eq.trans ?_ (congrArg Ideal.exp (cums_at m d b c g k 127))
  unfold entry init cums
  pointwise [A_main_v37, A_main_v34, A_main_v33, A_main_v32]

/-- The state the loop starts from. -/
theorem empty_at (b g : Fin 8) (k : Fin 4) (p : Fin 64) (n : Fin 128) :
    (entry m d).main_v39_3 (ix5 b g k p n) = 0 := by
  unfold entry init
  pointwise [K_main_v35, K_main_cst]

/-- The trips leave what the chunks add and keep. -/
theorem after_kept (s : State Ideal) (j : ℕ) :
    (after s j).main_v39_0 = s.main_v39_0 ∧ (after s j).main_v39_1 = s.main_v39_1 := by
  induction j with
  | zero => exact ⟨rfl, rfl⟩
  | succ j ih =>
    exact ⟨Eq.trans rfl ih.1, Eq.trans rfl ih.2⟩

/-- After `j` trips the carried state is the recurrence's before chunk `j`. -/
theorem carried_at (j : ℕ) (hj : j ≤ 32) (b g : Fin 8) (k : Fin 4) (p : Fin 64) (n : Fin 128) :
    (after (entry m d) j).main_v39_3 (ix5 b g k p n) = state (given m d) b j (chn g k p) n := by
  induction j with
  | zero => exact empty_at m d b g k p n
  | succ j ih =>
    have hj' : j < 32 := hj
    refine (next_at (after (entry m d) j) j hj' b g k p n).trans ?_
    rw [ih (by omega), (after_kept _ j).1, (after_kept _ j).2, inflow_at, fade_at]
    have hc : (⟨j, hj'⟩ : Fin 32) = Fin.ofNat 32 j := Fin.ext (Nat.mod_eq_of_lt hj').symm
    rw [hc, ← head_chn g k p]
    rfl

/-- After `j` trips the rows below `j` hold the states before their chunks. -/
theorem rows_at (j : ℕ) (hj : j ≤ 32) (c : Fin 32) (hc : c.val < j) (b g : Fin 8) (k : Fin 4) (p : Fin 64) (n : Fin 128) :
    (after (entry m d) j).main_v39_4 (ix6 c b g k p n) = state (given m d) b c.val (chn g k p) n := by
  induction j with
  | zero => exact absurd hc (Nat.not_lt_zero _)
  | succ j ih =>
    refine (stored_at (after (entry m d) j) j hj c b g k p n).trans ?_
    split
    · next e => rw [carried_at m d j (by omega), e]
    · next e => exact ih (by omega) (by omega)

/-! ## After the loop -/

/-- The diagonal and below, as the words say it. -/
theorem below (l s : Fin 128) (v w : EReal) :
    Scalar.select (Scalar.select (IntOp.cmpi CmpIPredicate.sge (IntOp.addi (BitVec.ofNat 32 l.val) 0#32) (BitVec.ofNat 32 s.val))
      1#1 0#1) v w = if s ≤ l then v else w := by
  have e : IntOp.addi (BitVec.ofNat 32 l.val) 0#32 = BitVec.ofNat 32 l.val := BitVec.add_zero _
  rw [e, WordCmp.cmpi_sge_ofNat (by omega) (by omega)]
  by_cases h : s ≤ l
  · rw [if_pos h, decide_eq_true (show s.val ≤ l.val from h)]; rfl
  · rw [if_neg h, decide_eq_false (show ¬ s.val ≤ l.val from h)]; rfl

/-- What a position takes of another. -/
theorem scores_at (b : Fin 8) (c : Fin 32) (g : Fin 8) (k : Fin 4) (l s : Fin 128) :
    scores (cums m d) (m (d.tc.loc main_arg0)) (ix6 b c g k l s) = scorev (given m d) b c l s g (hd g k) := by
  have e : scores (cums m d) (m (d.tc.loc main_arg0)) (ix6 b c g k l s)
      = (∑ n : Fin 128, (given m d).xbc b (pos c l) ⟨3072 + (g.val * 128 + n.val), by omega⟩ *
          (given m d).xbc b (pos c s) ⟨2048 + (g.val * 128 + n.val), by omega⟩) *
        Ideal.exp (Scalar.select (Scalar.select (IntOp.cmpi CmpIPredicate.sge (IntOp.addi (BitVec.ofNat 32 l.val) 0#32)
          (BitVec.ofNat 32 s.val)) 1#1 0#1) (cums m d (ix5 b c g k l) - cums m d (ix5 b c g k s)) ⊥) := by
    unfold given
    pointwise [scores, readers, writers, decays]
    rfl
  rw [e, below, cums_at, cums_at]
  unfold scorev cv bv
  refine congrArg (· * _) (Finset.sum_congr rfl fun n _ => ?_)
  have hb : ∀ o : ℕ, o ≤ 3072 → (o + (g.val * 128 + n.val)) = (o + (128 * g.val + n.val)) := fun o _ => by omega
  simp only [hb 2048 (by decide), hb 3072 (by decide)]

/-- The recurrence's output. -/
theorem mixed_at (b : Fin 8) (c : Fin 32) (l : Fin 128) (ch : Fin 2048) :
    mixed (dts m d) (cums m d) (after (entry m d) 32).main_v39_4 (m (d.tc.loc main_arg0)) (m (d.tc.loc main_arg6))
      (ix3 b (pos c l) ch) = mixv (given m d) b c l ch := by
  obtain ⟨g, k, p, rfl⟩ : ∃ g k p, ch = chn g k p :=
    ⟨⟨ch.val / 256, by omega⟩, ⟨ch.val / 64 % 4, by omega⟩, ⟨ch.val % 64, by omega⟩,
      Fin.ext (by show ch.val = (ch.val / 256 * 4 + ch.val / 64 % 4) * 64 + ch.val % 64; omega)⟩
  have e : mixed (dts m d) (cums m d) (after (entry m d) 32).main_v39_4 (m (d.tc.loc main_arg0)) (m (d.tc.loc main_arg6))
      (ix3 b (pos c l) (chn g k p))
      = ∑ s : Fin 128, (given m d).xbc b (pos c s) ⟨(chn g k p).val, by omega⟩ * dts m d (ix3 b (pos c s) (hd g k)) *
            scores (cums m d) (m (d.tc.loc main_arg0)) (ix6 b c g k l s) +
        (∑ n : Fin 128, (after (entry m d) 32).main_v39_4 (ix6 c b g k p n) *
            (given m d).xbc b (pos c l) ⟨3072 + (g.val * 128 + n.val), by omega⟩) *
          Ideal.exp (cums m d (ix5 b c g k l)) +
        (given m d).xbc b (pos c l) ⟨(chn g k p).val, by omega⟩ * (given m d).skip (hd g k) := by
    unfold given
    pointwise [mixed, inner, outer, heads, readers, stepped]
    have n1 : (pos c l).val / 128 = c.val := by show (c.val * 128 + l.val) / 128 = c.val; omega
    have n2 : (pos c l).val % 128 = l.val := by show (c.val * 128 + l.val) % 128 = l.val; omega
    have n3 : (chn g k p).val / 64 = g.val * 4 + k.val := congrArg Fin.val (head_chn g k p)
    have n4 : (chn g k p).val % 64 = p.val := by show ((g.val * 4 + k.val) * 64 + p.val) % 64 = p.val; omega
    have n5 : (g.val * 4 + k.val) / 4 = g.val := by omega
    have n6 : (g.val * 4 + k.val) % 4 = k.val := by omega
    simp only [n1, n2, n3, n4, n5, n6, Fin.eta]
    rfl
  rw [e, cums_at]
  unfold mixv
  rw [head_chn, grp_chn]
  refine congrArg₂ (· + ·) (congrArg₂ (· + ·) (Finset.sum_congr rfl fun s _ => ?_) (congrArg (· * _)
    (Finset.sum_congr rfl fun n _ => ?_))) rfl
  · rw [dts_at, scores_at]
    rfl
  · rw [rows_at m d 32 le_rfl c c.isLt]
    have hb : 3072 + (g.val * 128 + n.val) = 3072 + (128 * g.val + n.val) := by omega
    unfold cv
    simp only [hb]

/-- The gated output. -/
theorem gated_at (y : Arr S8x4096x2048) (b : Fin 8) (r : Fin 4096) (ch : Fin 2048) :
    gated (m (d.tc.loc main_arg1)) y (ix3 b r ch) = y (ix3 b r ch) *
      ((given m d).z b r ch * Ideal.div 1 (1 + Ideal.exp (-((given m d).z b r ch)))) := by
  unfold given
  pointwise [gated]

/-- The scaled output. -/
theorem normed_at (y : Arr S8x4096x2048) (b : Fin 8) (r : Fin 4096) (ch : Fin 2048) :
    normed (m (d.tc.loc main_arg7)) y (ix3 b r ch) = y (ix3 b r ch) *
      Ideal.rsqrt (Ideal.div (∑ k : Fin 256, y (ix3 b r (chan (grp ch) k)) * y (ix3 b r (chan (grp ch) k)))
        (Ideal.ofBits .f32 0x43800000#32) + Ideal.ofBits .f32 0x3727C5AC#32) * (given m d).nw ch := by
  have e : ∀ k : Fin 256, chan (grp ch) k = ⟨ch.val / 256 * 256 + k.val, by omega⟩ := fun k =>
    Fin.ext (by show 256 * (ch.val / 256) + k.val = ch.val / 256 * 256 + k.val; omega)
  simp only [e]
  unfold given
  pointwise [normed, grouped]

/-- The result, row by row. -/
theorem res_at (r : Fin 32768) (q : Fin 1024) :
    res m d (ix2 r q) = outv (given m d) ⟨r.val / 4096, by omega⟩ ⟨r.val % 4096 / 128, by omega⟩ ⟨r.val % 128, by omega⟩ q := by
  have hr : (⟨r.val % 4096, by omega⟩ : Fin 4096) = pos ⟨r.val % 4096 / 128, by omega⟩ ⟨r.val % 128, by omega⟩ :=
    Fin.ext (by show r.val % 4096 = r.val % 4096 / 128 * 128 + r.val % 128; omega)
  unfold res
  rw [staged]
  have e : ∀ y : Arr S8x4096x2048, projected (m (d.tc.loc main_arg8)) (m (d.tc.loc main_arg3)) y (ix2 r q)
      = (given m d).x ⟨r.val / 4096, by omega⟩ ⟨r.val % 4096, by omega⟩ q +
        ∑ ch : Fin 2048, y (ix3 ⟨r.val / 4096, by omega⟩ ⟨r.val % 4096, by omega⟩ ch) * (given m d).wout ch q := by
    intro y
    unfold given
    pointwise [projected]
  refine (e _).trans ?_
  rw [hr]
  refine congrArg (_ + ·) (Finset.sum_congr rfl fun ch _ => congrArg (· * _) ?_)
  have hg : ∀ ch' : Fin 2048, gated (m (d.tc.loc main_arg1)) (mixed (dts m d) (cums m d) (after (entry m d) 32).main_v39_4
      (m (d.tc.loc main_arg0)) (m (d.tc.loc main_arg6)))
      (ix3 ⟨r.val / 4096, by omega⟩ (pos ⟨r.val % 4096 / 128, by omega⟩ ⟨r.val % 128, by omega⟩) ch')
      = gatev (given m d) ⟨r.val / 4096, by omega⟩ ⟨r.val % 4096 / 128, by omega⟩ ⟨r.val % 128, by omega⟩ ch' := fun ch' => by
    rw [gated_at, mixed_at]
    rfl
  refine (normed_at m d _ _ _ ch).trans ?_
  unfold normv
  rw [← hg ch]
  simp only [← hg]
  rfl

end Cert.ReferenceIdeal.Loop

end
-- ==== Proof.FfnBody.lean ====
/- One grid point of the feed-forward kernel treats 512 positions. It works on the rows in another order, row `8g + s` being
   position `64s + g`, so that the row of the position before stands eight rows up; and it works through the 5632 channels in
   strips of 256 columns, and through the rows of a strip in blocks of 32. This module names what is computed once, as
   functions of the blocks loaded, the strip and the block. -/
module

public import proofs.«01_k».proof.Proof.Gen.Kernel2Ideal.Frame

@[expose] public section

set_option maxRecDepth 16384

noncomputable section

namespace Cert.Ffn.Body

open Idealize.ShloMosaic Idealize.ShloMosaic.TcCoe Cert.Kernel2Ideal Cert.Kernel2Ideal.Gen

variable {F : FTy → Type} [FloatOps F] [Named F]

/-! ## Rectangles -/

theorem inb_perm (n : Fin 64) : ∀ a, S1x64x128.size a = 0 ∨
    (![n.val / 8, n.val % 8, 0] : Fin 3 → Nat) a + (![1, 8, 1] : Fin 3 → Nat) a * (S1x64x128.size a - 1) < S8x512x128.size a := by
  intro a; right; fin_cases a <;> simp [S1x64x128, S8x512x128] <;> omega

/-- Every eighth row of one plane: block `n % 8` of 64 positions, at the 128 channels of plane `n / 8`. -/
def rPerm (n : Fin 64) : Rect S8x512x128 :=
  ⟨⟨![n.val / 8, n.val % 8, 0], S1x64x128.size, ![1, 8, 1], inb_perm n⟩, spos_1_8_1⟩

theorem inb_plane (n : Fin 8) : ∀ a, (![n.val, 0, 0] : Fin 3 → Nat) a + S1x512x128.size a ≤ S8x512x128.size a := by
  intro a; fin_cases a <;> simp [S1x512x128, S8x512x128]

/-- One plane. -/
def rPlane (n : Fin 8) : Rect S8x512x128 := Rect.unit ![n.val, 0, 0] S1x512x128.size (inb_plane n)

/-- The first channel of strip `q`: the even strips are of the gating half, the odd ones of the other. -/
def col (q : Fin 22) : Nat := 2816 * (q.val % 2) + 256 * (q.val / 2)

theorem inb_tail (q : Fin 22) : ∀ a, (![0, col q] : Fin 2 → Nat) a + S16x256.size a ≤ S16x5632.size a := by
  intro a; fin_cases a <;> simp [S16x256, S16x5632, col]; omega
theorem inb_up (q : Fin 22) : ∀ a, (![0, col q] : Fin 2 → Nat) a + S1024x256.size a ≤ S1024x5632.size a := by
  intro a; fin_cases a <;> simp [S1024x256, S1024x5632, col]; omega
theorem inb_tap (q : Fin 22) (k : Fin 3) : ∀ a, (![k.val, col q] : Fin 2 → Nat) a + S1x256.size a ≤ S3x5632.size a := by
  intro a; fin_cases a <;> simp [S1x256, S3x5632, col] <;> omega

/-- The columns of strip `q` in the kept rows, in the up-projection's weights and in the taps. -/
def rTail (q : Fin 22) : Rect S16x5632 := Rect.unit ![0, col q] S16x256.size (inb_tail q)
def rUp (q : Fin 22) : Rect S1024x5632 := Rect.unit ![0, col q] S1024x256.size (inb_up q)
def rTap (q : Fin 22) (k : Fin 3) : Rect S3x5632 := Rect.unit ![k.val, col q] S1x256.size (inb_tap q k)

theorem inb_act (n : Fin 176) : ∀ a, (![32 * (n.val % 16), 256 * (n.val / 16)] : Fin 2 → Nat) a + S32x256.size a ≤ S512x2816.size a := by
  intro a; fin_cases a <;> simp [S32x256, S512x2816] <;> omega

/-- Block `n % 16` of 32 rows of strip pair `n / 16` in the gated rows. -/
def rAct (n : Fin 176) : Rect S512x2816 := Rect.unit ![32 * (n.val % 16), 256 * (n.val / 16)] S32x256.size (inb_act n)

theorem inb_out (n : Fin 64) : ∀ a, (![64 * (n.val % 8), 128 * (n.val / 8)] : Fin 2 → Nat) a + S64x128.size a ≤ S512x1024.size a := by
  intro a; fin_cases a <;> simp [S64x128, S512x1024] <;> omega

/-- Block `n % 8` of 64 positions at the 128 channels of plane `n / 8`, in the output block. -/
def rOut (n : Fin 64) : Rect S512x1024 := Rect.unit ![64 * (n.val % 8), 128 * (n.val / 8)] S64x128.size (inb_out n)

/-! ## The blocks a grid point works on -/

/-- The rows a grid point normalizes and the blocks it loads, by strip. -/
structure Loads (F : FTy → Type) where
  res : FVec F S512x1024 .f32
  nw : Vec F S1x1024 .f32
  wup : Fin 22 → Vec F S1024x256 .bf16
  tap : Fin 22 → Fin 3 → Vec F S1x256 .f32
  wdn : Vec F S2816x1024 .bf16
  nl : F .f32

/-- Rows scaled to unit mean square, times the weights. -/
def normRows (v : FVec F S512x1024 .f32) (w : Vec F S1x1024 .f32) : FVec F S512x1024 .f32 :=
  mulf (mulf v (broadcastTo S512x1024
    (rsqrt (addf (divf (shapeCast S512x1 (multiReduction .add [1] S512 (mulf v v) 0x00000000#32 reduces_S512x1024_S512 (.inl rfl) rfl)
        shapeCasts_S512_S512x1) (broadcast S512x1 (Scalar.ofBits .f32 0x44800000#32)))
      (broadcast S512x1 (Scalar.ofBits .f32 0x358637BD#32)))) broadcasts_S512x1_S512x1024))
    (broadcastTo S512x1024 (shapeCast S1x1024 w shapeCasts_S1x1024_S1x1024) broadcasts_S1x1024_S512x1024)

/-! ## Reordering the rows -/

theorem slices_block (n : Fin 64) : S512x1024.Slices ![64 * (n.val % 8), 128 * (n.val / 8)] S64x128 := by
  refine ⟨rfl, fun a => ?_⟩
  fin_cases a <;> simp [S64x128, S512x1024] <;> omega

/-- The rows of a block of positions at a plane's channels. -/
def blockOf (v : FVec F S512x1024 .f32) (n : Fin 64) : FVec F S1x64x128 .f32 :=
  shapeCast S1x64x128 (extractStridedSlice S64x128 ![64 * (n.val % 8), 128 * (n.val / 8)] v (slices_block n)) shapeCasts_S64x128_S1x64x128

/-- The first `n` blocks stored at every eighth row of their planes. -/
def permPieces (v : FVec F S512x1024 .f32) : Nat → List (View.Piece (Elt F) S8x512x128 .f32)
  | 0 => []
  | n + 1 => ⟨rPerm (Fin.ofNat 64 n), blockOf v (Fin.ofNat 64 n)⟩ :: permPieces v n

/-- The planes side by side. -/
def joined (pl : Fin 8 → Vec F S1x512x128 .f32) : FVec F S512x1024 .bf16 :=
  truncf .bf16 (concatenate S512x1024 1
    [⟨S512x128, shapeCast S512x128 (pl 0) shapeCasts_S1x512x128_S512x128⟩, ⟨S512x128, shapeCast S512x128 (pl 1) shapeCasts_S1x512x128_S512x128⟩,
     ⟨S512x128, shapeCast S512x128 (pl 2) shapeCasts_S1x512x128_S512x128⟩, ⟨S512x128, shapeCast S512x128 (pl 3) shapeCasts_S1x512x128_S512x128⟩,
     ⟨S512x128, shapeCast S512x128 (pl 4) shapeCasts_S1x512x128_S512x128⟩, ⟨S512x128, shapeCast S512x128 (pl 5) shapeCasts_S1x512x128_S512x128⟩,
     ⟨S512x128, shapeCast S512x128 (pl 6) shapeCasts_S1x512x128_S512x128⟩, ⟨S512x128, shapeCast S512x128 (pl 7) shapeCasts_S1x512x128_S512x128⟩]
    concatenates_S512x128_S512x128_S512x128_S512x128_S512x128_S512x128_S512x128_S512x128_S512x1024_d1) bitsLt_bf16_f32

section Views
variable {sig : RefSig} {k : Kind} {sp sp' sp'' : Space}
  (vp : View sig k sp S8x512x128 .f32)

/-- The normalized rows in the new order. -/
def rowsOf (D : Loads F) : FVec F S512x1024 .bf16 :=
  joined fun ct => vp.readCov (permPieces (normRows D.res D.nw) 64) (rPlane ct).toLoadRect
end Views

/-! ## The strips -/

/-- The rows' up-projection at strip `q`. -/
def upOf (D : Loads F) (h : FVec F S512x1024 .bf16) (q : Fin 22) : FVec F S512x256 .f32 :=
  matmul dot_S512x1024_S1024x256_S512x256_1_0_0_1_n_n none h (shapeCast S1024x256 (D.wup q) shapeCasts_S1024x256_S1024x256)
    (constant S512x256 .f32 0x00000000#32)

/-- The last sixteen rows. -/
def tailOf (u : FVec F S512x256 .f32) : FVec F S16x256 .f32 :=
  extractStridedSlice S16x256 ![496, 0] u slices_S512x256_o496_0_S16x256

/-- The first `n` strips' last rows put before the pieces `L`. -/
def tailPieces (D : Loads F) (h : FVec F S512x1024 .bf16) (L : List (View.Piece (Elt F) S16x5632 .f32)) :
    Nat → List (View.Piece (Elt F) S16x5632 .f32)
  | 0 => L
  | n + 1 => ⟨rTail (Fin.ofNat 22 n), shapeCast S16x256 (tailOf (upOf D h (Fin.ofNat 22 n))) shapeCasts_S16x256_S16x256⟩ :: tailPieces D h L n

/-- Eight rows one down, the first from the kept rows of the tile before. -/
def haloAt (prev tail : FVec F S8x256 .f32) : FVec F S8x256 .f32 :=
  select (cmpi .eq (iota .tc S8x256 32 [0] iota_S8x256_d0_w32) (broadcast S8x256 0#32))
    (dynamicRotate 0 1#32 none prev rotates_S8x256_d0) (dynamicRotate 0 1#32 none tail rotates_S8x256_d0)

/-- The sixteen rows before the first. -/
def fixOf (u : FVec F S512x256 .f32) (prev : Vec F S16x256 .f32) : FVec F S16x256 .f32 :=
  concatenate S16x256 0
    [⟨S8x256, haloAt (extractStridedSlice S8x256 ![0, 0] prev slices_S16x256_o0_0_S8x256)
        (extractStridedSlice S8x256 ![0, 0] (tailOf u) slices_S16x256_o0_0_S8x256)⟩,
     ⟨S8x256, haloAt (extractStridedSlice S8x256 ![8, 0] prev slices_S16x256_o8_0_S8x256)
        (extractStridedSlice S8x256 ![8, 0] (tailOf u) slices_S16x256_o8_0_S8x256)⟩]
    concatenates_S8x256_S8x256_S16x256_d0

theorem slices_rows (o : Nat) (h : o + 32 ≤ 512) : S512x256.Slices ![o, 0] S32x256 := by
  refine ⟨rfl, fun a => ?_⟩
  fin_cases a
  · exact h
  · exact le_rfl

/-- Block `j` of the rows, and the rows one and two positions before it. -/
def back0 (u : FVec F S512x256 .f32) (j : Fin 16) : FVec F S32x256 .f32 :=
  extractStridedSlice S32x256 ![32 * j.val, 0] u (slices_rows _ (by omega))

def back1 (u : FVec F S512x256 .f32) (fix : FVec F S16x256 .f32) : Fin 16 → FVec F S32x256 .f32
  | ⟨0, _⟩ => concatenate S32x256 0 [⟨S8x256, extractStridedSlice S8x256 ![8, 0] fix slices_S16x256_o8_0_S8x256⟩,
      ⟨S24x256, extractStridedSlice S24x256 ![0, 0] u slices_S512x256_o0_0_S24x256⟩] concatenates_S8x256_S24x256_S32x256_d0
  | ⟨j + 1, h⟩ => extractStridedSlice S32x256 ![32 * j + 24, 0] u (slices_rows _ (by omega))

def back2 (u : FVec F S512x256 .f32) (fix : FVec F S16x256 .f32) : Fin 16 → FVec F S32x256 .f32
  | ⟨0, _⟩ => concatenate S32x256 0 [⟨S16x256, fix⟩,
      ⟨S16x256, extractStridedSlice S16x256 ![0, 0] u slices_S512x256_o0_0_S16x256⟩] concatenates_S16x256_S16x256_S32x256_d0
  | ⟨j + 1, h⟩ => extractStridedSlice S32x256 ![32 * j + 16, 0] u (slices_rows _ (by omega))

/-- Block `j` of a strip after the three taps. -/
def convOf (u : FVec F S512x256 .f32) (fix : FVec F S16x256 .f32) (tap : Fin 3 → Vec F S1x256 .f32) (j : Fin 16) : FVec F S32x256 .f32 :=
  addf (addf (mulf (broadcastTo S32x256 (tap 2) broadcasts_S1x256_S32x256) (back0 u j))
      (mulf (broadcastTo S32x256 (tap 1) broadcasts_S1x256_S32x256) (back1 u fix j)))
    (mulf (broadcastTo S32x256 (tap 0) broadcasts_S1x256_S32x256) (back2 u fix j))

/-- The gating of one block by the other. -/
def gateOf (nl : F .f32) (g v : FVec F S32x256 .f32) : FVec F S32x256 .bf16 :=
  shapeCast S32x256 (truncf .bf16 (mulf (divf g (addf (broadcast S32x256 (Scalar.ofBits .f32 0x3F800000#32))
    (exp2 (mulf g (broadcast S32x256 nl))))) v) bitsLt_bf16_f32) shapeCasts_S32x256_S32x256

/-- The gating strip and the gated strip of pair `c`. -/
def sg (c : Fin 11) : Fin 22 := ⟨2 * c.val, by omega⟩
def sv (c : Fin 11) : Fin 22 := ⟨2 * c.val + 1, by omega⟩

/-- Block `j` of the gated rows of strip pair `c`, over the kept rows of the tile before. -/
def actOf (D : Loads F) (h : FVec F S512x1024 .bf16) (prev : Fin 22 → Vec F S16x256 .f32) (c : Fin 11) (j : Fin 16) : FVec F S32x256 .bf16 :=
  gateOf D.nl (convOf (upOf D h (sg c)) (fixOf (upOf D h (sg c)) (prev (sg c))) (D.tap (sg c)) j)
    (convOf (upOf D h (sv c)) (fixOf (upOf D h (sv c)) (prev (sv c))) (D.tap (sv c)) j)

/-- The first `n` blocks of gated rows. -/
def actPieces (D : Loads F) (h : FVec F S512x1024 .bf16) (prev : Fin 22 → Vec F S16x256 .f32) : Nat → List (View.Piece (Elt F) S512x2816 .bf16)
  | 0 => []
  | n + 1 => ⟨rAct (Fin.ofNat 176 n), actOf D h prev (Fin.ofNat 11 (n / 16)) (Fin.ofNat 16 n)⟩ :: actPieces D h prev n

/-! ## The projection back -/

/-- The gated rows projected back. -/
def downOf (D : Loads F) (a : Vec F S512x2816 .bf16) : FVec F S512x1024 .f32 :=
  matmul dot_S512x2816_S2816x1024_S512x1024_1_0_0_1_n_n none a (shapeCast S2816x1024 D.wdn shapeCasts_S2816x1024_S2816x1024)
    (constant S512x1024 .f32 0x00000000#32)

theorem slices_plane (ct : Fin 8) : S512x1024.Slices ![0, 128 * ct.val] S512x128 := by
  refine ⟨rfl, fun a => ?_⟩
  fin_cases a <;> simp [S512x128, S512x1024] <;> omega

/-- The first `n` planes of `a` put before the pieces `L`. -/
def planePieces (a : FVec F S512x1024 .f32) (L : List (View.Piece (Elt F) S8x512x128 .f32)) : Nat → List (View.Piece (Elt F) S8x512x128 .f32)
  | 0 => L
  | n + 1 => ⟨rPlane (Fin.ofNat 8 n), shapeCast S1x512x128 (extractStridedSlice S512x128 ![0, 128 * (Fin.ofNat 8 n).val] a
      (slices_plane (Fin.ofNat 8 n))) shapeCasts_S512x128_S1x512x128⟩ :: planePieces a L n

/-- The first `n` blocks of positions back in their own order. -/
def outPieces (ld : Fin 64 → Vec F S1x64x128 .f32) : Nat → List (View.Piece (Elt F) S512x1024 .f32)
  | 0 => []
  | n + 1 => ⟨rOut (Fin.ofNat 64 n), shapeCast S64x128 (ld (Fin.ofNat 64 n)) shapeCasts_S1x64x128_S64x128⟩ :: outPieces ld n

/-- The whole output block and the whole block of gated rows. -/
def rFull : Rect S512x1024 := Rect.unit ![0, 0] S512x1024.size inb_S512x1024_S512x1024_0_0
def rActs : Rect S512x2816 := Rect.unit ![0, 0] S512x2816.size inb_S512x2816_S512x2816_0_0

section Views
variable {sig : RefSig} {k : Kind} {sp sp' sp'' : Space}
  (vp : View sig k sp S8x512x128 .f32) (va : View sig k sp' S512x2816 .bf16) (vo : View sig k sp'' S512x1024 .f32)

/-- The projected rows, still in the new order. -/
def accOf (D : Loads F) (prev : Fin 22 → Vec F S16x256 .f32) : FVec F S512x1024 .f32 :=
  downOf D (va.readCov (actPieces D (rowsOf vp D) prev 176) rActs.toLoadRect)

/-- The blocks of positions stored to the output. -/
def homeOf (D : Loads F) (prev : Fin 22 → Vec F S16x256 .f32) : List (View.Piece (Elt F) S512x1024 .f32) :=
  outPieces (fun n => vp.readCov (planePieces (accOf vp va D prev) (permPieces (normRows D.res D.nw) 64) 8) (rPerm n).toLoadRect) 64

/-- The residual with the block's rows added. -/
def sumOf (D : Loads F) (prev : Fin 22 → Vec F S16x256 .f32) : FVec F S512x1024 .f32 :=
  addf D.res (shapeCast S512x1024 (vo.readCov (homeOf vp va D prev) rFull.toLoadRect) shapeCasts_S512x1024_S512x1024)

/-- A batch's first tile stores zeros as the kept rows before anything else. -/
def zeroTail : List (View.Piece (Elt F) S16x5632 .f32) :=
  [⟨Rect.unit ![0, 0] S16x5632.size inb_S16x5632_S16x5632_0_0,
    shapeCast S16x5632 (broadcast S16x5632 (Scalar.ofBits .f32 0x00000000#32)) shapeCasts_S16x5632_S16x5632⟩]

/-- A strip's kept rows out of what was stored before. -/
def prevA (vt : View sig k sp' S16x5632 .f32) (D : Loads F) (q : Fin 22) : Vec F S16x256 .f32 :=
  vt.readCov (tailPieces D (rowsOf vp D) zeroTail q.val) (rTail q).toLoadRect
end Views

end Cert.Ffn.Body

end
-- ==== Proof.FfnLists.lean ====
/- What a list of pieces holds, read back: the reordered planes, the output block, the gated rows and the kept rows. -/
module

public import proofs.«01_k».proof.Proof.FfnBody
public import Idealize.ShloMosaic.Lib.Pointwise
public import Idealize.ShloMosaic.Lib.Pipeline.ValueKit
public import Idealize.ShloMosaic.Lib.VecWindow

@[expose] public section

set_option maxRecDepth 16384

noncomputable section

namespace Cert.Ffn.Body

open Idealize.ShloMosaic Idealize.ShloMosaic.TcCoe Cert.Kernel2Ideal Cert.Kernel2Ideal.Gen

section
variable {Val : EltTy → Type} [∀ e, Nonempty (Val e)] {s : Shape} {e : EltTy}
  (P : Nat → List (View.Piece Val s e)) (p : Nat → View.Piece Val s e) (hP : ∀ n, P (n + 1) = p n :: P n)
include hP

/-- Pieces put one before another, all of them parts of one array: where one of them lies, the array. -/
theorem canon_top (G : s.Idx → Val e) (n : Nat) (hG : ∀ k < n, ∀ x, (p k).2 x = G ((p k).1.emb x)) (y : s.Idx)
    (hy : ∃ k < n, y ∈ (p k).1.set) : View.canon (P n) y = G y := by
  induction n with
  | zero => obtain ⟨k, hk, _⟩ := hy; exact absurd hk (Nat.not_lt_zero k)
  | succ n ih =>
    rw [hP]
    by_cases h : y ∈ (p n).1.set
    · obtain ⟨x, rfl⟩ := (p n).1.exists_idx_of_mem h
      exact (View.canon_cons_emb _ _ _ x).trans (hG n (Nat.lt_succ_self n) x)
    · rw [View.canon_cons_of_not_mem _ _ h]
      refine ih (fun k hk => hG k (Nat.lt_succ_of_lt hk)) ?_
      obtain ⟨k, hk, hm⟩ := hy
      refine ⟨k, lt_of_le_of_ne (Nat.le_of_lt_succ hk) ?_, hm⟩
      rintro rfl
      exact h hm

/-- Where none after the `k`-th lies, what the list held with it. -/
theorem canon_pick (k n : Nat) (hk : k < n) (y : s.Idx) (hy : ∀ k', k < k' → k' < n → y ∉ (p k').1.set) :
    View.canon (P n) y = View.canon (p k :: P k) y := by
  induction n with
  | zero => exact absurd hk (Nat.not_lt_zero k)
  | succ n ih =>
    by_cases h : k = n
    · rw [← h, hP]
    · have hlt : k < n := lt_of_le_of_ne (Nat.le_of_lt_succ hk) h
      rw [hP, View.canon_cons_of_not_mem _ _ (hy n hlt (Nat.lt_succ_self n))]
      exact ih hlt fun k' h1 h2 => hy k' h1 (Nat.lt_succ_of_lt h2)

/-- Where none of them lies, what the list held before. -/
theorem canon_under (n : Nat) (y : s.Idx) (hy : ∀ k < n, y ∉ (p k).1.set) : View.canon (P n) y = View.canon (P 0) y := by
  induction n with
  | zero => rfl
  | succ n ih =>
    rw [hP, View.canon_cons_of_not_mem _ _ (hy n (Nat.lt_succ_self n))]
    exact ih fun k hk => hy k (Nat.lt_succ_of_lt hk)
end

/-- The position row `p` holds in the new order. -/
def home (p : Fin 512) : Fin 512 := ⟨64 * (p.val % 8) + p.val / 8, by omega⟩
/-- The row that holds position `r`. -/
def away (r : Fin 512) : Fin 512 := ⟨8 * (r.val % 64) + r.val / 64, by omega⟩

theorem home_away (r : Fin 512) : home (away r) = r := by
  apply Fin.ext
  show 64 * ((8 * (r.val % 64) + r.val / 64) % 8) + (8 * (r.val % 64) + r.val / 64) / 8 = r.val
  omega

/-- Column `l` of plane `ct`. -/
def pcol (ct : Fin 8) (l : Fin 128) : Fin 1024 := ⟨128 * ct.val + l.val, by omega⟩

variable {F : FTy → Type} [FloatOps F] [Named F]

/-- The planes hold the rows in the new order. -/
theorem perm_at (v : FVec F S512x1024 .f32) (ct : Fin 8) (p : Fin 512) (l : Fin 128) :
    View.canon (permPieces v 64) (ix3 ct p l) = v (ix2 (home p) (pcol ct l)) := by
  refine (canon_top (permPieces v) (fun n => ⟨rPerm (Fin.ofNat 64 n), blockOf v (Fin.ofNat 64 n)⟩) (fun n => rfl)
    (fun y => v (ix2 (home (y 1)) (pcol (y 0) (y 2)))) 64 (fun k hk x => ?_) _ ⟨8 * ct.val + p.val % 8, by omega, ?_⟩).trans rfl
  · dsimp only
    generalize Fin.ofNat 64 k = n
    rw [eq_ix3 x]
    pointwise [blockOf]
    refine congrArg v ?_
    funext a; apply Fin.ext
    have h0 : (x 0).val < 1 := (x 0).isLt
    have h1 : (x 1).val < 64 := (x 1).isLt
    have h2 : (x 2).val < 128 := (x 2).isLt
    fin_cases a
    · show 64 * (n.val % 8) + (x 1).val = 64 * ((n.val % 8 + 8 * (x 1).val) % 8) + (n.val % 8 + 8 * (x 1).val) / 8
      omega
    · show 128 * (n.val / 8) + (x 2).val = 128 * (n.val / 8 + 1 * (x 0).val) + (0 + 1 * (x 2).val)
      omega
  · dsimp only
    have e : (ix3 ct p l : S8x512x128.Idx) = (rPerm (Fin.ofNat 64 (8 * ct.val + p.val % 8))).emb (ix3 0 (⟨p.val / 8, by omega⟩ : Fin 64) l) := by
      funext a; apply Fin.ext
      have h : (Fin.ofNat 64 (8 * ct.val + p.val % 8)).val = 8 * ct.val + p.val % 8 := Nat.mod_eq_of_lt (by omega)
      fin_cases a
      · show ct.val = (Fin.ofNat 64 (8 * ct.val + p.val % 8)).val / 8 + 1 * 0; omega
      · show p.val = (Fin.ofNat 64 (8 * ct.val + p.val % 8)).val % 8 + 8 * (p.val / 8); omega
      · show l.val = 0 + 1 * l.val; omega
    rw [e]
    exact LoadRect.idx_mem _ _

/-- The planes of an array put before other pieces hold the array. -/
theorem plane_at (a : FVec F S512x1024 .f32) (L : List (View.Piece (Elt F) S8x512x128 .f32)) (ct : Fin 8) (p : Fin 512) (l : Fin 128) :
    View.canon (planePieces a L 8) (ix3 ct p l) = a (ix2 p (pcol ct l)) := by
  refine (canon_top (planePieces a L) (fun n => ⟨rPlane (Fin.ofNat 8 n), shapeCast S1x512x128 (extractStridedSlice S512x128 ![0, 128 * (Fin.ofNat 8 n).val] a
      (slices_plane (Fin.ofNat 8 n))) shapeCasts_S512x128_S1x512x128⟩) (fun n => rfl)
    (fun y => a (ix2 (y 1) (pcol (y 0) (y 2)))) 8 (fun k hk x => ?_) _ ⟨ct.val, by omega, ?_⟩).trans rfl
  · dsimp only
    generalize Fin.ofNat 8 k = n
    rw [eq_ix3 x]
    pointwise []
    refine congrArg a ?_
    funext c; apply Fin.ext
    have h0 : (x 0).val < 1 := (x 0).isLt
    fin_cases c
    · show (x 1).val = 0 + 1 * (x 1).val; omega
    · show 128 * n.val + (x 2).val = 128 * (n.val + 1 * (x 0).val) + (0 + 1 * (x 2).val); omega
  · dsimp only
    rw [Fin.ofNat_val_eq_self]
    have e : (ix3 ct p l : S8x512x128.Idx) = (rPlane ct).emb (ix3 0 p l) := by
      funext c; apply Fin.ext
      fin_cases c
      · show ct.val = ct.val + 1 * 0; omega
      · show p.val = 0 + 1 * p.val; omega
      · show l.val = 0 + 1 * l.val; omega
    rw [e]
    exact LoadRect.idx_mem _ _

/-- The block of positions and plane of a position and a channel. -/
def blk (r : Fin 512) (q : Fin 1024) : Fin 64 := ⟨8 * (q.val / 128) + r.val / 64, by omega⟩
/-- Its place in the block. -/
def inBlk (r : Fin 512) (q : Fin 1024) : S1x64x128.Idx :=
  ix3 0 (⟨r.val % 64, by omega⟩ : Fin 64) (⟨q.val % 128, by omega⟩ : Fin 128)

/-- The output block holds the blocks of positions it was stored. -/
theorem out_at (ld : Fin 64 → Vec F S1x64x128 .f32) (r : Fin 512) (q : Fin 1024) :
    View.canon (outPieces ld 64) (ix2 r q) =
      ld (blk r q) (inBlk r q) := by
  refine (canon_top (outPieces ld) (fun n => ⟨rOut (Fin.ofNat 64 n), shapeCast S64x128 (ld (Fin.ofNat 64 n)) shapeCasts_S1x64x128_S64x128⟩) (fun n => rfl)
    (fun y => ld (blk (y 0) (y 1)) (inBlk (y 0) (y 1)))
    64 (fun k hk x => ?_) _ ⟨8 * (q.val / 128) + r.val / 64, by omega, ?_⟩).trans rfl
  · dsimp only
    generalize Fin.ofNat 64 k = n
    rw [eq_ix2 x]
    pointwise []
    have h0 : (x 0).val < 64 := (x 0).isLt
    have h1 : (x 1).val < 128 := (x 1).isLt
    have e : blk (((rOut n).emb (ix2 (x 0) (x 1))) 0) (((rOut n).emb (ix2 (x 0) (x 1))) 1) = n := by
      apply Fin.ext
      show 8 * ((128 * (n.val / 8) + 1 * (x 1).val) / 128) + (64 * (n.val % 8) + 1 * (x 0).val) / 64 = n.val
      omega
    refine Eq.trans ?_ (congrArg (fun w => ld w _) e.symm)
    refine congrArg (ld n) ?_
    funext c; apply Fin.ext
    fin_cases c
    · rfl
    · show (x 0).val = (64 * (n.val % 8) + 1 * (x 0).val) % 64; omega
    · show (x 1).val = (128 * (n.val / 8) + 1 * (x 1).val) % 128; omega
  · dsimp only
    have h : (Fin.ofNat 64 (8 * (q.val / 128) + r.val / 64)).val = 8 * (q.val / 128) + r.val / 64 := Nat.mod_eq_of_lt (by omega)
    have e : (ix2 r q : S512x1024.Idx) = (rOut (Fin.ofNat 64 (8 * (q.val / 128) + r.val / 64))).emb
        (ix2 (⟨r.val % 64, by omega⟩ : Fin 64) (⟨q.val % 128, by omega⟩ : Fin 128)) := by
      funext c; apply Fin.ext
      fin_cases c
      · show r.val = 64 * ((Fin.ofNat 64 (8 * (q.val / 128) + r.val / 64)).val % 8) + 1 * (r.val % 64); omega
      · show q.val = 128 * ((Fin.ofNat 64 (8 * (q.val / 128) + r.val / 64)).val / 8) + 1 * (q.val % 128); omega
    rw [e]
    exact LoadRect.idx_mem _ _

/-- The gated rows, given what each block of them holds. -/
theorem act_at (D : Loads F) (h : FVec F S512x1024 .bf16) (prev : Fin 22 → Vec F S16x256 .f32) (A : Fin 512 → Fin 2816 → Elt F .bf16)
    (hA : ∀ (c : Fin 11) (j : Fin 16) (a : Fin 32) (k : Fin 256), actOf D h prev c j (ix2 a k) =
      A ⟨32 * j.val + a.val, by omega⟩ ⟨256 * c.val + k.val, by omega⟩) (p : Fin 512) (k : Fin 2816) :
    View.canon (actPieces D h prev 176) (ix2 p k) = A p k := by
  refine (canon_top (actPieces D h prev) (fun n => ⟨rAct (Fin.ofNat 176 n), actOf D h prev (Fin.ofNat 11 (n / 16)) (Fin.ofNat 16 n)⟩) (fun n => rfl)
    (fun y => A (y 0) (y 1)) 176 (fun n hn x => ?_) _ ⟨16 * (k.val / 256) + p.val / 32, by omega, ?_⟩).trans rfl
  · dsimp only
    rw [eq_ix2 x]
    refine (hA _ _ _ _).trans ?_
    have h0 : (x 0).val < 32 := (x 0).isLt
    have h1 : (x 1).val < 256 := (x 1).isLt
    have hv : (Fin.ofNat 176 n).val = n := Nat.mod_eq_of_lt hn
    have hw : (Fin.ofNat 11 (n / 16)).val = n / 16 := Nat.mod_eq_of_lt (by omega)
    congr 1
    · apply Fin.ext
      show 32 * (n % 16) + (x 0).val = 32 * ((Fin.ofNat 176 n).val % 16) + 1 * (x 0).val
      omega
    · apply Fin.ext
      show 256 * (Fin.ofNat 11 (n / 16)).val + (x 1).val = 256 * ((Fin.ofNat 176 n).val / 16) + 1 * (x 1).val
      omega
  · dsimp only
    have hv : (Fin.ofNat 176 (16 * (k.val / 256) + p.val / 32)).val = 16 * (k.val / 256) + p.val / 32 := Nat.mod_eq_of_lt (by omega)
    have e : (ix2 p k : S512x2816.Idx) = (rAct (Fin.ofNat 176 (16 * (k.val / 256) + p.val / 32))).emb
        (ix2 (⟨p.val % 32, by omega⟩ : Fin 32) (⟨k.val % 256, by omega⟩ : Fin 256)) := by
      funext c; apply Fin.ext
      fin_cases c
      · show p.val = 32 * ((Fin.ofNat 176 (16 * (k.val / 256) + p.val / 32)).val % 16) + 1 * (p.val % 32); omega
      · show k.val = 256 * ((Fin.ofNat 176 (16 * (k.val / 256) + p.val / 32)).val / 16) + 1 * (k.val % 256); omega
    rw [e]
    exact LoadRect.idx_mem _ _

/-- Two strips' columns do not meet. -/
theorem rTail_disjoint (q q' : Fin 22) (h : q ≠ q') : Disjoint (rTail q).set (rTail q').set := by
  refine Rect.unit_disjoint 1 ?_
  have h1 : q.val ≠ q'.val := fun e => h (Fin.ext e)
  show col q + 256 ≤ col q' ∨ col q' + 256 ≤ col q
  unfold col
  omega

/-- The kept rows of a strip stored. -/
theorem tail_at (D : Loads F) (h : FVec F S512x1024 .bf16) (L : List (View.Piece (Elt F) S16x5632 .f32)) (q : Fin 22) (x : S16x256.Idx) :
    View.canon (tailPieces D h L 22) ((rTail q).emb x) = tailOf (upOf D h q) x := by
  refine (canon_pick (tailPieces D h L) (fun n => ⟨rTail (Fin.ofNat 22 n), shapeCast S16x256 (tailOf (upOf D h (Fin.ofNat 22 n))) shapeCasts_S16x256_S16x256⟩)
    (fun n => rfl) q.val 22 q.isLt ((rTail q).emb x) (fun k hk hk' hm => ?_)).trans ?_
  · have hv : (Fin.ofNat 22 k).val = k := Nat.mod_eq_of_lt hk'
    refine Finset.disjoint_left.mp (rTail_disjoint (Fin.ofNat 22 k) q fun e => ?_) hm ((rTail q).idx_mem x)
    rw [← e] at hk
    omega
  · rw [Fin.ofNat_val_eq_self]
    exact (View.canon_cons_emb (rTail q) _ _ x).trans (congrFun (shapeCast_self _ _) x)

/-- The kept rows of a strip not stored yet. -/
theorem tail_before (D : Loads F) (h : FVec F S512x1024 .bf16) (L : List (View.Piece (Elt F) S16x5632 .f32)) (q : Fin 22) (x : S16x256.Idx) :
    View.canon (tailPieces D h L q.val) ((rTail q).emb x) = View.canon L ((rTail q).emb x) := by
  refine canon_under (tailPieces D h L) (fun n => ⟨rTail (Fin.ofNat 22 n), shapeCast S16x256 (tailOf (upOf D h (Fin.ofNat 22 n))) shapeCasts_S16x256_S16x256⟩)
    (fun n => rfl) q.val _ (fun k hk hm => ?_)
  have hv : (Fin.ofNat 22 k).val = k := Nat.mod_eq_of_lt (by omega)
  refine Finset.disjoint_left.mp (rTail_disjoint (Fin.ofNat 22 k) q fun e => ?_) hm ((rTail q).idx_mem x)
  rw [← e] at hk
  omega

end Cert.Ffn.Body

end
-- ==== Proof.FfnSpec.lean ====
/- The feed-forward block as numbers: what the kernel and the reference both compute, position by position. A batch has 4096
   positions of 1024 channels; the block works on 5632 channels, of which the first 2816 gate the others. -/
module

public import Idealize.ShloMosaic.Lib.Pointwise

@[expose] public section

noncomputable section

namespace Cert.Ffn

open Idealize.ShloMosaic

/-- The arguments, by coordinates. -/
structure Inp where
  x : Fin 8 → Fin 4096 → Fin 1024 → EReal
  o : Fin 8 → Fin 4096 → Fin 1024 → EReal
  wo : Fin 1024 → Fin 1024 → EReal
  nw : Fin 1024 → EReal
  wup : Fin 1024 → Fin 5632 → EReal
  cw : Fin 3 → Fin 5632 → EReal
  wdn : Fin 2816 → Fin 1024 → EReal
  fnw : Fin 1024 → EReal

/-- A row scaled to unit mean square, times the weights. -/
def norm (f w : Fin 1024 → EReal) (q : Fin 1024) : EReal :=
  f q * Ideal.rsqrt (Ideal.div (∑ k : Fin 1024, f k * f k) (Ideal.ofBits .f32 0x44800000#32) + Ideal.ofBits .f32 0x358637BD#32) * w q

/-- A number times its logistic. -/
def silu (v : EReal) : EReal := v * Ideal.div 1 (1 + Ideal.exp (-v))

variable (I : Inp) (b : Fin 8) (t : Fin 4096)

/-- The residual with the projected attention. -/
def resid (q : Fin 1024) : EReal := I.x b t q + ∑ k : Fin 1024, I.o b t k * I.wo k q

/-- The up-projected row. -/
def up (ch : Fin 5632) : EReal := ∑ k : Fin 1024, norm (resid I b t) I.nw k * I.wup k ch

/-- The up-projected row `k` positions before; nothing before the batch's start. -/
def past (k : Nat) (ch : Fin 5632) : EReal := if k ≤ t.val then up I b ⟨t.val - k, by omega⟩ ch else 0

/-- The convolved row: three taps. -/
def conv (ch : Fin 5632) : EReal := I.cw 2 ch * up I b t ch + I.cw 1 ch * past I b t 1 ch + I.cw 0 ch * past I b t 2 ch

/-- The gated row. -/
def act (j : Fin 2816) : EReal := silu (conv I b t ⟨j.val, by omega⟩) * conv I b t ⟨2816 + j.val, by omega⟩

/-- The row the block adds, projected back. -/
def down (q : Fin 1024) : EReal := ∑ j : Fin 2816, act I b t j * I.wdn j q

/-- The block's output. -/
def outv (q : Fin 1024) : EReal := norm (fun k => resid I b t k + down I b t k) I.fnw q

/-- No position back is the position itself. -/
theorem past_zero (ch : Fin 5632) : past I b t 0 ch = up I b t ch := by
  unfold past
  rw [if_pos (Nat.zero_le _)]
  rfl

/-- `k` positions before `t` is `k - g` positions before the position `g` before `t`. -/
theorem past_back (k g : Nat) (t' : Fin 4096) (h : t.val = t'.val + g) (hg : g ≤ k) (ch : Fin 5632) :
    past I b t k ch = past I b t' (k - g) ch := by
  unfold past
  by_cases h1 : k ≤ t.val
  · rw [if_pos h1, if_pos (by omega)]
    congr 1
    apply Fin.ext
    show t.val - k = t'.val - (k - g)
    omega
  · rw [if_neg h1, if_neg (by omega)]

/-- A position that is there. -/
theorem past_of (k : Nat) (t' : Fin 4096) (h : t.val = t'.val + k) (ch : Fin 5632) : past I b t k ch = up I b t' ch := by
  rw [past_back I b t k k t' h le_rfl, Nat.sub_self, past_zero]

/-- The base-two form of the logistic: dividing by one plus two to the power `v · (-1/ln 2)`. -/
theorem silu_exp2 (v : EReal) :
    Ideal.div v (1 + Ideal.exp2 (v * ((-((Real.log 2)⁻¹) : ℝ) : EReal))) = silu v := by
  have hl : (0 : ℝ) < Real.log 2 := Real.log_pos (by norm_num)
  have hn : (-((Real.log 2)⁻¹) : ℝ) < 0 := by have := inv_pos.mpr hl; linarith
  have one (y : EReal) (hy : y ≠ 0) : Ideal.div v y = v * Ideal.div 1 y := by
    unfold Ideal.div
    rw [if_neg hy, if_neg hy, one_mul]
  have e : Ideal.exp2 (v * ((-((Real.log 2)⁻¹) : ℝ) : EReal)) = Ideal.exp (-v) := by
    induction v using EReal.rec with
    | bot => rw [EReal.bot_mul_coe_of_neg hn]; rfl
    | top => rw [EReal.top_mul_coe_of_neg hn]; rfl
    | coe r =>
      rw [← EReal.coe_mul, ← EReal.coe_neg]
      show ((Real.rpow 2 (r * -(Real.log 2)⁻¹) : ℝ) : EReal) = ((Real.exp (-r) : ℝ) : EReal)
      refine congrArg _ ?_
      show (2 : ℝ) ^ (r * -(Real.log 2)⁻¹) = _
      rw [Real.rpow_def_of_pos (by norm_num)]
      refine congrArg _ ?_
      field_simp
  have pos : (1 + Ideal.exp (-v)) ≠ 0 := by
    have : (0 : EReal) ≤ Ideal.exp (-v) := by
      generalize -v = w
      induction w using EReal.rec with
      | bot => exact le_rfl
      | top => exact le_top
      | coe r => exact EReal.coe_nonneg.mpr (Real.exp_pos r).le
    intro h
    have h1 : (1 : EReal) ≤ 1 + Ideal.exp (-v) := le_add_of_nonneg_right this
    rw [h] at h1
    exact absurd h1 (by simp)
  rw [e]
  exact one _ pos

end Cert.Ffn

end
-- ==== Proof.FfnRead.lean ====
/- A grid point of the feed-forward kernel computes the numbers of `FfnSpec.lean`: each function of `FfnBody.lean` read at one
   position, given what the blocks loaded hold. -/
module

public import proofs.«01_k».proof.Proof.FfnLists
public import proofs.«01_k».proof.Proof.FfnSpec
public import Idealize.ShloMosaic.Lib.WordCmp

@[expose] public section

set_option maxRecDepth 16384

noncomputable section

namespace Cert.Ffn.Body

open Idealize.ShloMosaic Idealize.ShloMosaic.TcCoe Cert.Kernel2Ideal Cert.Kernel2Ideal.Gen

/-- Position `r` of tile `s`. -/
def pos (s : Fin 8) (r : Fin 512) : Fin 4096 := ⟨512 * s.val + r.val, by omega⟩
/-- Channel `k` of strip `q`. -/
def chan (q : Fin 22) (k : Fin 256) : Fin 5632 := ⟨col q + k.val, by unfold col; omega⟩

/-- The blocks a grid point works on hold tile `s` of batch `b`. -/
structure Reads (D : Loads Ideal) (I : Inp) (b s : Fin 8) : Prop where
  res : ∀ r q, D.res (ix2 r q) = resid I b (pos s r) q
  nw : ∀ q, D.nw (ix2 0 q) = I.nw q
  wup : ∀ q d k, D.wup q (ix2 d k) = I.wup d (chan q k)
  tap : ∀ q k c, D.tap q k (ix2 0 c) = I.cw k (chan q c)
  wdn : ∀ j q, D.wdn (ix2 j q) = I.wdn j q
  nl : D.nl = ((-((Real.log 2)⁻¹) : ℝ) : EReal)

/-- Rows normalized. -/
theorem normRows_at (v : FVec Ideal S512x1024 .f32) (w : Vec Ideal S1x1024 .f32) (r : Fin 512) (q : Fin 1024) :
    normRows v w (ix2 r q) = norm (fun k => v (ix2 r k)) (fun k => w (ix2 0 k)) q := by
  pointwise [normRows]
  rfl

set_option maxHeartbeats 1600000 in
/-- Planes side by side. -/
theorem joined_at (pl : Fin 8 → Vec Ideal S1x512x128 .f32) (ct : Fin 8) (p : Fin 512) (l : Fin 128) :
    joined pl (ix2 p (pcol ct l)) = pl ct (ix3 0 p l) := by
  unfold pcol
  fin_cases ct <;> pointwise [joined] <;> split_ifs <;>
    first | (exfalso; omega) | exact congrArg (fun z => pl _ (ix3 0 p z)) (Fin.ext (by dsimp only; omega))

section
variable {sig : RefSig} {κ : Kind} {sp sp' sp'' : Space} (vp : View sig κ sp S8x512x128 .f32)

/-- The planes of an array put in the new order, side by side: the array in the new order. -/
theorem moved_at (v : FVec Ideal S512x1024 .f32) (p : Fin 512) (q : Fin 1024) :
    joined (fun ct => vp.readCov (permPieces v 64) (rPlane ct).toLoadRect) (ix2 p q) = v (ix2 (home p) q) := by
  have e : q = pcol ⟨q.val / 128, by omega⟩ ⟨q.val % 128, by omega⟩ := by
    apply Fin.ext; show q.val = 128 * (q.val / 128) + q.val % 128; omega
  rw [e]
  generalize (⟨q.val / 128, by omega⟩ : Fin 8) = ct
  generalize (⟨q.val % 128, by omega⟩ : Fin 128) = l
  refine (joined_at _ ct p l).trans ?_
  rw [View.readCov_eq_canon']
  refine Eq.trans (congrArg _ ?_) (perm_at _ ct p l)
  funext c; apply Fin.ext
  fin_cases c
  · show ct.val + 1 * 0 = ct.val; omega
  · show 0 + 1 * p.val = p.val; omega
  · show 0 + 1 * l.val = l.val; omega

/-- The rows in the new order. -/
theorem rowsOf_at (D : Loads Ideal) (p : Fin 512) (q : Fin 1024) :
    rowsOf vp D (ix2 p q) = normRows D.res D.nw (ix2 (home p) q) := moved_at vp _ p q
end

/-- Eight rows one down. -/
theorem haloAt_at (prev tail : FVec Ideal S8x256 .f32) (s : Fin 8) (k : Fin 256) :
    haloAt prev tail (ix2 s k) = if s.val = 0 then prev (ix2 7 k) else tail (ix2 (⟨s.val - 1, by omega⟩ : Fin 8) k) := by
  have hs : IntOp.cmpi .eq (BitVec.ofNat 32 s.val) 0#32 = BitVec.ofBool (decide (s.val = 0)) :=
    WordCmp.cmpi_eq_ofNat (w := 32) (a := s.val) (b := 0) (by omega) (by omega)
  pointwise [haloAt]
  rw [hs]
  by_cases h : s.val = 0
  · rw [if_pos h, decide_eq_true h]
    refine congrArg prev ?_
    refine congrArg (fun z => ix2 z k) (Fin.ext ?_)
    show (s.val + 8 - 1) % 8 = 7; omega
  · rw [if_neg h, decide_eq_false h]
    refine congrArg tail ?_
    refine congrArg (fun z => ix2 z k) (Fin.ext ?_)
    show (s.val + 8 - 1) % 8 = s.val - 1; omega

/-- Row `s` of the `i`-th eight before the first. -/
def frow (i : Fin 2) (s : Fin 8) : Fin 16 := ⟨8 * i.val + s.val, by omega⟩

/-- The rows before the first. -/
theorem fixOf_at (u : FVec Ideal S512x256 .f32) (prev : Vec Ideal S16x256 .f32) (i : Fin 2) (s : Fin 8) (k : Fin 256) :
    fixOf u prev (ix2 (frow i s) k) =
      if s.val = 0 then prev (ix2 (frow i 7) k) else u (ix2 (⟨495 + 8 * i.val + s.val, by omega⟩ : Fin 512) k) := by
  unfold frow
  have h1 : i = 0 ∨ i = 1 := by omega
  rcases h1 with rfl | rfl
  · pointwise [fixOf]
    rw [haloAt_at]
    by_cases h : s.val = 0
    · rw [if_pos h, if_pos h]
      pointwise []
    · rw [if_neg h, if_neg h]
      pointwise [tailOf]
      refine congrArg u (congrArg (fun z => ix2 z k) (Fin.ext ?_))
      show 496 + (s.val - 1) = 495 + s.val; omega
  · pointwise [fixOf]
    rw [haloAt_at]
    by_cases h : s.val = 0
    · rw [if_pos h, if_pos h]
      pointwise []
    · rw [if_neg h, if_neg h]
      pointwise [tailOf]
      refine congrArg u (congrArg (fun z => ix2 z k) (Fin.ext ?_))
      show 496 + (8 + (s.val - 1)) = 495 + 8 * 1 + s.val; omega

/-! ## Rows before -/

section Past
variable (I : Inp) (b s : Fin 8)

/-- A row at least `8 n` down: `n` positions before it is `8 n` rows up. -/
theorem past_row (n : Nat) (p p' : Fin 512) (h : p.val = p'.val + 8 * n) (ch : Fin 5632) :
    past I b (pos s (home p)) n ch = up I b (pos s (home p')) ch := by
  refine past_of I b _ n _ ?_ ch
  show 512 * s.val + (64 * (p.val % 8) + p.val / 8) = 512 * s.val + (64 * (p'.val % 8) + p'.val / 8) + n
  omega

/-- The first position of the `s'`-th run of 64. -/
def runStart (s' : Fin 8) : Fin 512 := ⟨64 * s'.val, by omega⟩

/-- A row less than `8 n` down: counted from its run's first position. -/
theorem past_fix (n g : Nat) (s' : Fin 8) (p : Fin 512) (h : p.val = 8 * g + s'.val) (hg : g ≤ n) (ch : Fin 5632) :
    past I b (pos s (home p)) n ch = past I b (pos s (runStart s')) (n - g) ch := by
  refine past_back I b _ n g _ ?_ hg ch
  show 512 * s.val + (64 * (p.val % 8) + p.val / 8) = 512 * s.val + 64 * s'.val + g
  omega

variable {I b s} {q : Fin 22} {u : FVec Ideal S512x256 .f32}
  (hu : ∀ p k, u (ix2 p k) = up I b (pos s (home p)) (chan q k))
include hu

/-- The rows before the first, as numbers. -/
theorem fix_past (prev : Vec Ideal S16x256 .f32)
    (hp : ∀ (i : Fin 2) k, prev (ix2 (frow i 7) k) = past I b (pos s 0) (2 - i.val) (chan q k)) (i : Fin 2) (s' : Fin 8) (k : Fin 256) :
    fixOf u prev (ix2 (frow i s') k) = past I b (pos s (runStart s')) (2 - i.val) (chan q k) := by
  rw [fixOf_at]
  by_cases h : s'.val = 0
  · rw [if_pos h, hp]
    congr 2
    apply Fin.ext
    show 0 = 64 * s'.val; omega
  · rw [if_neg h, hu]
    refine (past_of I b _ _ _ ?_ _).symm
    show 512 * s.val + 64 * s'.val = 512 * s.val + (64 * ((495 + 8 * i.val + s'.val) % 8) + (495 + 8 * i.val + s'.val) / 8) + (2 - i.val)
    omega

/-- Row `a` of block `j`. -/
def brow (j : Fin 16) (a : Fin 32) : Fin 512 := ⟨32 * j.val + a.val, by omega⟩

omit hu in
/-- Two rows with one number. -/
theorem row_eq {n : Nat} (v : FVec Ideal (⟨2, ![n, 256]⟩ : Shape) .f32) (x y : Fin n) (h : x.val = y.val) (k : Fin 256) :
    v (ix2 x k) = v (ix2 y k) := congrArg v (congrArg (fun z => ix2 z k) (Fin.ext h))

theorem back0_at (j : Fin 16) (a : Fin 32) (k : Fin 256) : back0 u j (ix2 a k) = up I b (pos s (home (brow j a))) (chan q k) := by
  refine Eq.trans ?_ (hu _ k)
  pointwise [back0]
  rfl

variable {fix : FVec Ideal S16x256 .f32}
  (hx : ∀ (i : Fin 2) s' k, fix (ix2 (frow i s') k) = past I b (pos s (runStart s')) (2 - i.val) (chan q k))
include hx

theorem back1_at (j : Fin 16) (a : Fin 32) (k : Fin 256) :
    back1 u fix j (ix2 a k) = past I b (pos s (home (brow j a))) 1 (chan q k) := by
  obtain ⟨j, hj⟩ := j
  cases j with
  | zero =>
    pointwise [back1]
    split_ifs with h
    · refine Eq.trans ?_ ((hx 1 ⟨a.val, h⟩ k).trans (past_fix I b s 1 0 ⟨a.val, h⟩ _ ?_ (by decide) _).symm)
      · exact row_eq fix _ _ rfl k
      · show 32 * 0 + a.val = 8 * 0 + a.val; omega
    · refine Eq.trans (hu _ k) (past_row I b s 1 _ _ ?_ _).symm
      show 32 * 0 + a.val = a.val - 8 + 8 * 1; omega
    · next h0 => exact absurd rfl h0
  | succ j =>
    pointwise [back1]
    refine Eq.trans (hu _ k) (past_row I b s 1 _ _ ?_ _).symm
    show 32 * (j + 1) + a.val = 32 * j + 24 + a.val + 8 * 1; omega

theorem back2_at (j : Fin 16) (a : Fin 32) (k : Fin 256) :
    back2 u fix j (ix2 a k) = past I b (pos s (home (brow j a))) 2 (chan q k) := by
  obtain ⟨j, hj⟩ := j
  cases j with
  | zero =>
    pointwise [back2]
    split_ifs with h
    · refine Eq.trans ?_ ((hx ⟨a.val / 8, by omega⟩ ⟨a.val % 8, by omega⟩ k).trans
        (past_fix I b s 2 (a.val / 8) ⟨a.val % 8, by omega⟩ _ ?_ (by omega) _).symm)
      · refine row_eq fix _ _ ?_ k
        show a.val = 8 * (a.val / 8) + a.val % 8; omega
      · show 32 * 0 + a.val = 8 * (a.val / 8) + a.val % 8; omega
    · refine Eq.trans (hu _ k) (past_row I b s 2 _ _ ?_ _).symm
      show 32 * 0 + a.val = a.val - 16 + 8 * 2; omega
    · next h0 => exact absurd rfl h0
  | succ j =>
    pointwise [back2]
    refine Eq.trans (hu _ k) (past_row I b s 2 _ _ ?_ _).symm
    show 32 * (j + 1) + a.val = 32 * j + 16 + a.val + 8 * 2; omega

/-- The three taps. -/
theorem convOf_at (tap : Fin 3 → Vec Ideal S1x256 .f32) (ht : ∀ k c, tap k (ix2 0 c) = I.cw k (chan q c)) (j : Fin 16) (a : Fin 32) (k : Fin 256) :
    convOf u fix tap j (ix2 a k) = conv I b (pos s (home (brow j a))) (chan q k) := by
  pointwise [convOf]
  rw [back0_at hu, back1_at hu hx, back2_at hu hx, ht, ht, ht]
  rfl
end Past

/-- The gating. -/
theorem gateOf_at (g v : FVec Ideal S32x256 .f32) (i : S32x256.Idx) :
    gateOf ((-((Real.log 2)⁻¹) : ℝ) : EReal) g v i = silu (g i) * v i := by
  rw [← silu_exp2, eq_ix2 i]
  pointwise [gateOf]
  rfl

/-! ## The grid point -/

section Point
variable {D : Loads Ideal} {I : Inp} {b s : Fin 8} (hR : Reads D I b s)
include hR

/-- A normalized row. -/
theorem row_at (r : Fin 512) (q : Fin 1024) : normRows D.res D.nw (ix2 r q) = norm (resid I b (pos s r)) I.nw q := by
  rw [normRows_at]
  simp only [hR.res, hR.nw]

variable {sig : RefSig} {κ : Kind} {sp sp' sp'' : Space} (vp : View sig κ sp S8x512x128 .f32)
  (va : View sig κ sp' S512x2816 .bf16) (vo : View sig κ sp'' S512x1024 .f32)

/-- An up-projected strip. -/
theorem upOf_at (q : Fin 22) (p : Fin 512) (k : Fin 256) :
    upOf D (rowsOf vp D) q (ix2 p k) = up I b (pos s (home p)) (chan q k) := by
  pointwise [upOf]
  refine Finset.sum_congr rfl fun j _ => ?_
  rw [rowsOf_at, row_at hR, hR.wup]

/-- The rows a strip leaves for the next tile. -/
theorem kept_at (q : Fin 22) (i : Fin 2) (k : Fin 256) :
    tailOf (upOf D (rowsOf vp D) q) (ix2 (frow i 7) k) = up I b (pos s ⟨510 + i.val, by omega⟩) (chan q k) := by
  unfold frow
  pointwise [tailOf]
  rw [upOf_at hR]
  congr 2
  apply Fin.ext
  show 64 * ((496 + (8 * i.val + 7)) % 8) + (496 + (8 * i.val + 7)) / 8 = 510 + i.val
  omega

variable (prev : Fin 22 → Vec Ideal S16x256 .f32)
  (hp : ∀ q (i : Fin 2) k, prev q (ix2 (frow i 7) k) = past I b (pos s 0) (2 - i.val) (chan q k))
include hp

/-- A block of gated rows. -/
theorem actOf_at (c : Fin 11) (j : Fin 16) (a : Fin 32) (k : Fin 256) :
    actOf D (rowsOf vp D) prev c j (ix2 a k) = act I b (pos s (home (brow j a))) ⟨256 * c.val + k.val, by omega⟩ := by
  unfold actOf
  rw [hR.nl, gateOf_at]
  have e (q : Fin 22) := convOf_at (upOf_at hR vp q) (fix_past (upOf_at hR vp q) (prev q) (hp q)) (D.tap q) (hR.tap q) j a k
  rw [e, e]
  unfold act
  have c1 : chan (sg c) k = ⟨256 * c.val + k.val, by omega⟩ := by
    apply Fin.ext; show 2816 * (2 * c.val % 2) + 256 * (2 * c.val / 2) + k.val = 256 * c.val + k.val; omega
  have c2 : chan (sv c) k = ⟨2816 + (256 * c.val + k.val), by omega⟩ := by
    apply Fin.ext; show 2816 * ((2 * c.val + 1) % 2) + 256 * ((2 * c.val + 1) / 2) + k.val = 2816 + (256 * c.val + k.val); omega
  rw [c1, c2]

/-- The projected rows. -/
theorem accOf_at (p : Fin 512) (q : Fin 1024) : accOf vp va D prev (ix2 p q) = down I b (pos s (home p)) q := by
  pointwise [accOf, downOf]
  refine Finset.sum_congr rfl fun j _ => ?_
  rw [hR.wdn, View.readCov_eq_canon']
  refine congrArg (· * _) ?_
  refine Eq.trans (congrArg _ ?_) (act_at D (rowsOf vp D) prev (fun p k => act I b (pos s (home p)) k) (actOf_at hR vp prev hp) p j)
  funext a; apply Fin.ext
  fin_cases a
  · show 0 + 1 * p.val = p.val; omega
  · show 0 + 1 * j.val = j.val; omega

/-- The blocks of positions stored hold the projected rows in their own order. -/
theorem homeOf_at (r : Fin 512) (q : Fin 1024) : View.canon (homeOf vp va D prev) (ix2 r q) = down I b (pos s r) q := by
  refine (out_at _ r q).trans ?_
  rw [View.readCov_eq_canon']
  refine Eq.trans (congrArg _ ?_) ((plane_at _ _ ⟨q.val / 128, by omega⟩ (away r) ⟨q.val % 128, by omega⟩).trans
    ((accOf_at hR vp va prev hp _ _).trans ?_))
  · funext a; apply Fin.ext
    fin_cases a
    · show (8 * (q.val / 128) + r.val / 64) / 8 + 1 * 0 = q.val / 128; omega
    · show (8 * (q.val / 128) + r.val / 64) % 8 + 8 * (r.val % 64) = 8 * (r.val % 64) + r.val / 64; omega
    · show 0 + 1 * (q.val % 128) = q.val % 128; omega
  · rw [home_away]
    congr 1
    apply Fin.ext; show 128 * (q.val / 128) + q.val % 128 = q.val; omega

/-- The residual with the block's rows. -/
theorem sumOf_at (r : Fin 512) (q : Fin 1024) :
    sumOf vp va vo D prev (ix2 r q) = resid I b (pos s r) q + down I b (pos s r) q := by
  pointwise [sumOf]
  rw [hR.res, View.readCov_eq_canon']
  refine congrArg (_ + ·) (Eq.trans (congrArg _ ?_) (homeOf_at hR vp va prev hp r q))
  funext a; apply Fin.ext
  fin_cases a
  · show 0 + 1 * r.val = r.val; omega
  · show 0 + 1 * q.val = q.val; omega

/-- The output block. -/
theorem final_at (w : Vec Ideal S1x1024 .f32) (hw : ∀ q, w (ix2 0 q) = I.fnw q) (r : Fin 512) (q : Fin 1024) :
    normRows (sumOf vp va vo D prev) w (ix2 r q) = outv I b (pos s r) q := by
  rw [normRows_at]
  simp only [sumOf_at hR vp va vo prev hp, hw]
  rfl
end Point

end Cert.Ffn.Body

end
-- ==== Proof.FfnPieces.lean ====
/- The pieces the body's run leaves, by case: the strips' last rows, and the output rows over those kept from the tile before. -/
module

public import proofs.«01_k».proof.Proof.FfnBody

@[expose] public section

set_option maxRecDepth 65536

noncomputable section

namespace Cert.Ffn.Body

open Idealize.ShloMosaic Idealize.ShloMosaic.TcCoe Cert.Kernel2Ideal Cert.Kernel2Ideal.Gen

variable {F : FTy → Type} [FloatOps F] [Named F]

variable (c : Dev nD) (i : grid0.Coords)
  (arg2 : Memref sig .tc .vmem S512x1024 .f32) (harg2 : arg2.IsWhole)
  (arg3 : Memref sig .tc .vmem S512x1024 .bf16) (harg3 : arg3.IsWhole)
  (arg4 : Memref sig .tc .vmem S1024x1024 .bf16) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S3x5632 .f32) (harg7 : arg7.IsWhole)
  (arg8 : Memref sig .tc .vmem S2816x1024 .bf16) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S8x512x128 .f32) (harg11 : arg11.IsWhole)
  (arg12 : Memref sig .tc .vmem S16x5632 .f32) (harg12 : arg12.IsWhole)
  (arg13 : Memref sig .tc .vmem S512x2816 .bf16) (harg13 : arg13.IsWhole)
  (x0 : Vec F S512x1024 .f32)
  (x1 : Vec F S512x1024 .bf16)
  (x2 : Vec F S1024x1024 .bf16)
  (x3 : Vec F S1x1024 .f32)
  (x4 : Vec F S1024x5632 .bf16)
  (x5 : Vec F S3x5632 .f32)
  (x6 : Vec F S2816x1024 .bf16)
  (x7 : Vec F S1x1024 .f32)
  (xs1 : Vec F S16x5632 .f32)

/-- The residual with the projected attention added. -/
def residOf (x : Vec F S512x1024 .f32) (o : Vec F S512x1024 .bf16) (w : Vec F S1024x1024 .bf16) : FVec F S512x1024 .f32 :=
  addf (shapeCast S512x1024 x shapeCasts_S512x1024_S512x1024)
    (matmul dot_S512x1024_S1024x1024_S512x1024_1_0_0_1_n_n none (shapeCast S512x1024 o shapeCasts_S512x1024_S512x1024)
      (shapeCast S1024x1024 w shapeCasts_S1024x1024_S1024x1024) (constant S512x1024 .f32 0x00000000#32))

/-- What the body loads from its windows. -/
def loadsOf : Loads F where
  res := residOf (View.readAt (Elt F) arg2.view rFull.toLoadRect (harg2.unread x0))
    (View.readAt (Elt F) arg3.view rFull.toLoadRect (harg3.unread x1))
    (View.readAt (Elt F) arg4.view (Rect.unit ![0, 0] S1024x1024.size inb_S1024x1024_S1024x1024_0_0).toLoadRect (harg4.unread x2))
  nw := View.readAt (Elt F) arg5.view (Rect.unit ![0, 0] S1x1024.size inb_S1x1024_S1x1024_0_0).toLoadRect (harg5.unread x3)
  wup q := View.readAt (Elt F) arg6.view (rUp q).toLoadRect (harg6.unread x4)
  tap q k := View.readAt (Elt F) arg7.view (rTap q k).toLoadRect (harg7.unread x5)
  wdn := View.readAt (Elt F) arg8.view (Rect.unit ![0, 0] S2816x1024.size inb_S2816x1024_S2816x1024_0_0).toLoadRect (harg8.unread x6)
  nl := Named.named κ "neg_log2e" 0xBFB8AA3B#32

/-- The output: the normalized sums over the blocks stored before. -/
def outOf (D : Loads F) (w : Vec F S1x1024 .f32) (prev : Fin 22 → Vec F S16x256 .f32) : List (View.Piece (Elt F) S512x1024 .f32) :=
  ⟨rFull, normRows (sumOf arg11.view arg13.view arg10.view D prev) w⟩ :: homeOf arg11.view arg13.view D prev

/-- The final weights. -/
def lastOf : Vec F S1x1024 .f32 :=
  View.readAt (Elt F) arg9.view (Rect.unit ![0, 0] S1x1024.size inb_S1x1024_S1x1024_0_0).toLoadRect (harg9.unread x7)

/-- A strip's kept rows as the tile before left them. -/
def prevB (q : Fin 22) : Vec F S16x256 .f32 := View.readAt (Elt F) arg12.view (rTail q).toLoadRect (harg12.unread xs1)

/-- The kept rows of a tile that is not a batch's first. -/
theorem tail_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs1).2.1 =
      tailPieces (loadsOf arg2 harg2 arg3 harg3 arg4 harg4 arg5 harg5 arg6 harg6 arg7 harg7 arg8 harg8 x0 x1 x2 x3 x4 x5 x6)
        (rowsOf arg11.view (loadsOf arg2 harg2 arg3 harg3 arg4 harg4 arg5 harg5 arg6 harg6 arg7 harg7 arg8 harg8 x0 x1 x2 x3 x4 x5 x6)) [] 22 := by sl_kernel_rfl

/-- The kept rows of a batch's first tile. -/
theorem tail_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 =
      tailPieces (loadsOf arg2 harg2 arg3 harg3 arg4 harg4 arg5 harg5 arg6 harg6 arg7 harg7 arg8 harg8 x0 x1 x2 x3 x4 x5 x6)
        (rowsOf arg11.view (loadsOf arg2 harg2 arg3 harg3 arg4 harg4 arg5 harg5 arg6 harg6 arg7 harg7 arg8 harg8 x0 x1 x2 x3 x4 x5 x6)) zeroTail 22 := by sl_kernel_rfl

/-- The output of a tile that is not a batch's first. -/
theorem out_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs1).1 =
      outOf arg10 arg11 arg13 (loadsOf arg2 harg2 arg3 harg3 arg4 harg4 arg5 harg5 arg6 harg6 arg7 harg7 arg8 harg8 x0 x1 x2 x3 x4 x5 x6)
        (lastOf arg9 harg9 x7) (prevB arg12 harg12 xs1) := by sl_kernel_rfl

/-- The output of a batch's first tile. -/
theorem out_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 =
      outOf arg10 arg11 arg13 (loadsOf arg2 harg2 arg3 harg3 arg4 harg4 arg5 harg5 arg6 harg6 arg7 harg7 arg8 harg8 x0 x1 x2 x3 x4 x5 x6)
        (lastOf arg9 harg9 x7) (prevA arg11.view arg12.view (loadsOf arg2 harg2 arg3 harg3 arg4 harg4 arg5 harg5 arg6 harg6 arg7 harg7 arg8 harg8 x0 x1 x2 x3 x4 x5 x6)) := by sl_kernel_rfl

end Cert.Ffn.Body

end
-- ==== Proof.FfnBlocks.lean ====
/- The blocks a grid point of the feed-forward kernel loads hold one tile of one batch of the arguments. -/
module

public import proofs.«01_k».proof.Proof.Gen.Kernel2Ideal.Value
public import proofs.«01_k».proof.Proof.FfnRead
public import proofs.«01_k».proof.Proof.FfnPieces
public import proofs.«01_k».proof.Proof.Load
public import Idealize.ShloMosaic.Lib.StableHlo.ReadAt

@[expose] public section

set_option maxRecDepth 16384

noncomputable section

namespace Cert.Ffn.Host

open Idealize.ShloMosaic Idealize.ShloMosaic.TcCoe Cert.Kernel2Ideal Cert.Kernel2Ideal.Gen Cert.Ffn.Body Cert.Load

variable (m : (ℓ : Loc nD τ sig) → Buf (Elt Ideal) ℓ) (d : Dev nD)

/-- The arguments by coordinates. -/
def inp : Inp where
  x b s q := m (d.tc.loc main_arg0) (ix3 b s q)
  o b s q := m (d.tc.loc main_arg1) (ix3 b s q)
  wo k q := m (d.tc.loc main_arg2) (ix2 k q)
  nw q := m (d.tc.loc main_arg3) (ix1 q)
  wup k ch := m (d.tc.loc main_arg4) (ix2 k ch)
  cw k ch := m (d.tc.loc main_arg5) (ix2 k ch)
  wdn j q := m (d.tc.loc main_arg6) (ix2 j q)
  fnw q := m (d.tc.loc main_arg7) (ix1 q)

theorem v0_at (r : Fin 32768) (q : Fin 1024) : V m d main_v0 (ix2 r q) = (inp m d).x ⟨r.val / 4096, by omega⟩ ⟨r.val % 4096, by omega⟩ q := by
  unfold V inp
  after_reads_at
theorem v1_at (r : Fin 32768) (q : Fin 1024) : V m d main_v1 (ix2 r q) = (inp m d).o ⟨r.val / 4096, by omega⟩ ⟨r.val % 4096, by omega⟩ q := by
  unfold V inp
  after_reads_at
theorem v2_at (k q : Fin 1024) : V m d main_v2 (ix2 k q) = (inp m d).wo k q := by
  unfold V inp
  after_reads_at
theorem v3_at (q : Fin 1024) : V m d main_v3 (ix2 0 q) = (inp m d).nw q := by
  unfold V inp
  after_reads_at
theorem v4_at (k : Fin 1024) (ch : Fin 5632) : V m d main_v4 (ix2 k ch) = (inp m d).wup k ch := by
  unfold V inp
  after_reads_at
theorem taps_at (k : Fin 3) (ch : Fin 5632) : V m d main_arg5 (ix2 k ch) = (inp m d).cw k ch := by
  unfold V inp
  after_reads_at
theorem v5_at (j : Fin 2816) (q : Fin 1024) : V m d main_v5 (ix2 j q) = (inp m d).wdn j q := by
  unfold V inp
  after_reads_at
theorem v6_at (q : Fin 1024) : V m d main_v6 (ix2 0 q) = (inp m d).fnw q := by
  unfold V inp
  after_reads_at

/-- Row `r` of point `t`'s blocks, in an array of every position. -/
def row (t : Fin cfg0.N) (r : Fin 512) : Fin 32768 := ⟨512 * t.val + r.val, by have := lt_of_lt_of_eq t.isLt (show cfg0.N = 64 from N_0); omega⟩

variable (t : Fin cfg0.N)

/-- The block indices: the point's number down the rows of the moving windows, zero elsewhere. -/
theorem idx_rows : ∀ t : Fin grid0.N, (win0_0.index t 0 = t.val ∧ win0_0.index t 1 = 0) ∧ (win0_1.index t 0 = t.val ∧ win0_1.index t 1 = 0) := by
  decide +kernel
theorem idx_zero : ∀ t : Fin grid0.N, (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) ∧ (win0_7.index t 0 = 0 ∧ win0_7.index t 1 = 0) := by decide +kernel

theorem blk0_at (r : Fin 512) (q : Fin 1024) : iblk m d 0 t (ix2 r q) = V m d main_v0 (ix2 (row t r) q) := by
  unfold row; blk_simp [iblk]; blk_ext! <;> (have h := idx_rows t; omega)
theorem blk1_at (r : Fin 512) (q : Fin 1024) : iblk m d 1 t (ix2 r q) = V m d main_v1 (ix2 (row t r) q) := by
  unfold row; blk_simp [iblk]; blk_ext! <;> (have h := idx_rows t; omega)
theorem blk2_at (k q : Fin 1024) : iblk m d 2 t (ix2 k q) = V m d main_v2 (ix2 k q) := by
  blk_simp [iblk]; blk_ext! <;> (have h := idx_zero t; omega)
theorem blk3_at (q : Fin 1024) : iblk m d 3 t (ix2 0 q) = V m d main_v3 (ix2 0 q) := by
  blk_simp [iblk]; blk_ext! <;> (have h := idx_zero t; omega)
theorem blk4_at (k : Fin 1024) (ch : Fin 5632) : iblk m d 4 t (ix2 k ch) = V m d main_v4 (ix2 k ch) := by
  blk_simp [iblk]; blk_ext! <;> (have h := idx_zero t; omega)
theorem blk5_at (k : Fin 3) (ch : Fin 5632) : iblk m d 5 t (ix2 k ch) = V m d main_arg5 (ix2 k ch) := by
  blk_simp [iblk]; blk_ext! <;> (have h := idx_zero t; omega)
theorem blk6_at (j : Fin 2816) (q : Fin 1024) : iblk m d 6 t (ix2 j q) = V m d main_v5 (ix2 j q) := by
  blk_simp [iblk]; blk_ext! <;> (have h := idx_zero t; omega)
theorem blk7_at (q : Fin 1024) : iblk m d 7 t (ix2 0 q) = V m d main_v6 (ix2 0 q) := by
  blk_simp [iblk]; blk_ext! <;> (have h := idx_zero t; omega)

/-- What point `t` loads, and its final weights. -/
def loads : Loads Ideal :=
  loadsOf (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (iblk m d 0 t) (iblk m d 1 t) (iblk m d 2 t) (iblk m d 3 t) (iblk m d 4 t) (iblk m d 5 t) (iblk m d 6 t)
def last : Vec Ideal S1x1024 .f32 := lastOf (ms0_7 t) (hs0_7 t) (iblk m d 7 t)

/-- The batch of a point, and the tile it treats. -/
def bat : Fin 8 := ⟨t.val / 8, by have := lt_of_lt_of_eq t.isLt (show cfg0.N = 64 from N_0); omega⟩
def tile : Fin 8 := ⟨t.val % 8, by omega⟩

theorem row_div (r : Fin 512) : (⟨(row t r).val / 4096, by omega⟩ : Fin 8) = bat t ∧
    (⟨(row t r).val % 4096, by omega⟩ : Fin 4096) = pos (tile t) r := by
  constructor <;> apply Fin.ext
  · show (512 * t.val + r.val) / 4096 = t.val / 8; omega
  · show (512 * t.val + r.val) % 4096 = 512 * (t.val % 8) + r.val; omega

/-- A matrix's index shifted by nothing. -/
theorem unmoved {n k : Nat} (x : Fin n) (y : Fin k) (a : Fin 2) :
    ((ix2 x y : (⟨2, ![n, k]⟩ : Shape).Idx) a).val = (![0, 0] : Fin 2 → Nat) a + ((ix2 x y : (⟨2, ![n, k]⟩ : Shape).Idx) a).val := by
  fin_cases a <;> exact (Nat.zero_add _).symm

theorem reads : Reads (loads m d t) (inp m d) (bat t) (tile t) where
  res r q := by
    have h := row_div t r
    have e (k : Fin 1024) := (load_at (hs0_0 t) _ _ _ inb_S512x1024_S512x1024_0_0 (ix2 r k) _ (unmoved r k)).trans (blk0_at m d t r k)
    have e' (k : Fin 1024) := (load_at (hs0_1 t) _ _ _ inb_S512x1024_S512x1024_0_0 (ix2 r k) _ (unmoved r k)).trans (blk1_at m d t r k)
    have e'' (k : Fin 1024) := (load_at (hs0_2 t) _ _ _ inb_S1024x1024_S1024x1024_0_0 (ix2 k q) _ (unmoved k q)).trans (blk2_at m d t k q)
    show residOf _ _ _ (ix2 r q) = _
    pointwise [residOf]
    refine congrArg₂ (· + ·) ((e q).trans ?_) (Finset.sum_congr rfl fun k _ => congrArg₂ (· * ·) ((e' k).trans ?_) ((e'' k).trans ?_))
    · rw [v0_at, h.1, h.2]
    · rw [v1_at, h.1, h.2]
    · exact v2_at m d k q
  nw q := (load_at (hs0_3 t) _ _ _ _ _ (ix2 0 q) (unmoved 0 q)).trans ((blk3_at m d t q).trans (v3_at m d q))
  wup q k c := by
    refine (load_at (hs0_4 t) _ _ _ _ _ (ix2 k (chan q c)) ?_).trans ((blk4_at m d t _ _).trans (v4_at m d _ _))
    intro a; fin_cases a; exacts [(Nat.zero_add _).symm, rfl]
  tap q k c := by
    refine (load_at (hs0_5 t) _ _ _ _ _ (ix2 k (chan q c)) ?_).trans ((blk5_at m d t _ _).trans (taps_at m d _ _))
    intro a; fin_cases a <;> rfl
  wdn j q := (load_at (hs0_6 t) _ _ _ _ _ (ix2 j q) (unmoved j q)).trans ((blk6_at m d t j q).trans (v5_at m d j q))
  nl := rfl

theorem last_at (q : Fin 1024) : last m d t (ix2 0 q) = (inp m d).fnw q :=
  (load_at (hs0_7 t) _ _ _ _ _ (ix2 0 q) (unmoved 0 q)).trans ((blk7_at m d t q).trans (v6_at m d q))

end Cert.Ffn.Host

end
-- ==== Proof.FfnPoints.lean ====
/- Point by point: the kept rows carry each tile's last two positions to the next, and each point's output block holds the
   block's output at its 512 positions. -/
module

public import proofs.«01_k».proof.Proof.FfnBlocks

@[expose] public section

set_option maxRecDepth 16384

noncomputable section

namespace Cert.Ffn.Host

open Idealize.ShloMosaic Idealize.ShloMosaic.TcCoe Cert.Kernel2Ideal Cert.Kernel2Ideal.Gen Cert.Kernel2Ideal.Value Cert.Ffn.Body

variable (m : (ℓ : Loc nD τ sig) → Buf (Elt Ideal) ℓ) (d : Dev nD)

/-- After a point: the up-projected rows of the tile's last two positions, and the point's rows of the output. -/
def Left (t : Fin cfg0.N) (out : Vec Ideal S512x1024 .f32) (st : Vec Ideal S16x5632 .f32) : Prop :=
  (∀ (i : Fin 2) ch, st (ix2 (frow i 7) ch) = up (inp m d) (bat t) (pos (tile t) ⟨510 + i.val, by omega⟩) ch) ∧
    ∀ r q, out (ix2 r q) = outv (inp m d) (bat t) (pos (tile t) r) q

/-- Any channel is a channel of a strip. -/
theorem exists_chan (ch : Fin 5632) : ∃ q k, ch = chan q k := by
  by_cases h : ch.val < 2816
  · refine ⟨⟨2 * (ch.val / 256), by omega⟩, ⟨ch.val % 256, by omega⟩, Fin.ext ?_⟩
    show ch.val = 2816 * (2 * (ch.val / 256) % 2) + 256 * (2 * (ch.val / 256) / 2) + ch.val % 256
    omega
  · refine ⟨⟨2 * ((ch.val - 2816) / 256) + 1, by omega⟩, ⟨(ch.val - 2816) % 256, by omega⟩, Fin.ext ?_⟩
    show ch.val = 2816 * ((2 * ((ch.val - 2816) / 256) + 1) % 2) + 256 * ((2 * ((ch.val - 2816) / 256) + 1) / 2) + (ch.val - 2816) % 256
    omega

/-- A strip's columns in the kept rows. -/
theorem tail_idx (q : Fin 22) (x : Fin 16) (k : Fin 256) : (rTail q).emb (ix2 x k) = (ix2 x (chan q k) : S16x5632.Idx) := by
  funext a; apply Fin.ext
  refine (ValueKit.rect_emb_unit_val _ _ _ _ a).trans ?_
  fin_cases a
  exacts [Nat.zero_add _, rfl]

/-- The zeros a batch's first tile starts from. -/
theorem zeroTail_at (x : Fin 16) (ch : Fin 5632) : View.canon (zeroTail (F := Ideal)) (ix2 x ch) = 0 := by
  have e : (ix2 x ch : S16x5632.Idx) = (Rect.unit ![0, 0] S16x5632.size inb_S16x5632_S16x5632_0_0).emb (ix2 x ch) := by
    funext a; apply Fin.ext
    refine Eq.trans ?_ (ValueKit.rect_emb_unit_val _ _ _ _ a).symm
    exact unmoved x ch a
  rw [e]
  refine (View.canon_cons_emb (Val := Elt Ideal) (Rect.unit ![0, 0] S16x5632.size inb_S16x5632_S16x5632_0_0) _ _ _).trans ?_
  rw [shapeCast_self]
  exact Ideal.ofBits_zero_f32

/-- Before a batch's first tile there is nothing. -/
theorem prevA_at {sig : RefSig} {k : Kind} {sp sp' : Space} (vp : View sig k sp S8x512x128 .f32) (vt : View sig k sp' S16x5632 .f32)
    (D : Loads Ideal) (I : Inp) (b s : Fin 8) (hs : s.val = 0) (q : Fin 22) (i : Fin 2) (c : Fin 256) :
    prevA vp vt D q (ix2 (frow i 7) c) = past I b (pos s 0) (2 - i.val) (chan q c) := by
  unfold prevA past
  rw [View.readCov_eq_canon', if_neg ?_]
  · refine (tail_before _ _ _ q _).trans ?_
    rw [tail_idx]
    exact zeroTail_at _ _
  · show ¬2 - i.val ≤ 512 * s.val + 0
    omega

variable {m d}

section Lists
variable {t : Fin cfg0.N} (prev : Fin 22 → Vec Ideal S16x256 .f32) (L : List (View.Piece (Elt Ideal) S16x5632 .f32))
  (H : ∀ q (i : Fin 2) k, prev q (ix2 (frow i 7) k) = past (inp m d) (bat t) (pos (tile t) 0) (2 - i.val) (chan q k))
include H

theorem left_of_lists (out : Vec Ideal S512x1024 .f32) (st : Vec Ideal S16x5632 .f32)
    (arg10 : Memref sig .tc .vmem S512x1024 .f32) (arg11 : Memref sig .tc .vmem S8x512x128 .f32) (arg13 : Memref sig .tc .vmem S512x2816 .bf16)
    (ho : out = View.canon (outOf arg10 arg11 arg13 (loads m d t) (last m d t) prev))
    (hs : st = View.canon (tailPieces (loads m d t) (rowsOf arg11.view (loads m d t)) L 22)) : Left m d t out st := by
  subst ho hs
  refine ⟨fun i ch => ?_, fun r q => ?_⟩
  · obtain ⟨q, k, rfl⟩ := exists_chan ch
    rw [← tail_idx, tail_at]
    exact kept_at (reads m d t) arg11.view q i k
  · have e : (ix2 r q : S512x1024.Idx) = rFull.emb (ix2 r q) := by
      funext a; apply Fin.ext
      refine Eq.trans ?_ (ValueKit.rect_emb_unit_val _ _ _ _ a).symm
      exact unmoved r q a
    refine ((congrArg _ e).trans (View.canon_cons_emb rFull _ _ _)).trans ?_
    exact final_at (reads m d t) arg11.view arg13.view arg10.view prev H _ (last_at m d t) r q
end Lists

/-- One point, over what the point before left; a batch's first point starts from zeros. -/
theorem left_point (t : Fin cfg0.N) (acc : Vec Ideal S512x1024 .f32 × Vec Ideal S16x5632 .f32)
    (h : ¬t.val % 8 = 0 → ∀ (i : Fin 2) ch, acc.2 (ix2 (frow i 7) ch) = past (inp m d) (bat t) (pos (tile t) 0) (2 - i.val) ch) :
    Left m d t (stAt0 m d t.val t.isLt acc).1 (stAt0 m d t.val t.isLt acc).2 := by
  by_cases h0 : t.val % 8 = 0
  · rw [stAt0_A m d t acc h0]
    refine left_of_lists (prevA scM0_0.view scM0_1.view (loads m d t)) zeroTail (prevA_at _ _ _ _ _ _ h0) _ _ (ms0_8 t) scM0_0 scM0_2 ?_ ?_
    · dsimp only; unfold out0_A_8; rw [View.read_writes_junk_eq_canon]
      exact congrArg View.canon (out_A ..)
    · dsimp only; unfold sout0_A_1; rw [View.read_writes_junk_eq_canon]
      exact congrArg View.canon (tail_A ..)
  · rw [stAt0_B m d t acc h0]
    refine left_of_lists (prevB scM0_1 (Memref.isWhole_whole _) acc.2) [] (fun q i k => ?_) _ _ (ms0_8 t) scM0_0 scM0_2 ?_ ?_
    · unfold prevB
      rw [View.readAt_eq_ld, Memref.IsWhole.read_unread]
      exact (congrArg acc.2 (tail_idx q _ k)).trans (h h0 i _)
    · dsimp only; unfold out0_B_8; rw [View.read_writes_junk_eq_canon]
      exact congrArg View.canon (out_B ..)
    · dsimp only; unfold sout0_B_1; rw [View.read_writes_junk_eq_canon]
      exact congrArg View.canon (tail_B ..)

/-- Every point. -/
theorem left_all (n : Nat) (hn : n < cfg0.N) : Left m d ⟨n, hn⟩ (outsAt0 m d n hn).1 (outsAt0 m d n hn).2 := by
  induction n with
  | zero =>
    rw [outsAt0_zero]
    exact left_point ⟨0, hn⟩ _ (fun h => absurd (Nat.zero_mod _) h)
  | succ n ih =>
    rw [outsAt0_succ]
    refine left_point ⟨n + 1, hn⟩ _ (fun h i ch => ?_)
    replace h : ¬(n + 1) % 8 = 0 := h
    refine ((ih (Nat.lt_of_succ_lt hn)).1 i ch).trans ?_
    have hb : bat (⟨n + 1, hn⟩ : Fin cfg0.N) = bat ⟨n, Nat.lt_of_succ_lt hn⟩ := by
      apply Fin.ext; show (n + 1) / 8 = n / 8; omega
    rw [hb]
    refine (past_of _ _ _ _ _ ?_ ch).symm
    show 512 * ((n + 1) % 8) + 0 = 512 * (n % 8) + (510 + i.val) + (2 - i.val)
    omega

variable (m d)

/-- The kernel's result: the block's output at every position. -/
theorem result_at (r : Fin 32768) (q : Fin 1024) :
    G8 m d (ix2 r q) = outv (inp m d) ⟨r.val / 4096, by omega⟩ ⟨r.val % 4096, by omega⟩ q := by
  have hp : pt8Of (ix2 r q) = r.val / 512 := by
    show 1 * (r.val / 512 - 0) + 1 * (q.val / 1024 - 0) = _; omega
  have hlt : r.val / 512 < cfg0.N := lt_of_lt_of_eq (b := 64) (by omega) (show cfg0.N = 64 from N_0).symm
  have hl : loc8Of (ix2 r q) = ix2 (⟨r.val % 512, by omega⟩ : Fin 512) q := by
    funext a; apply Fin.ext
    fin_cases a
    · rfl
    · show q.val % 1024 = q.val; omega
  unfold G8
  rw [dif_pos (lt_of_eq_of_lt hp hlt), hl, ← outsAt0_sweep m d _ (lt_of_eq_of_lt hp hlt)]
  refine ((left_all _ (lt_of_eq_of_lt hp hlt)).2 _ q).trans ?_
  congr 1
  · apply Fin.ext; show pt8Of (ix2 r q) / 8 = _; rw [hp]; show r.val / 512 / 8 = r.val / 4096; omega
  · apply Fin.ext; show 512 * (pt8Of (ix2 r q) % 8) + r.val % 512 = r.val % 4096; rw [hp]; omega

end Cert.Ffn.Host

end
-- ==== Proof.FfnRef.lean ====
/- The feed-forward reference in stages, each stage read at an index: its result at a row and a column is the block's output. -/
module

public import proofs.«01_k».proof.Proof.Gen.Reference2Ideal.Run
public import proofs.«01_k».proof.Proof.FfnSpec
public import Idealize.ShloMosaic.Lib.StableHlo.ReadAt

@[expose] public section

set_option maxRecDepth 16384

noncomputable section

namespace Cert.Reference2Ideal.Stages

open Idealize.ShloMosaic Idealize.ShloMosaic.TcCoe Idealize.ShloMosaic.StableHlo
open Cert.Reference2Ideal Cert.Reference2Ideal.Gen Cert.Ffn

/-- An array of numbers of the given shape. -/
abbrev Num (s : Shape) := FVec Ideal s .f32

/-- An array scaled to unit mean square at each position, times the weights. -/
def scaled (v : Num S8x4096x1024) (w : Num S1024) : Num S8x4096x1024 :=
  mulf (mulf v (broadcastInDim S8x4096x1024 ![0, 1, 2] bcast_S8x4096x1_S8x4096x1024_0_1_2
      (Host.rsqrt (addf (Host.divf (broadcastInDim S8x4096x1 ![0, 1] bcast_S8x4096_S8x4096x1_0_1
            (Host.reduceAdd (mulf v v) (constant S_ .f32 0x00000000#32) reducesTo_S8x4096x1024_S8x4096_d2 h_S_))
          (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 w))

/-- The residual with the projected attention. -/
def residual (x : Num S8x4096x1024) (o : FVec Ideal S8x4096x1024 .bf16) (wo : Num S1024x1024) : Num S8x4096x1024 :=
  addf x (Host.dotGeneral dot_S8x4096x1024_S1024x1024_S8x4096x1024_2_0_01_1_n_n none (extf .f32 o bitsLt_bf16_f32) wo)

/-- The up-projection. -/
def raised (h : Num S8x4096x1024) (w : Num S1024x5632) : Num S8x4096x5632 :=
  Host.dotGeneral dot_S8x4096x1024_S1024x5632_S8x4096x5632_2_0_01_1_n_n none h w

/-- Two rows of zeros before each batch. -/
def padded (u : Num S8x4096x5632) : Num S8x4098x5632 :=
  pad S8x4098x5632 ![0, 2, 0] ![0, 0, 0] ![0, 0, 0] u (sitofp .f32 (constantI S_ 32 0#32)) pads_S8x4096x5632_S8x4098x5632_000_200_000 h_S_

/-- Three taps. -/
def tapped (p : Num S8x4098x5632) (cw : Num S3x5632) : Num S8x4096x5632 :=
  addf (addf
    (mulf (broadcastInDim S8x4096x5632 ![0, 1, 2] bcast_S1x1x5632_S8x4096x5632_0_1_2 (broadcastInDim S1x1x5632 ![2] bcast_S5632_S1x1x5632_2
        (shapeCast _ (extractStridedSlice S1x5632 ![0, 0] cw slices_S3x5632_S1x5632_0_0) shapeCasts_S1x5632_S5632)))
      (extractStridedSlice S8x4096x5632 ![0, 0, 0] p slices_S8x4098x5632_S8x4096x5632_0_0_0))
    (mulf (broadcastInDim S8x4096x5632 ![0, 1, 2] bcast_S1x1x5632_S8x4096x5632_0_1_2 (broadcastInDim S1x1x5632 ![2] bcast_S5632_S1x1x5632_2
        (shapeCast _ (extractStridedSlice S1x5632 ![1, 0] cw slices_S3x5632_S1x5632_1_0) shapeCasts_S1x5632_S5632)))
      (extractStridedSlice S8x4096x5632 ![0, 1, 0] p slices_S8x4098x5632_S8x4096x5632_0_1_0)))
    (mulf (broadcastInDim S8x4096x5632 ![0, 1, 2] bcast_S1x1x5632_S8x4096x5632_0_1_2 (broadcastInDim S1x1x5632 ![2] bcast_S5632_S1x1x5632_2
        (shapeCast _ (extractStridedSlice S1x5632 ![2, 0] cw slices_S3x5632_S1x5632_2_0) shapeCasts_S1x5632_S5632)))
      (extractStridedSlice S8x4096x5632 ![0, 2, 0] p slices_S8x4098x5632_S8x4096x5632_0_2_0))

/-- The first half of the channels, and the second. -/
def gates (u : Num S8x4096x5632) : Num S8x4096x2816 := extractStridedSlice S8x4096x2816 ![0, 0, 0] u slices_S8x4096x5632_S8x4096x2816_0_0_0
def vals (u : Num S8x4096x5632) : Num S8x4096x2816 := extractStridedSlice S8x4096x2816 ![0, 0, 2816] u slices_S8x4096x5632_S8x4096x2816_0_0_2816

/-- The gating. -/
def gated (g v : Num S8x4096x2816) : Num S8x4096x2816 :=
  mulf (mulf g (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf g))))) v

/-- The projection back, on the residual. -/
def lowered (x : Num S8x4096x1024) (a : Num S8x4096x2816) (w : Num S2816x1024) : Num S8x4096x1024 :=
  addf x (Host.dotGeneral dot_S8x4096x2816_S2816x1024_S8x4096x1024_2_0_01_1_n_n none a w)

/-- The convolved array, of the rows and the weights. -/
def convolved (x : Num S8x4096x1024) (nw : Num S1024) (wup : Num S1024x5632) (cw : Num S3x5632) : Num S8x4096x5632 :=
  tapped (padded (raised (scaled x nw) wup)) cw

/-- The block's sum, of the rows and the weights. -/
def summed (x : Num S8x4096x1024) (nw : Num S1024) (wup : Num S1024x5632) (cw : Num S3x5632) (wdn : Num S2816x1024) : Num S8x4096x1024 :=
  lowered x (gated (gates (convolved x nw wup cw)) (vals (convolved x nw wup cw))) wdn

theorem scaled_at (v : Num S8x4096x1024) (w : Num S1024) (b : Fin 8) (t : Fin 4096) (q : Fin 1024) :
    scaled v w (ix3 b t q) = norm (fun k => v (ix3 b t k)) (fun k => w (ix1 k)) q := by
  pointwise [scaled]
  rfl

theorem padded_at (u : Num S8x4096x5632) (b : Fin 8) (t : Fin 4098) (ch : Fin 5632) :
    padded u (ix3 b t ch) = if h : 2 ≤ t.val then u (ix3 b (⟨t.val - 2, by omega⟩ : Fin 4096) ch) else 0 := by
  pointwise [padded]
  by_cases h : 2 ≤ t.val
  · rw [dif_pos h, dif_pos ⟨h, by omega⟩]
  · rw [dif_neg h, dif_neg fun h' => h h'.1]
    show (((0#32 : BitVec 32).toInt : ℝ) : EReal) = 0
    simp

/-- The rows and the weights hold the numbers `I` names. -/
structure Holds (I : Inp) (x : Num S8x4096x1024) (nw : Num S1024) (wup : Num S1024x5632) (cw : Num S3x5632) (wdn : Num S2816x1024) : Prop where
  x : ∀ b t q, x (ix3 b t q) = resid I b t q
  nw : ∀ q, nw (ix1 q) = I.nw q
  wup : ∀ k ch, wup (ix2 k ch) = I.wup k ch
  cw : ∀ k ch, cw (ix2 k ch) = I.cw k ch
  wdn : ∀ j q, wdn (ix2 j q) = I.wdn j q

section Numbers
variable {I : Inp} {x : Num S8x4096x1024} {nw : Num S1024} {wup : Num S1024x5632} {cw : Num S3x5632} {wdn : Num S2816x1024}
  (H : Holds I x nw wup cw wdn)
include H

theorem convolved_at (b : Fin 8) (t : Fin 4096) (ch : Fin 5632) : convolved x nw wup cw (ix3 b t ch) = conv I b t ch := by
  have hu (t' : Fin 4096) : raised (scaled x nw) wup (ix3 b t' ch) = up I b t' ch := by
    pointwise [raised]
    refine Finset.sum_congr rfl fun k _ => ?_
    rw [scaled_at, H.wup]
    simp only [H.x, H.nw]
  have hp (k : Fin 3) : padded (raised (scaled x nw) wup) (ix3 b (⟨k.val + t.val, by omega⟩ : Fin 4098) ch) = past I b t (2 - k.val) ch := by
    rw [padded_at]
    unfold past
    by_cases h : 2 - k.val ≤ t.val
    · rw [dif_pos (by show 2 ≤ k.val + t.val; omega), if_pos h, hu]
      congr 1; apply Fin.ext; show k.val + t.val - 2 = t.val - (2 - k.val); omega
    · rw [dif_neg (by show ¬2 ≤ k.val + t.val; omega), if_neg h]
  unfold convolved conv
  generalize raised _ _ = u at hu hp ⊢
  generalize padded u = p at hp ⊢
  pointwise [tapped]
  have h0 : p (ix3 b (⟨t.val, by omega⟩ : Fin 4098) ch) = past I b t 2 ch :=
    (congrArg (fun z => p (ix3 b z ch)) (Fin.ext (Nat.zero_add _).symm)).trans (hp 0)
  have h1 : p (ix3 b (⟨1 + t.val, by omega⟩ : Fin 4098) ch) = past I b t 1 ch := hp 1
  have h2 : p (ix3 b (⟨2 + t.val, by omega⟩ : Fin 4098) ch) = up I b t ch := (hp 2).trans (past_zero _ b t ch)
  rw [h0, h1, h2, H.cw, H.cw, H.cw]
  have back (x y z : EReal) : x + y + z = z + y + x := by rw [add_comm (x + y), add_comm x, add_assoc]
  exact back _ _ _

theorem summed_at (b : Fin 8) (t : Fin 4096) (q : Fin 1024) :
    summed x nw wup cw wdn (ix3 b t q) = resid I b t q + down I b t q := by
  have hg (j : Fin 2816) : gates (convolved x nw wup cw) (ix3 b t j) = conv I b t ⟨j.val, by omega⟩ := by
    rw [← convolved_at H]
    pointwise [gates]
  have hv (j : Fin 2816) : vals (convolved x nw wup cw) (ix3 b t j) = conv I b t ⟨2816 + j.val, by omega⟩ := by
    rw [← convolved_at H]
    pointwise [vals]
  unfold summed
  generalize gates _ = g at hg ⊢
  generalize vals _ = v at hv ⊢
  have ha (j : Fin 2816) : gated g v (ix3 b t j) = act I b t j := by
    unfold act
    rw [← hg, ← hv]
    pointwise [gated]
    rfl
  pointwise [lowered]
  rw [H.x]
  simp only [ha, H.wdn]
  rfl
end Numbers

/-- An array of every batch's positions, as one of rows. -/
theorem flat_at (v : Num S8x4096x1024) (r : Fin 32768) (q : Fin 1024) :
    shapeCast S32768x1024 v shapeCasts_S8x4096x1024_S32768x1024 (ix2 r q) =
      v (ix3 (⟨r.val / 4096, by omega⟩ : Fin 8) (⟨r.val % 4096, by omega⟩ : Fin 4096) q) := by
  pointwise []

variable (m : (ℓ : Loc nD τ sig) → Buf (Elt Ideal) ℓ) (d : Dev nD)

/-- The rows the block works on, of the arguments. -/
def joinedRows : Num S8x4096x1024 := residual (m (d.tc.loc main_arg0)) (m (d.tc.loc main_arg1)) (m (d.tc.loc main_arg2))

/-- The sum of the arguments. -/
def total : Num S8x4096x1024 :=
  summed (joinedRows m d) (m (d.tc.loc main_arg3)) (m (d.tc.loc main_arg4)) (m (d.tc.loc main_arg5)) (m (d.tc.loc main_arg6))

set_option maxHeartbeats 2000000 in
/-- The result is the stages in turn. -/
theorem staged : Value.res_main_v57 m d = shapeCast S32768x1024 (scaled (total m d) (m (d.tc.loc main_arg7))) shapeCasts_S8x4096x1024_S32768x1024 := by
  unfold Value.res_main_v57 total joinedRows summed convolved lowered gated gates vals tapped padded raised residual scaled
  rfl

/-- The reference's arguments by coordinates. -/
def given : Inp where
  x b s q := m (d.tc.loc main_arg0) (ix3 b s q)
  o b s q := m (d.tc.loc main_arg1) (ix3 b s q)
  wo k q := m (d.tc.loc main_arg2) (ix2 k q)
  nw q := m (d.tc.loc main_arg3) (ix1 q)
  wup k ch := m (d.tc.loc main_arg4) (ix2 k ch)
  cw k ch := m (d.tc.loc main_arg5) (ix2 k ch)
  wdn j q := m (d.tc.loc main_arg6) (ix2 j q)
  fnw q := m (d.tc.loc main_arg7) (ix1 q)

theorem holds : Holds (given m d) (joinedRows m d) (m (d.tc.loc main_arg3)) (m (d.tc.loc main_arg4)) (m (d.tc.loc main_arg5)) (m (d.tc.loc main_arg6)) where
  x b t q := by
    pointwise [joinedRows, residual]
    rfl
  nw _ := rfl
  wup _ _ := rfl
  cw _ _ := rfl
  wdn _ _ := rfl

/-- The result, row by row. -/
theorem res_at (r : Fin 32768) (q : Fin 1024) :
    Value.res_main_v57 m d (ix2 r q) = outv (given m d) ⟨r.val / 4096, by omega⟩ ⟨r.val % 4096, by omega⟩ q := by
  rw [staged, flat_at, scaled_at]
  unfold total
  simp only [summed_at (holds m d)]
  rfl

end Cert.Reference2Ideal.Stages

end
-- ==== Proof.Ffn1Pieces.lean ====
/- The pieces the first feed-forward call's run leaves, by case: as the second call's, without the attention's projection before
   and the normalization after. -/
module

public import proofs.«01_k».proof.Proof.Gen.Kernel3Ideal.Frame
public import proofs.«01_k».proof.Proof.FfnBody

@[expose] public section

set_option maxRecDepth 65536

noncomputable section

namespace Cert.Ffn1.Body

open Idealize.ShloMosaic Idealize.ShloMosaic.TcCoe Cert.Kernel3Ideal Cert.Kernel3Ideal.Gen Cert.Ffn.Body

variable {F : FTy → Type} [FloatOps F] [Named F]

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x5632 .bf16) (harg4 : arg4.IsWhole)
  (arg5 : Memref sig .tc .vmem S3x5632 .f32) (harg5 : arg5.IsWhole)
  (arg6 : Memref sig .tc .vmem S2816x1024 .bf16) (harg6 : arg6.IsWhole)
  (arg7 : Memref sig .tc .vmem S1x1024 .f32) (harg7 : arg7.IsWhole)
  (arg8 : Memref sig .tc .vmem S512x1024 .f32) (harg8 : arg8.IsWhole)
  (arg9 : Memref sig .tc .vmem S8x512x128 .f32) (harg9 : arg9.IsWhole)
  (arg10 : Memref sig .tc .vmem S16x5632 .f32) (harg10 : arg10.IsWhole)
  (arg11 : Memref sig .tc .vmem S512x2816 .bf16) (harg11 : arg11.IsWhole)
  (x0 : Vec F S512x1024 .f32)
  (x1 : Vec F S1x1024 .f32)
  (x2 : Vec F S1024x5632 .bf16)
  (x3 : Vec F S3x5632 .f32)
  (x4 : Vec F S2816x1024 .bf16)
  (x5 : Vec F S1x1024 .f32)
  (xs1 : Vec F S16x5632 .f32)

/-- What the body loads from its windows. -/
def loadsOf : Loads F where
  res := shapeCast S512x1024 (View.readAt (Elt F) arg2.view rFull.toLoadRect (harg2.unread x0)) shapeCasts_S512x1024_S512x1024
  nw := View.readAt (Elt F) arg3.view (Rect.unit ![0, 0] S1x1024.size inb_S1x1024_S1x1024_0_0).toLoadRect (harg3.unread x1)
  wup q := View.readAt (Elt F) arg4.view (rUp q).toLoadRect (harg4.unread x2)
  tap q k := View.readAt (Elt F) arg5.view (rTap q k).toLoadRect (harg5.unread x3)
  wdn := View.readAt (Elt F) arg6.view (Rect.unit ![0, 0] S2816x1024.size inb_S2816x1024_S2816x1024_0_0).toLoadRect (harg6.unread x4)
  nl := Named.named κ "neg_log2e" 0xBFB8AA3B#32

/-- The output: the sums over the blocks stored before. -/
def outOf (D : Loads F) (prev : Fin 22 → Vec F S16x256 .f32) : List (View.Piece (Elt F) S512x1024 .f32) :=
  ⟨rFull, sumOf arg9.view arg11.view arg8.view D prev⟩ :: homeOf arg9.view arg11.view D prev

/-- A strip's kept rows as the tile before left them. -/
def prevB (q : Fin 22) : Vec F S16x256 .f32 := View.readAt (Elt F) arg10.view (rTail q).toLoadRect (harg10.unread xs1)

/-- The kept rows of a tile that is not a batch's first. -/
theorem tail_B (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 xs1).2.1 =
      tailPieces (loadsOf arg2 harg2 arg3 harg3 arg4 harg4 arg5 harg5 arg6 harg6 x0 x1 x2 x3 x4)
        (rowsOf arg9.view (loadsOf arg2 harg2 arg3 harg3 arg4 harg4 arg5 harg5 arg6 harg6 x0 x1 x2 x3 x4)) [] 22 := by sl_kernel_rfl

/-- The kept rows of a batch's first tile. -/
theorem tail_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5).2.1 =
      tailPieces (loadsOf arg2 harg2 arg3 harg3 arg4 harg4 arg5 harg5 arg6 harg6 x0 x1 x2 x3 x4)
        (rowsOf arg9.view (loadsOf arg2 harg2 arg3 harg3 arg4 harg4 arg5 harg5 arg6 harg6 x0 x1 x2 x3 x4)) zeroTail 22 := by sl_kernel_rfl

/-- The output of a tile that is not a batch's first. -/
theorem out_B (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 xs1).1 =
      outOf arg8 arg9 arg11 (loadsOf arg2 harg2 arg3 harg3 arg4 harg4 arg5 harg5 arg6 harg6 x0 x1 x2 x3 x4) (prevB arg10 harg10 xs1) := by sl_kernel_rfl

/-- The output of a batch's first tile. -/
theorem out_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5).1 =
      outOf arg8 arg9 arg11 (loadsOf arg2 harg2 arg3 harg3 arg4 harg4 arg5 harg5 arg6 harg6 x0 x1 x2 x3 x4)
        (prevA arg9.view arg10.view (loadsOf arg2 harg2 arg3 harg3 arg4 harg4 arg5 harg5 arg6 harg6 x0 x1 x2 x3 x4)) := by sl_kernel_rfl

end Cert.Ffn1.Body

end
-- ==== Proof.Ffn1Points.lean ====
/- The first feed-forward call: the blocks a grid point loads hold one tile of one batch of the arguments, the kept rows carry each
   tile's last two positions to the next, and each point's output block holds the residual with the block's rows. -/
module

public import proofs.«01_k».proof.Proof.Gen.Kernel3Ideal.Value
public import proofs.«01_k».proof.Proof.Ffn1Pieces
public import proofs.«01_k».proof.Proof.FfnPoints

@[expose] public section

set_option maxRecDepth 16384

noncomputable section

namespace Cert.Ffn1.Host

open Idealize.ShloMosaic Idealize.ShloMosaic.TcCoe Cert.Kernel3Ideal Cert.Kernel3Ideal.Gen Cert.Kernel3Ideal.Value
open Cert.Ffn Cert.Ffn.Body Cert.Load
open Cert.Ffn.Host (unmoved exists_chan tail_idx prevA_at)

variable (m : (ℓ : Loc nD τ sig) → Buf (Elt Ideal) ℓ) (d : Dev nD)

/-- The arguments by coordinates: no attention is projected. -/
def inp : Inp where
  x b s q := m (d.tc.loc main_arg0) (ix3 b s q)
  o _ _ _ := 0
  wo _ _ := 0
  nw q := m (d.tc.loc main_arg1) (ix1 q)
  wup k ch := m (d.tc.loc main_arg2) (ix2 k ch)
  cw k ch := m (d.tc.loc main_arg3) (ix2 k ch)
  wdn j q := m (d.tc.loc main_arg4) (ix2 j q)
  fnw q := m (d.tc.loc main_arg5) (ix1 q)

theorem v0_at (r : Fin 32768) (q : Fin 1024) : V m d main_v0 (ix2 r q) = (inp m d).x ⟨r.val / 4096, by omega⟩ ⟨r.val % 4096, by omega⟩ q := by
  unfold V inp
  after_reads_at
theorem v1_at (q : Fin 1024) : V m d main_v1 (ix2 0 q) = (inp m d).nw q := by
  unfold V inp
  after_reads_at
theorem v2_at (k : Fin 1024) (ch : Fin 5632) : V m d main_v2 (ix2 k ch) = (inp m d).wup k ch := by
  unfold V inp
  after_reads_at
theorem taps_at (k : Fin 3) (ch : Fin 5632) : V m d main_arg3 (ix2 k ch) = (inp m d).cw k ch := by
  unfold V inp
  after_reads_at
theorem v3_at (j : Fin 2816) (q : Fin 1024) : V m d main_v3 (ix2 j q) = (inp m d).wdn j q := by
  unfold V inp
  after_reads_at

/-- Row `r` of point `t`'s blocks, in an array of every position. -/
def row (t : Fin cfg0.N) (r : Fin 512) : Fin 32768 := ⟨512 * t.val + r.val, by have := lt_of_lt_of_eq t.isLt (show cfg0.N = 64 from N_0); omega⟩

variable (t : Fin cfg0.N)

/-- The block indices: the point's number down the rows of the moving window, zero elsewhere. -/
theorem idx_all : ∀ t : Fin grid0.N, (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) := by decide +kernel

theorem blk0_at (r : Fin 512) (q : Fin 1024) : iblk m d 0 t (ix2 r q) = V m d main_v0 (ix2 (row t r) q) := by
  unfold row; blk_simp [iblk]; blk_ext! <;> (have h := idx_all t; omega)
theorem blk1_at (q : Fin 1024) : iblk m d 1 t (ix2 0 q) = V m d main_v1 (ix2 0 q) := by
  blk_simp [iblk]; blk_ext! <;> (have h := idx_all t; omega)
theorem blk2_at (k : Fin 1024) (ch : Fin 5632) : iblk m d 2 t (ix2 k ch) = V m d main_v2 (ix2 k ch) := by
  blk_simp [iblk]; blk_ext! <;> (have h := idx_all t; omega)
theorem blk3_at (k : Fin 3) (ch : Fin 5632) : iblk m d 3 t (ix2 k ch) = V m d main_arg3 (ix2 k ch) := by
  blk_simp [iblk]; blk_ext! <;> (have h := idx_all t; omega)
theorem blk4_at (j : Fin 2816) (q : Fin 1024) : iblk m d 4 t (ix2 j q) = V m d main_v3 (ix2 j q) := by
  blk_simp [iblk]; blk_ext! <;> (have h := idx_all t; omega)

/-- What point `t` loads. -/
def loads : Loads Ideal :=
  Cert.Ffn1.Body.loadsOf (ms0_0 t) (hs0_0 t) (ms0_1 t) (hs0_1 t) (ms0_2 t) (hs0_2 t) (ms0_3 t) (hs0_3 t) (ms0_4 t) (hs0_4 t)
    (iblk m d 0 t) (iblk m d 1 t) (iblk m d 2 t) (iblk m d 3 t) (iblk m d 4 t)

/-- The batch of a point, and the tile it treats. -/
def bat : Fin 8 := ⟨t.val / 8, by have := lt_of_lt_of_eq t.isLt (show cfg0.N = 64 from N_0); omega⟩
def tile : Fin 8 := ⟨t.val % 8, by omega⟩

/-- Without attention the residual is the row itself. -/
theorem resid_plain (b : Fin 8) (s : Fin 4096) (q : Fin 1024) : resid (inp m d) b s q = (inp m d).x b s q := by
  show _ + ∑ _k : Fin 1024, (0 : EReal) * 0 = _
  simp

theorem reads : Reads (loads m d t) (inp m d) (bat t) (tile t) where
  res r q := by
    rw [resid_plain]
    refine (congrFun (shapeCast_self _ _) _).trans
      ((load_at (hs0_0 t) _ _ _ inb_S512x1024_S512x1024_0_0 (ix2 r q) _ (unmoved r q)).trans ((blk0_at m d t r q).trans ((v0_at m d _ q).trans ?_)))
    congr 1 <;> apply Fin.ext
    · show (512 * t.val + r.val) / 4096 = t.val / 8; omega
    · show (512 * t.val + r.val) % 4096 = 512 * (t.val % 8) + r.val; omega
  nw q := (load_at (hs0_1 t) _ _ _ _ _ (ix2 0 q) (unmoved 0 q)).trans ((blk1_at m d t q).trans (v1_at m d q))
  wup q k c := by
    refine (load_at (hs0_2 t) _ _ _ _ _ (ix2 k (chan q c)) ?_).trans ((blk2_at m d t _ _).trans (v2_at m d _ _))
    intro a; fin_cases a; exacts [(Nat.zero_add _).symm, rfl]
  tap q k c := by
    refine (load_at (hs0_3 t) _ _ _ _ _ (ix2 k (chan q c)) ?_).trans ((blk3_at m d t _ _).trans (taps_at m d _ _))
    intro a; fin_cases a <;> rfl
  wdn j q := (load_at (hs0_4 t) _ _ _ _ _ (ix2 j q) (unmoved j q)).trans ((blk4_at m d t j q).trans (v3_at m d j q))
  nl := rfl

/-- After a point: the up-projected rows of the tile's last two positions, and the point's rows of the output. -/
def Left (t : Fin cfg0.N) (out : Vec Ideal S512x1024 .f32) (st : Vec Ideal S16x5632 .f32) : Prop :=
  (∀ (i : Fin 2) ch, st (ix2 (frow i 7) ch) = up (inp m d) (bat t) (pos (tile t) ⟨510 + i.val, by omega⟩) ch) ∧
    ∀ r q, out (ix2 r q) = resid (inp m d) (bat t) (pos (tile t) r) q + down (inp m d) (bat t) (pos (tile t) r) q

variable {m d}

section Lists
variable {t : Fin cfg0.N} (prev : Fin 22 → Vec Ideal S16x256 .f32) (L : List (View.Piece (Elt Ideal) S16x5632 .f32))
  (H : ∀ q (i : Fin 2) k, prev q (ix2 (frow i 7) k) = past (inp m d) (bat t) (pos (tile t) 0) (2 - i.val) (chan q k))
include H

theorem left_of_lists (out : Vec Ideal S512x1024 .f32) (st : Vec Ideal S16x5632 .f32)
    (arg8 : Memref sig .tc .vmem S512x1024 .f32) (arg9 : Memref sig .tc .vmem S8x512x128 .f32) (arg11 : Memref sig .tc .vmem S512x2816 .bf16)
    (ho : out = View.canon (Cert.Ffn1.Body.outOf arg8 arg9 arg11 (loads m d t) prev))
    (hs : st = View.canon (tailPieces (loads m d t) (rowsOf arg9.view (loads m d t)) L 22)) : Left m d t out st := by
  subst ho hs
  refine ⟨fun i ch => ?_, fun r q => ?_⟩
  · obtain ⟨q, k, rfl⟩ := exists_chan ch
    refine (congrArg _ (tail_idx q _ k).symm).trans ((tail_at _ _ _ _ _).trans ?_)
    exact kept_at (reads m d t) arg9.view q i k
  · have e : (ix2 r q : S512x1024.Idx) = rFull.emb (ix2 r q) := by
      funext a; apply Fin.ext
      refine Eq.trans ?_ (ValueKit.rect_emb_unit_val _ _ _ _ a).symm
      exact unmoved r q a
    refine ((congrArg _ e).trans (View.canon_cons_emb rFull _ _ _)).trans ?_
    exact sumOf_at (reads m d t) arg9.view arg11.view arg8.view prev H r q
end Lists

/-- One point, over what the point before left; a batch's first point starts from zeros. -/
theorem left_point (t : Fin cfg0.N) (acc : Vec Ideal S512x1024 .f32 × Vec Ideal S16x5632 .f32)
    (h : ¬t.val % 8 = 0 → ∀ (i : Fin 2) ch, acc.2 (ix2 (frow i 7) ch) = past (inp m d) (bat t) (pos (tile t) 0) (2 - i.val) ch) :
    Left m d t (stAt0 m d t.val t.isLt acc).1 (stAt0 m d t.val t.isLt acc).2 := by
  by_cases h0 : t.val % 8 = 0
  · rw [stAt0_A m d t acc h0]
    refine left_of_lists (prevA scM0_0.view scM0_1.view (loads m d t)) zeroTail (prevA_at _ _ _ _ _ _ h0) _ _ (ms0_6 t) scM0_0 scM0_2 ?_ ?_
    · dsimp only; unfold out0_A_6; rw [View.read_writes_junk_eq_canon]
      exact congrArg View.canon (Cert.Ffn1.Body.out_A ..)
    · dsimp only; unfold sout0_A_1; rw [View.read_writes_junk_eq_canon]
      exact congrArg View.canon (Cert.Ffn1.Body.tail_A ..)
  · rw [stAt0_B m d t acc h0]
    refine left_of_lists (Cert.Ffn1.Body.prevB scM0_1 (Memref.isWhole_whole _) acc.2) [] (fun q i k => ?_) _ _ (ms0_6 t) scM0_0 scM0_2 ?_ ?_
    · unfold Cert.Ffn1.Body.prevB
      rw [View.readAt_eq_ld, Memref.IsWhole.read_unread]
      exact (congrArg acc.2 (tail_idx q _ k)).trans (h h0 i _)
    · dsimp only; unfold out0_B_6; rw [View.read_writes_junk_eq_canon]
      exact congrArg View.canon (Cert.Ffn1.Body.out_B ..)
    · dsimp only; unfold sout0_B_1; rw [View.read_writes_junk_eq_canon]
      exact congrArg View.canon (Cert.Ffn1.Body.tail_B ..)

/-- Every point. -/
theorem left_all (n : Nat) (hn : n < cfg0.N) : Left m d ⟨n, hn⟩ (outsAt0 m d n hn).1 (outsAt0 m d n hn).2 := by
  induction n with
  | zero =>
    rw [outsAt0_zero]
    exact left_point ⟨0, hn⟩ _ (fun h => absurd (Nat.zero_mod _) h)
  | succ n ih =>
    rw [outsAt0_succ]
    refine left_point ⟨n + 1, hn⟩ _ (fun h i ch => ?_)
    replace h : ¬(n + 1) % 8 = 0 := h
    refine ((ih (Nat.lt_of_succ_lt hn)).1 i ch).trans ?_
    have hb : bat (⟨n + 1, hn⟩ : Fin cfg0.N) = bat ⟨n, Nat.lt_of_succ_lt hn⟩ := by
      apply Fin.ext; show (n + 1) / 8 = n / 8; omega
    rw [hb]
    refine (past_of _ _ _ _ _ ?_ ch).symm
    show 512 * ((n + 1) % 8) + 0 = 512 * (n % 8) + (510 + i.val) + (2 - i.val)
    omega

variable (m d)

/-- The kernel's result: the row with the block's row added, at every position. -/
theorem result_at (r : Fin 32768) (q : Fin 1024) :
    G6 m d (ix2 r q) = resid (inp m d) ⟨r.val / 4096, by omega⟩ ⟨r.val % 4096, by omega⟩ q +
      down (inp m d) ⟨r.val / 4096, by omega⟩ ⟨r.val % 4096, by omega⟩ q := by
  have hp : pt6Of (ix2 r q) = r.val / 512 := by
    show 1 * (r.val / 512 - 0) + 1 * (q.val / 1024 - 0) = _; omega
  have hlt : r.val / 512 < cfg0.N := lt_of_lt_of_eq (b := 64) (by omega) (show cfg0.N = 64 from N_0).symm
  have hl : loc6Of (ix2 r q) = ix2 (⟨r.val % 512, by omega⟩ : Fin 512) q := by
    funext a; apply Fin.ext
    fin_cases a
    · rfl
    · show q.val % 1024 = q.val; omega
  unfold G6
  rw [dif_pos (lt_of_eq_of_lt hp hlt), hl, ← outsAt0_sweep m d _ (lt_of_eq_of_lt hp hlt)]
  refine ((left_all _ (lt_of_eq_of_lt hp hlt)).2 _ q).trans ?_
  have hb : bat (⟨pt6Of (ix2 r q), lt_of_eq_of_lt hp hlt⟩ : Fin cfg0.N) = ⟨r.val / 4096, by omega⟩ := by
    apply Fin.ext; show pt6Of (ix2 r q) / 8 = _; rw [hp]; show r.val / 512 / 8 = r.val / 4096; omega
  have ht : pos (tile (⟨pt6Of (ix2 r q), lt_of_eq_of_lt hp hlt⟩ : Fin cfg0.N)) ⟨r.val % 512, by omega⟩ = ⟨r.val % 4096, by omega⟩ := by
    apply Fin.ext; show 512 * (pt6Of (ix2 r q) % 8) + r.val % 512 = r.val % 4096; rw [hp]; omega
  rw [hb, ht]

end Cert.Ffn1.Host

end
-- ==== Proof.Ffn1Ref.lean ====
/- The first feed-forward call's reference: the stages of the second's, without the attention and the last normalization. -/
module

public import proofs.«01_k».proof.Proof.Gen.Reference3Ideal.Run
public import proofs.«01_k».proof.Proof.FfnRef

@[expose] public section

set_option maxRecDepth 16384

noncomputable section

namespace Cert.Reference3Ideal.Stages

open Idealize.ShloMosaic Idealize.ShloMosaic.TcCoe Idealize.ShloMosaic.StableHlo
open Cert.Reference3Ideal Cert.Reference3Ideal.Gen Cert.Ffn Cert.Reference2Ideal.Stages

variable (m : (ℓ : Loc nD τ sig) → Buf (Elt Ideal) ℓ) (d : Dev nD)

/-- The sum of the arguments. -/
def total : Num S8x4096x1024 :=
  summed (m (d.tc.loc main_arg0)) (m (d.tc.loc main_arg1)) (m (d.tc.loc main_arg2)) (m (d.tc.loc main_arg3)) (m (d.tc.loc main_arg4))

set_option maxHeartbeats 2000000 in
/-- The result is the stages in turn. -/
theorem staged : Value.res_main_v41 m d = shapeCast S32768x1024 (total m d) shapeCasts_S8x4096x1024_S32768x1024 := by
  unfold Value.res_main_v41 total summed convolved lowered gated gates vals tapped padded raised scaled
  rfl

/-- The reference's arguments by coordinates: no attention is projected. -/
def given : Inp where
  x b s q := m (d.tc.loc main_arg0) (ix3 b s q)
  o _ _ _ := 0
  wo _ _ := 0
  nw q := m (d.tc.loc main_arg1) (ix1 q)
  wup k ch := m (d.tc.loc main_arg2) (ix2 k ch)
  cw k ch := m (d.tc.loc main_arg3) (ix2 k ch)
  wdn j q := m (d.tc.loc main_arg4) (ix2 j q)
  fnw q := m (d.tc.loc main_arg5) (ix1 q)

theorem holds : Holds (given m d) (m (d.tc.loc main_arg0)) (m (d.tc.loc main_arg1)) (m (d.tc.loc main_arg2)) (m (d.tc.loc main_arg3)) (m (d.tc.loc main_arg4)) where
  x b t q := by
    show _ = _ + ∑ _k : Fin 1024, (0 : EReal) * 0
    simp only [mul_zero, Finset.sum_const_zero, add_zero]
    rfl
  nw _ := rfl
  wup _ _ := rfl
  cw _ _ := rfl
  wdn _ _ := rfl

/-- The result, row by row. -/
theorem res_at (r : Fin 32768) (q : Fin 1024) :
    Value.res_main_v41 m d (ix2 r q) = resid (given m d) ⟨r.val / 4096, by omega⟩ ⟨r.val % 4096, by omega⟩ q +
      down (given m d) ⟨r.val / 4096, by omega⟩ ⟨r.val % 4096, by omega⟩ q := by
  rw [staged]
  exact (flat_at _ r q).trans (summed_at (holds m d) _ _ q)

end Cert.Reference3Ideal.Stages

end
-- ==== Proof.InBody.lean ====
/- One grid point of the input projection treats 512 positions. The gate and the step sizes are computed on the rows in their own
   order; the convolved channels on the rows in the feed-forward kernel's order, in eight chunks of 512 columns, each put in one of
   two slots of a staging block as four planes and read back out of it. This module names what is computed once, as functions of
   the blocks loaded, the chunk and the block of rows. -/
module

public import proofs.«01_k».proof.Proof.Gen.Kernel4Ideal
public import proofs.«01_k».proof.Proof.FfnBody

@[expose] public section

set_option maxRecDepth 16384

noncomputable section

namespace Cert.InProj.Body

open Idealize.ShloMosaic Idealize.ShloMosaic.TcCoe Cert.Kernel4Ideal Cert.Kernel4Ideal.Gen
open Cert.Ffn.Body (permPieces rPlane joined normRows)

variable {F : FTy → Type} [FloatOps F] [Named F]

/-! ## Rectangles -/

theorem inb_wide (n : Nat) (i : Fin 8) :
    ∀ a, (![0, 512 * i.val] : Fin 2 → Nat) a + (⟨2, ![n, 512]⟩ : Shape).size a ≤ (⟨2, ![n, 4096]⟩ : Shape).size a := by
  intro a; fin_cases a
  · show 0 + n ≤ n; omega
  · show 512 * i.val + 512 ≤ 4096; omega

/-- The columns of chunk `i` in the kept rows, the weights, the taps and the bias. -/
def rTail (i : Fin 8) : Rect S24x4096 := Rect.unit ![0, 512 * i.val] S24x512.size (inb_wide 24 i)
def rIn (i : Fin 8) : Rect S1024x4096 := Rect.unit ![0, 512 * i.val] S1024x512.size (inb_wide 1024 i)
def rBias (i : Fin 8) : Rect S1x4096 := Rect.unit ![0, 512 * i.val] S1x512.size (inb_wide 1 i)

theorem inb_tap (i : Fin 8) (k : Fin 4) : ∀ a, (![k.val, 512 * i.val] : Fin 2 → Nat) a + S1x512.size a ≤ S4x4096.size a := by
  intro a; fin_cases a <;> simp [S1x512, S4x4096] <;> omega
def rTap (i : Fin 8) (k : Fin 4) : Rect S4x4096 := Rect.unit ![k.val, 512 * i.val] S1x512.size (inb_tap i k)

theorem inb_gate (i : Fin 8) : ∀ a, (![0, 256 * i.val] : Fin 2 → Nat) a + S512x256.size a ≤ S512x2048.size a := by
  intro a; fin_cases a <;> simp [S512x256, S512x2048]; omega
theorem inb_gatew (i : Fin 8) : ∀ a, (![0, 256 * i.val] : Fin 2 → Nat) a + S1024x256.size a ≤ S1024x2048.size a := by
  intro a; fin_cases a <;> simp [S1024x256, S1024x2048]; omega

/-- The columns of chunk `i` in the gate and in its weights. -/
def rGate (i : Fin 8) : Rect S512x2048 := Rect.unit ![0, 256 * i.val] S512x256.size (inb_gate i)
def rGatew (i : Fin 8) : Rect S1024x2048 := Rect.unit ![0, 256 * i.val] S1024x256.size (inb_gatew i)

theorem inb_slot (i : Fin 8) : ∀ a, (![i.val % 2, 0, 0, 0] : Fin 4 → Nat) a + S1x4x512x128.size a ≤ S2x4x512x128.size a := by
  intro a; fin_cases a <;> simp [S1x4x512x128, S2x4x512x128]; omega

/-- The slot of chunk `i` in the staging block. -/
def rSlot (i : Fin 8) : Rect S2x4x512x128 := Rect.unit ![i.val % 2, 0, 0, 0] S1x4x512x128.size (inb_slot i)

theorem inb_strip (j : Fin 16) (ct : Fin 4) : ∀ a, (![ct.val, 32 * j.val, 0] : Fin 3 → Nat) a + S1x32x128.size a ≤ S4x512x128.size a := by
  intro a; fin_cases a <;> simp [S1x32x128, S4x512x128] <;> omega
theorem inb_eighth (ct : Fin 4) (s : Fin 8) : ∀ a, S1x64x128.size a = 0 ∨
    (![ct.val, s.val, 0] : Fin 3 → Nat) a + (![1, 8, 1] : Fin 3 → Nat) a * (S1x64x128.size a - 1) < S4x512x128.size a := by
  intro a; right; fin_cases a <;> simp [S1x64x128, S4x512x128] <;> omega

/-- Block `j` of 32 rows of plane `ct` of a slot, and every eighth row of it from row `s`. -/
def rStrip (j : Fin 16) (ct : Fin 4) : Rect S4x512x128 := Rect.unit ![ct.val, 32 * j.val, 0] S1x32x128.size (inb_strip j ct)
def rEighth (ct : Fin 4) (s : Fin 8) : LoadRect S4x512x128 := ⟨![ct.val, s.val, 0], S1x64x128.size, ![1, 8, 1], inb_eighth ct s⟩

theorem slot_sizes (i : Fin 8) (a : Fin 3) : (rSlot i).size a.succ = S4x512x128.size a := by fin_cases a <;> rfl

/-- They in the staging block. -/
def rStage (i : Fin 8) (j : Fin 16) (ct : Fin 4) : Rect S2x4x512x128 :=
  (rSlot i).within ((rStrip j ct).consLift (rSlot i).size rfl (slot_sizes i)) (fun _ => rfl)
def rBack (i : Fin 8) (ct : Fin 4) (s : Fin 8) : LoadRect S2x4x512x128 :=
  (rSlot i).withinL ((rEighth ct s).consLift (rSlot i).size rfl (slot_sizes i)) (fun _ => rfl)

theorem inb_out (n : Fin 256) : ∀ a, (![64 * (n.val % 8), 512 * (n.val / 32) + 128 * (n.val % 32 / 8)] : Fin 2 → Nat) a + S64x128.size a ≤ S512x4096.size a := by
  intro a; fin_cases a <;> simp [S64x128, S512x4096] <;> omega

/-- Block `n % 8` of 64 positions at plane `n % 32 / 8` of chunk `n / 32`, in the output block. -/
def rOut (n : Fin 256) : Rect S512x4096 :=
  Rect.unit ![64 * (n.val % 8), 512 * (n.val / 32) + 128 * (n.val % 32 / 8)] S64x128.size (inb_out n)

/-! ## The blocks a grid point works on -/

/-- The rows and the blocks a grid point loads, by chunk. -/
structure Loads (F : FTy → Type) where
  x : FVec F S512x1024 .f32
  nw : Vec F S1x1024 .f32
  wz : Fin 8 → Vec F S1024x256 .bf16
  wx : Fin 8 → Vec F S1024x512 .bf16
  tap : Fin 8 → Fin 4 → Vec F S1x512 .f32
  bias : Fin 8 → Vec F S1x512 .f32
  wdt : Vec F S3072x128 .bf16

/-- The normalized rows in their own order, and in the new order. -/
def rowsOf (D : Loads F) : FVec F S512x1024 .bf16 := truncf .bf16 (normRows D.x D.nw) bitsLt_bf16_f32
def movedOf {sig : RefSig} {k : Kind} {sp : Space} (vp : View sig k sp S8x512x128 .f32) (D : Loads F) : FVec F S512x1024 .bf16 :=
  joined fun ct => vp.readCov (permPieces (normRows D.x D.nw) 64) (rPlane ct).toLoadRect

/-! ## The gate and the step sizes -/

/-- Chunk `i` of the gate. -/
def gateOf (D : Loads F) (i : Fin 8) : FVec F S512x256 .bf16 :=
  truncf .bf16 (matmul dot_S512x1024_S1024x256_S512x256_1_0_0_1_n_n none (rowsOf D) (shapeCast S1024x256 (D.wz i) shapeCasts_S1024x256_S1024x256)
    (constant S512x256 .f32 0x00000000#32)) bitsLt_bf16_f32

/-- The first `n` chunks of the gate. -/
def gatePieces (D : Loads F) : Nat → List (View.Piece (Elt F) S512x2048 .bf16)
  | 0 => []
  | n + 1 => ⟨rGate (Fin.ofNat 8 n), gateOf D (Fin.ofNat 8 n)⟩ :: gatePieces D n

/-- The step sizes: the rounded rows, what the rounding left, and the rounded rows again, against three stacked weights. -/
def stepOf (D : Loads F) : FVec F S512x128 .f32 :=
  matmul dot_S512x3072_S3072x128_S512x128_1_0_0_1_n_n none
    (concatenate S512x3072 1 [⟨S512x1024, rowsOf D⟩,
      ⟨S512x1024, truncf .bf16 (subf (normRows D.x D.nw) (extf .f32 (rowsOf D) bitsLt_bf16_f32)) bitsLt_bf16_f32⟩,
      ⟨S512x1024, rowsOf D⟩] concatenates_S512x1024_S512x1024_S512x1024_S512x3072_d1)
    (shapeCast S3072x128 D.wdt shapeCasts_S3072x128_S3072x128) (constant S512x128 .f32 0x00000000#32)

/-! ## The chunks -/

/-- The rows' projection at chunk `i`. -/
def rawOf (D : Loads F) (h : FVec F S512x1024 .bf16) (i : Fin 8) : FVec F S512x512 .f32 :=
  matmul dot_S512x1024_S1024x512_S512x512_1_0_0_1_n_n none h (shapeCast S1024x512 (D.wx i) shapeCasts_S1024x512_S1024x512)
    (constant S512x512 .f32 0x00000000#32)

/-- The last twenty-four rows. -/
def tailOf (u : FVec F S512x512 .f32) : FVec F S24x512 .f32 := extractStridedSlice S24x512 ![488, 0] u slices_S512x512_o488_0_S24x512

/-- The first `n` chunks' last rows put before the pieces `L`. -/
def tailPieces (D : Loads F) (h : FVec F S512x1024 .bf16) (L : List (View.Piece (Elt F) S24x4096 .f32)) :
    Nat → List (View.Piece (Elt F) S24x4096 .f32)
  | 0 => L
  | n + 1 => ⟨rTail (Fin.ofNat 8 n), shapeCast S24x512 (tailOf (rawOf D h (Fin.ofNat 8 n))) shapeCasts_S24x512_S24x512⟩ :: tailPieces D h L n

/-- Eight rows one down, the first from the kept rows of the tile before. -/
def haloOf (prev tail : FVec F S8x512 .f32) : FVec F S8x512 .f32 :=
  select (cmpi .eq (iota .tc S8x512 32 [0] iota_S8x512_d0_w32) (broadcast S8x512 0#32))
    (dynamicRotate 0 1#32 none prev rotates_S8x512_d0) (dynamicRotate 0 1#32 none tail rotates_S8x512_d0)

/-- The twenty-four rows before the first. -/
def beforeOf (u : FVec F S512x512 .f32) (prev : Vec F S24x512 .f32) : FVec F S24x512 .f32 :=
  concatenate S24x512 0
    [⟨S8x512, haloOf (extractStridedSlice S8x512 ![0, 0] prev slices_S24x512_o0_0_S8x512)
        (extractStridedSlice S8x512 ![0, 0] (tailOf u) slices_S24x512_o0_0_S8x512)⟩,
     ⟨S8x512, haloOf (extractStridedSlice S8x512 ![8, 0] prev slices_S24x512_o8_0_S8x512)
        (extractStridedSlice S8x512 ![8, 0] (tailOf u) slices_S24x512_o8_0_S8x512)⟩,
     ⟨S8x512, haloOf (extractStridedSlice S8x512 ![16, 0] prev slices_S24x512_o16_0_S8x512)
        (extractStridedSlice S8x512 ![16, 0] (tailOf u) slices_S24x512_o16_0_S8x512)⟩]
    concatenates_S8x512_S8x512_S8x512_S24x512_d0

theorem slices_rows (o : Nat) (h : o + 32 ≤ 512) : S512x512.Slices ![o, 0] S32x512 := by
  refine ⟨rfl, fun a => ?_⟩
  fin_cases a
  · exact h
  · exact le_rfl

/-- Block `j` of the rows, and the rows one, two and three positions before it. -/
def back0 (u : FVec F S512x512 .f32) (j : Fin 16) : FVec F S32x512 .f32 :=
  extractStridedSlice S32x512 ![32 * j.val, 0] u (slices_rows _ (by omega))

def back1 (u : FVec F S512x512 .f32) (fix : FVec F S24x512 .f32) : Fin 16 → FVec F S32x512 .f32
  | ⟨0, _⟩ => concatenate S32x512 0 [⟨S8x512, extractStridedSlice S8x512 ![16, 0] fix slices_S24x512_o16_0_S8x512⟩,
      ⟨S24x512, extractStridedSlice S24x512 ![0, 0] u slices_S512x512_o0_0_S24x512⟩] concatenates_S8x512_S24x512_S32x512_d0
  | ⟨j + 1, h⟩ => extractStridedSlice S32x512 ![32 * j + 24, 0] u (slices_rows _ (by omega))

def back2 (u : FVec F S512x512 .f32) (fix : FVec F S24x512 .f32) : Fin 16 → FVec F S32x512 .f32
  | ⟨0, _⟩ => concatenate S32x512 0 [⟨S16x512, extractStridedSlice S16x512 ![8, 0] fix slices_S24x512_o8_0_S16x512⟩,
      ⟨S16x512, extractStridedSlice S16x512 ![0, 0] u slices_S512x512_o0_0_S16x512⟩] concatenates_S16x512_S16x512_S32x512_d0
  | ⟨j + 1, h⟩ => extractStridedSlice S32x512 ![32 * j + 16, 0] u (slices_rows _ (by omega))

def back3 (u : FVec F S512x512 .f32) (fix : FVec F S24x512 .f32) : Fin 16 → FVec F S32x512 .f32
  | ⟨0, _⟩ => concatenate S32x512 0 [⟨S24x512, fix⟩,
      ⟨S8x512, extractStridedSlice S8x512 ![0, 0] u slices_S512x512_o0_0_S8x512⟩] concatenates_S24x512_S8x512_S32x512_d0
  | ⟨j + 1, h⟩ => extractStridedSlice S32x512 ![32 * j + 8, 0] u (slices_rows _ (by omega))

/-- Block `j` of a chunk after the four taps and the bias. -/
def convOf (u : FVec F S512x512 .f32) (fix : FVec F S24x512 .f32) (tap : Fin 4 → Vec F S1x512 .f32) (bias : Vec F S1x512 .f32)
    (j : Fin 16) : FVec F S32x512 .f32 :=
  addf (addf (addf (addf (mulf (broadcastTo S32x512 (tap 3) broadcasts_S1x512_S32x512) (back0 u j))
      (mulf (broadcastTo S32x512 (tap 2) broadcasts_S1x512_S32x512) (back1 u fix j)))
    (mulf (broadcastTo S32x512 (tap 1) broadcasts_S1x512_S32x512) (back2 u fix j)))
    (mulf (broadcastTo S32x512 (tap 0) broadcasts_S1x512_S32x512) (back3 u fix j)))
    (broadcastTo S32x512 (shapeCast S1x512 bias shapeCasts_S1x512_S1x512) broadcasts_S1x512_S32x512)

/-- Half of each number, and half of it again times its hyperbolic tangent. -/
def halfOf (s : FVec F S32x512 .f32) : FVec F S32x512 .f32 := mulf (broadcast S32x512 (Scalar.ofBits .f32 0x3F000000#32)) s
def siluOf (s : FVec F S32x512 .f32) : FVec F S32x512 .f32 := addf (halfOf s) (mulf (halfOf s) (tanh (halfOf s)))

/-- Block `j` of chunk `i`, over the kept rows of the tile before. -/
def actOf (D : Loads F) (h : FVec F S512x1024 .bf16) (prev : Fin 8 → Vec F S24x512 .f32) (i : Fin 8) (j : Fin 16) : FVec F S32x512 .f32 :=
  siluOf (convOf (rawOf D h i) (beforeOf (rawOf D h i) (prev i)) (D.tap i) (D.bias i) j)

/-! ## The staging block -/

theorem slices_quarter (ct : Fin 4) : S32x512.Slices ![0, 128 * ct.val] S32x128 := by
  refine ⟨rfl, fun a => ?_⟩
  fin_cases a <;> simp [S32x128, S32x512] <;> omega

/-- The part of a block of rows that plane `ct` holds. -/
def quarterOf (v : FVec F S32x512 .f32) (ct : Fin 4) : FVec F S1x32x128 .f32 :=
  shapeCast S1x32x128 (extractStridedSlice S32x128 ![0, 128 * ct.val] v (slices_quarter ct)) shapeCasts_S32x128_S1x32x128

/-- Block `n % 64 / 4`, plane `n % 4` of chunk `n / 64`, as stored in the staging block. -/
def stagePiece (A : Fin 8 → Fin 16 → FVec F S32x512 .f32) (n : Fin 512) : View.Piece (Elt F) S2x4x512x128 .f32 :=
  ⟨rStage (Fin.ofNat 8 (n.val / 64)) (Fin.ofNat 16 (n.val / 4)) (Fin.ofNat 4 n.val),
    Rect.payAlong (r := rStrip (Fin.ofNat 16 (n.val / 4)) (Fin.ofNat 4 n.val))
      (R := (rStrip (Fin.ofNat 16 (n.val / 4)) (Fin.ofNat 4 n.val)).consLift (rSlot (Fin.ofNat 8 (n.val / 64))).size rfl (slot_sizes _))
      (Rect.numel_consLift _ _ _ _)
      (quarterOf (A (Fin.ofNat 8 (n.val / 64)) (Fin.ofNat 16 (n.val / 4))) (Fin.ofNat 4 n.val))⟩

/-- The first `n` of them. -/
def stagePieces (A : Fin 8 → Fin 16 → FVec F S32x512 .f32) : Nat → List (View.Piece (Elt F) S2x4x512x128 .f32)
  | 0 => []
  | n + 1 => stagePiece A (Fin.ofNat 512 n) :: stagePieces A n

section Views
variable {sig : RefSig} {k : Kind} {sp sp' : Space} (vs : View sig k sp S2x4x512x128 .f32)

/-- A block of 64 positions of plane `ct` of chunk `i`, read back. -/
def homeOf (A : Fin 8 → Fin 16 → FVec F S32x512 .f32) (i : Fin 8) (ct : Fin 4) (s : Fin 8) : FVec F S64x128 .bf16 :=
  truncf .bf16 (shapeCast S64x128
    (LoadRect.valAlong (lr := rEighth ct s) (LR := (rEighth ct s).consLift (rSlot i).size rfl (slot_sizes i))
      (LoadRect.numel_consLift _ _ _ _) (vs.readCov (stagePieces A (64 * (i.val + 1))) (rBack i ct s)))
    shapeCasts_S1x64x128_S64x128) bitsLt_bf16_f32

/-- The first `n` blocks of positions stored to the output. -/
def outPieces (A : Fin 8 → Fin 16 → FVec F S32x512 .f32) : Nat → List (View.Piece (Elt F) S512x4096 .bf16)
  | 0 => []
  | n + 1 => ⟨rOut (Fin.ofNat 256 n), homeOf vs A (Fin.ofNat 8 (n / 32)) (Fin.ofNat 4 (n / 8)) (Fin.ofNat 8 n)⟩ :: outPieces A n

/-- A batch's first tile stores zeros as the kept rows before anything else. -/
def zeroTail : List (View.Piece (Elt F) S24x4096 .f32) :=
  [⟨Rect.unit ![0, 0] S24x4096.size inb_S24x4096_S24x4096_0_0,
    shapeCast S24x4096 (broadcast S24x4096 (Scalar.ofBits .f32 0x00000000#32)) shapeCasts_S24x4096_S24x4096⟩]

/-- A chunk's kept rows out of what was stored before. -/
def prevA (vp : View sig k sp' S8x512x128 .f32) (vt : View sig k sp' S24x4096 .f32) (D : Loads F) (i : Fin 8) : Vec F S24x512 .f32 :=
  vt.readCov (tailPieces D (movedOf vp D) zeroTail i.val) (rTail i).toLoadRect
end Views

end Cert.InProj.Body

end
-- ==== Proof.InPieces.lean ====
/- The pieces the input projection's run leaves, by case. -/
module

public import proofs.«01_k».proof.Proof.Gen.Kernel4Ideal.Frame
public import proofs.«01_k».proof.Proof.InBody

@[expose] public section

set_option maxRecDepth 65536

noncomputable section

namespace Cert.InProj.Body

open Idealize.ShloMosaic Idealize.ShloMosaic.TcCoe Cert.Kernel4Ideal Cert.Kernel4Ideal.Gen

variable {F : FTy → Type} [FloatOps F] [Named F]

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1024x4096 .bf16) (harg5 : arg5.IsWhole)
  (arg6 : Memref sig .tc .vmem S3072x128 .bf16) (harg6 : arg6.IsWhole)
  (arg7 : Memref sig .tc .vmem S4x4096 .f32) (harg7 : arg7.IsWhole)
  (arg8 : Memref sig .tc .vmem S1x4096 .f32) (harg8 : arg8.IsWhole)
  (arg9 : Memref sig .tc .vmem S512x2048 .bf16) (harg9 : arg9.IsWhole)
  (arg10 : Memref sig .tc .vmem S512x4096 .bf16) (harg10 : arg10.IsWhole)
  (arg11 : Memref sig .tc .vmem S512x128 .f32) (harg11 : arg11.IsWhole)
  (arg12 : Memref sig .tc .vmem S8x512x128 .f32) (harg12 : arg12.IsWhole)
  (arg13 : Memref sig .tc .vmem S2x4x512x128 .f32) (harg13 : arg13.IsWhole)
  (arg14 : Memref sig .tc .vmem S24x4096 .f32) (harg14 : arg14.IsWhole)
  (x0 : Vec F S512x1024 .f32)
  (x1 : Vec F S1x1024 .f32)
  (x2 : Vec F S1024x2048 .bf16)
  (x3 : Vec F S1024x4096 .bf16)
  (x4 : Vec F S3072x128 .bf16)
  (x5 : Vec F S4x4096 .f32)
  (x6 : Vec F S1x4096 .f32)
  (xs2 : Vec F S24x4096 .f32)

/-- What the body loads from its windows. -/
def loadsOf : Loads F where
  x := shapeCast S512x1024 (View.readAt (Elt F) arg2.view (Rect.unit ![0, 0] S512x1024.size inb_S512x1024_S512x1024_0_0).toLoadRect (harg2.unread x0))
    shapeCasts_S512x1024_S512x1024
  nw := View.readAt (Elt F) arg3.view (Rect.unit ![0, 0] S1x1024.size inb_S1x1024_S1x1024_0_0).toLoadRect (harg3.unread x1)
  wz i := View.readAt (Elt F) arg4.view (rGatew i).toLoadRect (harg4.unread x2)
  wx i := View.readAt (Elt F) arg5.view (rIn i).toLoadRect (harg5.unread x3)
  wdt := View.readAt (Elt F) arg6.view (Rect.unit ![0, 0] S3072x128.size inb_S3072x128_S3072x128_0_0).toLoadRect (harg6.unread x4)
  tap i k := View.readAt (Elt F) arg7.view (rTap i k).toLoadRect (harg7.unread x5)
  bias i := View.readAt (Elt F) arg8.view (rBias i).toLoadRect (harg8.unread x6)

/-- The step sizes are stored at once. -/
def stepPieces (D : Loads F) : List (View.Piece (Elt F) S512x128 .f32) :=
  [⟨Rect.unit ![0, 0] S512x128.size inb_S512x128_S512x128_0_0, stepOf D⟩]

/-- A chunk's kept rows as the tile before left them. -/
def prevB (i : Fin 8) : Vec F S24x512 .f32 := View.readAt (Elt F) arg14.view (rTail i).toLoadRect (harg14.unread xs2)

/-- The gate of a tile that is not a batch's first. -/
theorem gate_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).1 =
      gatePieces (loadsOf arg2 harg2 arg3 harg3 arg4 harg4 arg5 harg5 arg6 harg6 arg7 harg7 arg8 harg8 x0 x1 x2 x3 x4 x5 x6) 8 := by sl_kernel_rfl

/-- Its step sizes. -/
theorem step_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).2.2.1 =
      stepPieces (loadsOf arg2 harg2 arg3 harg3 arg4 harg4 arg5 harg5 arg6 harg6 arg7 harg7 arg8 harg8 x0 x1 x2 x3 x4 x5 x6) := by sl_kernel_rfl

/-- Its kept rows. -/
theorem tail_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).2.2.2.1 =
      tailPieces (loadsOf arg2 harg2 arg3 harg3 arg4 harg4 arg5 harg5 arg6 harg6 arg7 harg7 arg8 harg8 x0 x1 x2 x3 x4 x5 x6)
        (movedOf arg12.view (loadsOf arg2 harg2 arg3 harg3 arg4 harg4 arg5 harg5 arg6 harg6 arg7 harg7 arg8 harg8 x0 x1 x2 x3 x4 x5 x6)) [] 8 := by sl_kernel_rfl

/-- The gate of a batch's first tile. -/
theorem gate_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1 =
      gatePieces (loadsOf arg2 harg2 arg3 harg3 arg4 harg4 arg5 harg5 arg6 harg6 arg7 harg7 arg8 harg8 x0 x1 x2 x3 x4 x5 x6) 8 := by sl_kernel_rfl

/-- Its step sizes. -/
theorem step_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1 =
      stepPieces (loadsOf arg2 harg2 arg3 harg3 arg4 harg4 arg5 harg5 arg6 harg6 arg7 harg7 arg8 harg8 x0 x1 x2 x3 x4 x5 x6) := by sl_kernel_rfl

/-- Its kept rows. -/
theorem tail_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1 =
      tailPieces (loadsOf arg2 harg2 arg3 harg3 arg4 harg4 arg5 harg5 arg6 harg6 arg7 harg7 arg8 harg8 x0 x1 x2 x3 x4 x5 x6)
        (movedOf arg12.view (loadsOf arg2 harg2 arg3 harg3 arg4 harg4 arg5 harg5 arg6 harg6 arg7 harg7 arg8 harg8 x0 x1 x2 x3 x4 x5 x6)) zeroTail 8 := by sl_kernel_rfl

/-- The channels of a tile that is not a batch's first. -/
theorem out_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).2.1 =
      outPieces arg13.view (actOf (loadsOf arg2 harg2 arg3 harg3 arg4 harg4 arg5 harg5 arg6 harg6 arg7 harg7 arg8 harg8 x0 x1 x2 x3 x4 x5 x6)
        (movedOf arg12.view (loadsOf arg2 harg2 arg3 harg3 arg4 harg4 arg5 harg5 arg6 harg6 arg7 harg7 arg8 harg8 x0 x1 x2 x3 x4 x5 x6))
        (prevB arg14 harg14 xs2)) 256 := by sl_kernel_rfl

/-- The channels of a batch's first tile. -/
theorem out_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1 =
      outPieces arg13.view (actOf (loadsOf arg2 harg2 arg3 harg3 arg4 harg4 arg5 harg5 arg6 harg6 arg7 harg7 arg8 harg8 x0 x1 x2 x3 x4 x5 x6)
        (movedOf arg12.view (loadsOf arg2 harg2 arg3 harg3 arg4 harg4 arg5 harg5 arg6 harg6 arg7 harg7 arg8 harg8 x0 x1 x2 x3 x4 x5 x6))
        (prevA arg12.view arg14.view (loadsOf arg2 harg2 arg3 harg3 arg4 harg4 arg5 harg5 arg6 harg6 arg7 harg7 arg8 harg8 x0 x1 x2 x3 x4 x5 x6))) 256 := by sl_kernel_rfl

end Cert.InProj.Body

end
-- ==== Proof.InLists.lean ====
/- What the input projection's lists of pieces hold, read back: the gate, the staging block, the output block and the kept rows. -/
module

public import proofs.«01_k».proof.Proof.InBody
public import proofs.«01_k».proof.Proof.FfnLists

@[expose] public section

set_option maxRecDepth 16384

noncomputable section

namespace Cert.InProj.Body

open Idealize.ShloMosaic Idealize.ShloMosaic.TcCoe Cert.Kernel4Ideal Cert.Kernel4Ideal.Gen
open Cert.Ffn.Body (canon_top canon_pick canon_under away)

variable {F : FTy → Type} [FloatOps F] [Named F]

/-- The gate's block holds the chunks stored. -/
theorem gate_at (D : Loads F) (r : Fin 512) (j : Fin 2048) :
    View.canon (gatePieces D 8) (ix2 r j) =
      gateOf D ⟨j.val / 256, by omega⟩ (ix2 r (⟨j.val % 256, by omega⟩ : Fin 256)) := by
  refine (canon_top (gatePieces D) (fun n => ⟨rGate (Fin.ofNat 8 n), gateOf D (Fin.ofNat 8 n)⟩) (fun n => rfl)
    (fun y => gateOf D ⟨(y 1).val / 256, by have : (y 1).val < 2048 := (y 1).isLt; omega⟩
      (ix2 (y 0) (⟨(y 1).val % 256, by omega⟩ : Fin 256))) 8 (fun k hk x => ?_) _ ⟨j.val / 256, by omega, ?_⟩).trans rfl
  · dsimp only
    have h1 : (x 1).val < 256 := (x 1).isLt
    generalize Fin.ofNat 8 k = n
    have e : (⟨(((rGate n).emb x) 1).val / 256, by have : (((rGate n).emb x) 1).val < 2048 := (((rGate n).emb x) 1).isLt; omega⟩ : Fin 8) = n := by
      apply Fin.ext
      show (256 * n.val + 1 * (x 1).val) / 256 = n.val
      omega
    refine Eq.trans ?_ (congrArg (fun w => gateOf D w _) e.symm)
    refine congrArg (gateOf D n) ?_
    funext c; apply Fin.ext
    fin_cases c
    · show (x 0).val = 0 + 1 * (x 0).val; omega
    · show (x 1).val = (256 * n.val + 1 * (x 1).val) % 256; omega
  · dsimp only
    have h : (Fin.ofNat 8 (j.val / 256)).val = j.val / 256 := Nat.mod_eq_of_lt (by omega)
    have e : (ix2 r j : S512x2048.Idx) = (rGate (Fin.ofNat 8 (j.val / 256))).emb (ix2 r (⟨j.val % 256, by omega⟩ : Fin 256)) := by
      funext c; apply Fin.ext
      fin_cases c
      · show r.val = 0 + 1 * r.val; omega
      · show j.val = 256 * (Fin.ofNat 8 (j.val / 256)).val + 1 * (j.val % 256); omega
    rw [e]
    exact LoadRect.idx_mem _ _

/-! ## The staging block -/

/-- Column `l` of plane `ct` of a chunk. -/
def qcol (ct : Fin 4) (l : Fin 128) : Fin 512 := ⟨128 * ct.val + l.val, by omega⟩

/-- The part of a block of rows a plane holds. -/
theorem quarterOf_at (v : FVec F S32x512 .f32) (ct : Fin 4) (a : Fin 32) (l : Fin 128) : quarterOf v ct (ix3 0 a l) = v (ix2 a (qcol ct l)) := by
  pointwise [quarterOf]
  rfl

/-- The block of a row, and the row's place in it. -/
def blockNo (p : Fin 512) : Fin 16 := ⟨p.val / 32, by omega⟩
def blockRow (p : Fin 512) : Fin 32 := ⟨p.val % 32, by omega⟩

/-- The number of a chunk's slot. -/
def slot (i : Fin 8) : Fin 2 := ⟨i.val % 2, by omega⟩

/-- After a chunk is stored, its slot holds its rows, plane by plane. -/
theorem stage_at (A : Fin 8 → Fin 16 → FVec F S32x512 .f32) (i : Fin 8) (ct : Fin 4) (p : Fin 512) (l : Fin 128) :
    View.canon (stagePieces A (64 * (i.val + 1))) (ix4 (slot i) ct p l) = A i (blockNo p) (ix2 (blockRow p) (qcol ct l)) := by
  refine (canon_top (fun m => stagePieces A (64 * i.val + m)) (fun m => stagePiece A (Fin.ofNat 512 (64 * i.val + m))) (fun n => rfl)
    (fun y => A i (blockNo (y 2)) (ix2 (blockRow (y 2)) (qcol (y 1) (y 3)))) 64 (fun k hk x => ?_) _ ⟨4 * (p.val / 32) + ct.val, by omega, ?_⟩).trans rfl
  · have hn : (Fin.ofNat 512 (64 * i.val + k)).val = 64 * i.val + k := Nat.mod_eq_of_lt (by omega)
    revert x
    generalize Fin.ofNat 512 (64 * i.val + k) = n at hn ⊢
    unfold stagePiece
    have hi : Fin.ofNat 8 (n.val / 64) = i := by
      apply Fin.ext; show n.val / 64 % 8 = i.val; omega
    rw [hi]
    generalize Fin.ofNat 16 (n.val / 4) = j
    generalize Fin.ofNat 4 n.val = c
    intro x
    have h0 : (x 0).val < 1 := (x 0).isLt
    have h1 : (x 1).val < 1 := (x 1).isLt
    have h2 : (x 2).val < 32 := (x 2).isLt
    have h3 : (x 3).val < 128 := (x 3).isLt
    refine (Rect.payAlong_consLift (rStrip j c) (rSlot i).size rfl (slot_sizes i) (quarterOf (A i j) c) (Rect.numel_consLift _ _ _ _) x (ix3 0 (⟨(x 2).val, h2⟩ : Fin 32) (⟨(x 3).val, h3⟩ : Fin 128)) ?_).trans ?_
    · intro a
      fin_cases a
      · show 0 = (x 1).val; omega
      · rfl
      · rfl
    · refine (quarterOf_at _ _ _ _).trans ?_
      have e2 : ((rStage i j c).emb x 2).val = 32 * j.val + (x 2).val := by
        show 0 + 32 * j.val + 1 * (x 2).val = _; omega
      have e1 : ((rStage i j c).emb x 1).val = c.val := by
        show 0 + c.val + 1 * (x 1).val = _; omega
      have e3 : ((rStage i j c).emb x 3).val = (x 3).val := by
        show 0 + 0 + 1 * (x 3).val = _; omega
      have g1 : blockNo ((rStage i j c).emb x 2) = j := by
        apply Fin.ext; show ((rStage i j c).emb x 2).val / 32 = j.val; omega
      refine Eq.trans ?_ (congrArg (fun w => A i w _) g1.symm)
      refine congrArg (A i j) ?_
      funext a; apply Fin.ext
      fin_cases a
      · show (x 2).val = ((rStage i j c).emb x 2).val % 32; omega
      · show 128 * c.val + (x 3).val = 128 * ((rStage i j c).emb x 1).val + ((rStage i j c).emb x 3).val; omega
  · have hn : (Fin.ofNat 512 (64 * i.val + (4 * (p.val / 32) + ct.val))).val = 64 * i.val + (4 * (p.val / 32) + ct.val) := Nat.mod_eq_of_lt (by omega)
    generalize Fin.ofNat 512 (64 * i.val + (4 * (p.val / 32) + ct.val)) = n at hn ⊢
    unfold stagePiece
    dsimp only
    have hi : Fin.ofNat 8 (n.val / 64) = i := by
      apply Fin.ext; show n.val / 64 % 8 = i.val; omega
    have hj : (Fin.ofNat 16 (n.val / 4)).val = p.val / 32 := by show n.val / 4 % 16 = _; omega
    have hc : Fin.ofNat 4 n.val = ct := by
      apply Fin.ext; show n.val % 4 = ct.val; omega
    rw [hi, hc]
    generalize Fin.ofNat 16 (n.val / 4) = j at hj ⊢
    have e : (ix4 (slot i) ct p l : S2x4x512x128.Idx) = (rStage i j ct).emb (ix4 (0 : Fin 1) (0 : Fin 1) (blockRow p) l) := by
      funext a; apply Fin.ext
      fin_cases a
      · show i.val % 2 = i.val % 2 + 0 + 1 * 0; omega
      · show ct.val = 0 + ct.val + 1 * 0; omega
      · show p.val = 0 + 32 * j.val + 1 * (p.val % 32); omega
      · show l.val = 0 + 0 + 1 * l.val; omega
    rw [e]
    exact LoadRect.idx_mem _ _

section Views
variable {sig : RefSig} {k : Kind} {sp : Space} (vs : View sig k sp S2x4x512x128 .f32)

/-- A row every eighth of which is read. -/
def eighth (s : Fin 8) (g : Fin 64) : Fin 512 := ⟨8 * g.val + s.val, by omega⟩

/-- One plane's block without its plane. -/
theorem drop_at (v : FVec Ideal S1x64x128 .f32) (g : Fin 64) (l : Fin 128) :
    truncf .bf16 (shapeCast S64x128 v shapeCasts_S1x64x128_S64x128) bitsLt_bf16_f32 (ix2 g l) = v (ix3 0 g l) := by
  pointwise []

/-- A block of positions read back holds the rows every eighth. -/
theorem homeOf_at (A : Fin 8 → Fin 16 → FVec Ideal S32x512 .f32) (i : Fin 8) (ct : Fin 4) (s : Fin 8) (g : Fin 64) (l : Fin 128) :
    homeOf vs A i ct s (ix2 g l) = A i (blockNo (eighth s g)) (ix2 (blockRow (eighth s g)) (qcol ct l)) := by
  refine (drop_at _ g l).trans ?_
  have e := Shape.reshapeEquiv_cons_one (d := (rEighth ct s).size) (LoadRect.numel_consLift (rEighth ct s) (rSlot i).size rfl (slot_sizes i)) (ix3 0 g l)
  refine (congrArg (vs.readCov (stagePieces A (64 * (i.val + 1))) (rBack i ct s)) e).trans ?_
  rw [View.readCov_eq_canon']
  refine Eq.trans (congrArg _ ?_) (stage_at A i ct (eighth s g) l)
  funext a; apply Fin.ext
  fin_cases a
  · show i.val % 2 + 0 + 1 * 0 = i.val % 2; omega
  · show 0 + ct.val + 1 * 0 = ct.val; omega
  · show 0 + s.val + 8 * g.val = 8 * g.val + s.val; omega
  · show 0 + 0 + 1 * l.val = l.val; omega

/-- Where a channel stands: its chunk and its column there. -/
def chunk (ch : Fin 4096) : Fin 8 := ⟨ch.val / 512, by omega⟩
def inChunk (ch : Fin 4096) : Fin 512 := ⟨ch.val % 512, by omega⟩

/-- The output block holds each position's row. -/
theorem out_at (A : Fin 8 → Fin 16 → FVec Ideal S32x512 .f32) (r : Fin 512) (ch : Fin 4096) :
    View.canon (outPieces vs A 256) (ix2 r ch) = A (chunk ch) (blockNo (away r)) (ix2 (blockRow (away r)) (inChunk ch)) := by
  refine (canon_top (outPieces vs A) (fun n => ⟨rOut (Fin.ofNat 256 n), homeOf vs A (Fin.ofNat 8 (n / 32)) (Fin.ofNat 4 (n / 8)) (Fin.ofNat 8 n)⟩) (fun n => rfl)
    (fun y => A (chunk (y 1)) (blockNo (away (y 0))) (ix2 (blockRow (away (y 0))) (inChunk (y 1))))
    256 (fun k hk x => ?_) _ ⟨32 * (ch.val / 512) + 8 * (ch.val % 512 / 128) + r.val / 64, by omega, ?_⟩).trans rfl
  · dsimp only
    have h0 : (x 0).val < 64 := (x 0).isLt
    have h1 : (x 1).val < 128 := (x 1).isLt
    have hv : (Fin.ofNat 256 k).val = k := Nat.mod_eq_of_lt hk
    have hi : (Fin.ofNat 8 (k / 32)).val = k / 32 := Nat.mod_eq_of_lt (by omega)
    have hc : (Fin.ofNat 4 (k / 8)).val = k / 8 % 4 := rfl
    have hs : (Fin.ofNat 8 k).val = k % 8 := rfl
    clear h0 h1
    revert x
    generalize Fin.ofNat 256 k = n at hv ⊢
    intro x
    have h0 : (x 0).val < 64 := (x 0).isLt
    have h1 : (x 1).val < 128 := (x 1).isLt
    generalize Fin.ofNat 8 (k / 32) = i at hi ⊢
    generalize Fin.ofNat 4 (k / 8) = ct at hc ⊢
    generalize Fin.ofNat 8 k = s at hs ⊢
    have e0 : ((rOut n).emb x 0).val = 64 * (n.val % 8) + (x 0).val := by
      show 64 * (n.val % 8) + 1 * (x 0).val = _; omega
    have e1 : ((rOut n).emb x 1).val = 512 * (n.val / 32) + 128 * (n.val % 32 / 8) + (x 1).val := by
      show 512 * (n.val / 32) + 128 * (n.val % 32 / 8) + 1 * (x 1).val = _; omega
    refine ((congrArg _ (eq_ix2 x)).trans (homeOf_at vs A i ct s (⟨(x 0).val, h0⟩ : Fin 64) (⟨(x 1).val, h1⟩ : Fin 128))).trans ?_
    have ei : i = chunk ((rOut n).emb x 1) := by
      apply Fin.ext; show i.val = ((rOut n).emb x 1).val / 512; omega
    have er : eighth s (⟨(x 0).val, h0⟩ : Fin 64) = away ((rOut n).emb x 0) := by
      apply Fin.ext; show 8 * (x 0).val + s.val = 8 * (((rOut n).emb x 0).val % 64) + ((rOut n).emb x 0).val / 64; omega
    have ec : qcol ct (⟨(x 1).val, h1⟩ : Fin 128) = inChunk ((rOut n).emb x 1) := by
      apply Fin.ext; show 128 * ct.val + (x 1).val = ((rOut n).emb x 1).val % 512; omega
    rw [er, ec, ei]
  · dsimp only
    have h : (Fin.ofNat 256 (32 * (ch.val / 512) + 8 * (ch.val % 512 / 128) + r.val / 64)).val =
        32 * (ch.val / 512) + 8 * (ch.val % 512 / 128) + r.val / 64 := Nat.mod_eq_of_lt (by omega)
    generalize Fin.ofNat 256 (32 * (ch.val / 512) + 8 * (ch.val % 512 / 128) + r.val / 64) = n at h ⊢
    have e : (ix2 r ch : S512x4096.Idx) = (rOut n).emb (ix2 (⟨r.val % 64, by omega⟩ : Fin 64) (⟨ch.val % 128, by omega⟩ : Fin 128)) := by
      funext c; apply Fin.ext
      fin_cases c
      · show r.val = 64 * (n.val % 8) + 1 * (r.val % 64); omega
      · show ch.val = 512 * (n.val / 32) + 128 * (n.val % 32 / 8) + 1 * (ch.val % 128); omega
    rw [e]
    exact LoadRect.idx_mem _ _
end Views

/-! ## The kept rows -/

/-- Two chunks' columns do not meet. -/
theorem rTail_disjoint (i i' : Fin 8) (h : i ≠ i') : Disjoint (rTail i).set (rTail i').set := by
  refine Rect.unit_disjoint 1 ?_
  have h1 : i.val ≠ i'.val := fun e => h (Fin.ext e)
  show 512 * i.val + 512 ≤ 512 * i'.val ∨ 512 * i'.val + 512 ≤ 512 * i.val
  omega

/-- The kept rows of a chunk stored. -/
theorem tail_at (D : Loads F) (h : FVec F S512x1024 .bf16) (L : List (View.Piece (Elt F) S24x4096 .f32)) (i : Fin 8) (x : S24x512.Idx) :
    View.canon (tailPieces D h L 8) ((rTail i).emb x) = tailOf (rawOf D h i) x := by
  refine (canon_pick (tailPieces D h L) (fun n => ⟨rTail (Fin.ofNat 8 n), shapeCast S24x512 (tailOf (rawOf D h (Fin.ofNat 8 n))) shapeCasts_S24x512_S24x512⟩)
    (fun n => rfl) i.val 8 i.isLt ((rTail i).emb x) (fun k hk hk' hm => ?_)).trans ?_
  · have hv : (Fin.ofNat 8 k).val = k := Nat.mod_eq_of_lt hk'
    refine Finset.disjoint_left.mp (rTail_disjoint (Fin.ofNat 8 k) i fun e => ?_) hm ((rTail i).idx_mem x)
    rw [← e] at hk
    omega
  · rw [Fin.ofNat_val_eq_self]
    exact (View.canon_cons_emb (rTail i) _ _ x).trans (congrFun (shapeCast_self _ _) x)

/-- The kept rows of a chunk not stored yet. -/
theorem tail_before (D : Loads F) (h : FVec F S512x1024 .bf16) (L : List (View.Piece (Elt F) S24x4096 .f32)) (i : Fin 8) (x : S24x512.Idx) :
    View.canon (tailPieces D h L i.val) ((rTail i).emb x) = View.canon L ((rTail i).emb x) := by
  refine canon_under (tailPieces D h L) (fun n => ⟨rTail (Fin.ofNat 8 n), shapeCast S24x512 (tailOf (rawOf D h (Fin.ofNat 8 n))) shapeCasts_S24x512_S24x512⟩)
    (fun n => rfl) i.val _ (fun k hk hm => ?_)
  have hv : (Fin.ofNat 8 k).val = k := Nat.mod_eq_of_lt (by omega)
  refine Finset.disjoint_left.mp (rTail_disjoint (Fin.ofNat 8 k) i fun e => ?_) hm ((rTail i).idx_mem x)
  rw [← e] at hk
  omega

end Cert.InProj.Body

end
-- ==== Proof.InSpec.lean ====
/- The input projection of the state-space half as numbers: what the kernel and the reference both compute, position by position.
   A batch has 4096 positions of 1024 channels, projected to 2048 gate channels, 4096 channels that a convolution of four taps
   and a gating follow, and 32 step sizes. -/
module

public import proofs.«01_k».proof.Proof.Spec
public import proofs.«01_k».proof.Proof.FfnSpec

@[expose] public section

noncomputable section

namespace Cert.InProj

open Idealize.ShloMosaic Cert.Ssd
open Cert.Ffn (silu)

/-- The arguments, by coordinates. -/
structure Inp where
  x : Fin 8 → Fin 4096 → Fin 1024 → EReal
  nw : Fin 1024 → EReal
  w : Fin 1024 → Fin 6176 → EReal
  cw : Fin 4 → Fin 4096 → EReal
  cb : Fin 4096 → EReal

variable (I : Inp) (b : Fin 8) (t : Fin 4096)

/-- The normalized row, projected to one column. -/
def proj (c : Fin 6176) : EReal := ∑ k : Fin 1024, Cert.Ffn.norm (I.x b t) I.nw k * I.w k c

/-- The gate. -/
def zv (j : Fin 2048) : EReal := proj I b t ⟨j.val, by omega⟩

/-- A channel before the convolution. -/
def raw (ch : Fin 4096) : EReal := proj I b t ⟨2048 + ch.val, by omega⟩

/-- The channel `k` positions before; nothing before the batch's start. -/
def past (k : Nat) (ch : Fin 4096) : EReal := if k ≤ t.val then raw I b ⟨t.val - k, by omega⟩ ch else 0

/-- The channel after four taps and the bias. -/
def conv (ch : Fin 4096) : EReal :=
  I.cw 3 ch * raw I b t ch + I.cw 2 ch * past I b t 1 ch + I.cw 1 ch * past I b t 2 ch + I.cw 0 ch * past I b t 3 ch + I.cb ch

/-- That times its logistic. -/
def xv (ch : Fin 4096) : EReal := silu (conv I b t ch)

/-- The step sizes' columns of the weights, and zeros after them. -/
def stepw (k : Fin 1024) (h : Fin 128) : EReal := if h' : h.val < 32 then I.w k ⟨6144 + h.val, by omega⟩ else 0

/-- The step sizes, and zeros after them. -/
def dtv (h : Fin 128) : EReal := ∑ k : Fin 1024, Cert.Ffn.norm (I.x b t) I.nw k * stepw I k h

/-- No position back is the position itself. -/
theorem past_zero (ch : Fin 4096) : past I b t 0 ch = raw I b t ch := by
  unfold past
  rw [if_pos (Nat.zero_le _)]
  rfl

/-- `k` positions before `t` is `k - g` positions before the position `g` before `t`. -/
theorem past_back (k g : Nat) (t' : Fin 4096) (h : t.val = t'.val + g) (hg : g ≤ k) (ch : Fin 4096) :
    past I b t k ch = past I b t' (k - g) ch := by
  unfold past
  by_cases h1 : k ≤ t.val
  · rw [if_pos h1, if_pos (by omega)]
    congr 1
    apply Fin.ext
    show t.val - k = t'.val - (k - g)
    omega
  · rw [if_neg h1, if_neg (by omega)]

/-- A position that is there. -/
theorem past_of (k : Nat) (t' : Fin 4096) (h : t.val = t'.val + k) (ch : Fin 4096) : past I b t k ch = raw I b t' ch := by
  rw [past_back I b t k k t' h le_rfl, Nat.sub_self, past_zero]

/-! ## Real values -/

/-- The weights that the channels and the step sizes read are real numbers. The rows are any numbers. -/
structure Finite : Prop where
  nw : ∀ q, IsReal (I.nw q)
  w : ∀ k (c : Fin 6176), 2048 ≤ c.val → IsReal (I.w k c)
  cw : ∀ k ch, IsReal (I.cw k ch)
  cb : ∀ ch, IsReal (I.cb ch)

/-- The small summand under the root is a positive number, and the count of channels is 1024. -/
theorem ofBits_small : ∃ e : ℝ, 0 < e ∧ Ideal.ofBits .f32 0x358637BD#32 = (e : EReal) :=
  ⟨8796093 / 8796093022208, by norm_num, by simp [Ideal.ofBits, Ideal.ieee, -EReal.coe_mul]; norm_num⟩
theorem ofBits_count : Ideal.ofBits .f32 0x44800000#32 = ((1024 : ℝ) : EReal) := by
  simp [Ideal.ofBits, Ideal.ieee, -EReal.coe_mul]; norm_num

/-- A sum of squares of real numbers is a real number, not negative. -/
theorem sum_squares (f : Fin 1024 → EReal) (hf : ∀ k, IsReal (f k)) : ∃ r : ℝ, 0 ≤ r ∧ ∑ k, f k * f k = (r : EReal) := by
  classical
  refine Finset.sum_induction (fun k => f k * f k) (fun v => ∃ r : ℝ, 0 ≤ r ∧ v = (r : EReal)) ?_ ⟨0, le_rfl, rfl⟩ (fun k _ => ?_)
  · rintro v w ⟨r, hr, rfl⟩ ⟨s, hs, rfl⟩
    exact ⟨r + s, add_nonneg hr hs, (EReal.coe_add r s).symm⟩
  · obtain ⟨r, hr⟩ := hf k
    exact ⟨r * r, mul_self_nonneg r, by rw [hr, ← EReal.coe_mul]⟩

/-- With an infinite number among them the sum of squares is infinite. -/
theorem sum_infinite (f : Fin 1024 → EReal) (hf : ¬∀ k, IsReal (f k)) : ∑ k, f k * f k = ⊤ := by
  have hn (v : EReal) : 0 ≤ v * v := by
    rcases le_total 0 v with h | h
    · exact EReal.mul_nonneg h h
    · have h' : 0 ≤ -v := EReal.neg_nonneg.mpr h
      have e : v * v = -v * -v := by rw [EReal.neg_mul, mul_comm v (-v), EReal.neg_mul, neg_neg]
      rw [e]
      exact EReal.mul_nonneg h' h'
  push Not at hf
  obtain ⟨k, hk⟩ := hf
  have ht : f k * f k = ⊤ := by
    generalize f k = v at hk
    induction v with
    | bot => rfl
    | top => rfl
    | coe r => exact absurd ⟨r, rfl⟩ hk
  exact top_le_iff.mp (ht.symm.le.trans (Finset.single_le_sum (f := fun k => f k * f k) (fun i _ => hn (f i)) (Finset.mem_univ k)))

/-- Any row is normalized to real numbers, if the weights are: an infinite number in it leaves only zeros. -/
theorem isReal_norm (f w : Fin 1024 → EReal) (hw : ∀ k, IsReal (w k)) (q : Fin 1024) : IsReal (Cert.Ffn.norm f w q) := by
  obtain ⟨e, _, hb'⟩ := ofBits_small
  by_cases hf : ∀ k, IsReal (f k)
  swap
  · unfold Cert.Ffn.norm Ideal.div
    rw [sum_infinite f hf, hb', ofBits_count, if_neg (by rw [← EReal.coe_zero, EReal.coe_eq_coe_iff]; norm_num), ← EReal.coe_inv,
      EReal.top_mul_coe_of_pos (by norm_num), EReal.top_add_coe]
    show IsReal (f q * 0 * w q)
    rw [mul_zero, zero_mul]
    exact isReal_zero
  obtain ⟨e, he, hb⟩ := ofBits_small
  obtain ⟨r, hr, hs⟩ := sum_squares f hf
  have hp : 0 < r * (1024 : ℝ)⁻¹ + e := by positivity
  unfold Cert.Ffn.norm
  refine ((hf q).mul ?_).mul (hw q)
  rw [hs, hb, ofBits_count]
  have hd : Ideal.div (r : EReal) ((1024 : ℝ) : EReal) = ((r * (1024 : ℝ)⁻¹ : ℝ) : EReal) := by
    unfold Ideal.div
    rw [if_neg (by rw [← EReal.coe_zero, EReal.coe_eq_coe_iff]; norm_num), ← EReal.coe_inv, ← EReal.coe_mul]
  rw [hd, ← EReal.coe_add]
  refine ⟨(Real.sqrt (r * (1024 : ℝ)⁻¹ + e))⁻¹, ?_⟩
  show (if r * (1024 : ℝ)⁻¹ + e < 0 then ⊥ else if r * (1024 : ℝ)⁻¹ + e = 0 then ⊤ else _) = _
  rw [if_neg hp.not_gt, if_neg hp.ne']

section
variable {I} (hI : Finite I)
include hI

theorem isReal_row (k : Fin 1024) : IsReal (Cert.Ffn.norm (I.x b t) I.nw k) := isReal_norm _ _ hI.nw k

theorem isReal_raw (ch : Fin 4096) : IsReal (raw I b t ch) :=
  isReal_sum _ fun k => (isReal_row b t hI k).mul (hI.w k _ (Nat.le_add_right _ _))

theorem isReal_past (k : Nat) (ch : Fin 4096) : IsReal (past I b t k ch) := by
  unfold past
  split_ifs
  · exact isReal_raw b _ hI ch
  · exact isReal_zero

theorem isReal_conv (ch : Fin 4096) : IsReal (conv I b t ch) :=
  (((((hI.cw _ _).mul (isReal_raw b t hI ch)).add ((hI.cw _ _).mul (isReal_past b t hI 1 ch))).add
    ((hI.cw _ _).mul (isReal_past b t hI 2 ch))).add ((hI.cw _ _).mul (isReal_past b t hI 3 ch))).add (hI.cb ch)

theorem isReal_stepw (k : Fin 1024) (h : Fin 128) : IsReal (stepw I k h) := by
  unfold stepw
  split_ifs
  · exact hI.w k _ (by show 2048 ≤ 6144 + h.val; omega)
  · exact isReal_zero

/-- The kernel's gating, with half the argument and a hyperbolic tangent. -/
theorem gate_conv (ch : Fin 4096) :
    Ideal.ofBits .f32 0x3F000000#32 * conv I b t ch +
        Ideal.ofBits .f32 0x3F000000#32 * conv I b t ch * Ideal.tanh (Ideal.ofBits .f32 0x3F000000#32 * conv I b t ch) = xv I b t ch := by
  obtain ⟨r, hr⟩ := isReal_conv b t hI ch
  unfold xv silu
  rw [hr]
  exact half_gate r
end

/-- A sum of 3072 terms of which only the first 1024 are not zero. -/
theorem sum_first (f : Fin 3072 → EReal) (h : ∀ k : Fin 3072, 1024 ≤ k.val → f k = 0) :
    ∑ k, f k = ∑ k : Fin 1024, f ⟨k.val, by omega⟩ := by
  refine (Fin.sum_univ_add (a := 1024) (b := 2048) f).trans ?_
  rw [Finset.sum_eq_zero (s := Finset.univ) (f := fun i : Fin 2048 => f (Fin.natAdd 1024 i))
    (fun k _ => h _ (by show 1024 ≤ 1024 + k.val; omega)), add_zero]
  rfl

end Cert.InProj

end
-- ==== Proof.InRead.lean ====
/- A grid point of the input projection computes the numbers of `InSpec.lean`: each function of `InBody.lean` read at one position,
   given what the blocks loaded hold. -/
module

public import proofs.«01_k».proof.Proof.InLists
public import proofs.«01_k».proof.Proof.InSpec
public import proofs.«01_k».proof.Proof.FfnRead

@[expose] public section

set_option maxRecDepth 16384

noncomputable section

namespace Cert.InProj.Body

open Idealize.ShloMosaic Idealize.ShloMosaic.TcCoe Cert.Kernel4Ideal Cert.Kernel4Ideal.Gen
open Cert.Ffn.Body (permPieces rPlane joined normRows home away home_away pos runStart brow normRows_at moved_at)
open Cert.Ssd (IsReal)

/-- Column `k` of chunk `i`. -/
def chan (i : Fin 8) (k : Fin 512) : Fin 4096 := ⟨512 * i.val + k.val, by omega⟩

/-- The blocks a grid point works on hold tile `s` of batch `b`. The three stacked weights of the step sizes are the weights twice
    and what a change of format left of them. -/
structure Reads (D : Loads Ideal) (I : Inp) (b s : Fin 8) : Prop where
  x : ∀ r q, D.x (ix2 r q) = I.x b (pos s r) q
  nw : ∀ q, D.nw (ix2 0 q) = I.nw q
  wz : ∀ i k c, D.wz i (ix2 k c) = I.w k ⟨256 * i.val + c.val, by omega⟩
  wx : ∀ i k c, D.wx i (ix2 k c) = I.w k ⟨2048 + (chan i c).val, by omega⟩
  tap : ∀ i k c, D.tap i k (ix2 0 c) = I.cw k (chan i c)
  bias : ∀ i c, D.bias i (ix2 0 c) = I.cb (chan i c)
  w1 : ∀ (k : Fin 1024) h, D.wdt (ix2 (⟨k.val, by omega⟩ : Fin 3072) h) = stepw I k h
  w3 : ∀ (k : Fin 1024) h, D.wdt (ix2 (⟨2048 + k.val, by omega⟩ : Fin 3072) h) = stepw I k h - stepw I k h

/-- Eight rows one down. -/
theorem haloOf_at (prev tail : FVec Ideal S8x512 .f32) (s : Fin 8) (k : Fin 512) :
    haloOf prev tail (ix2 s k) = if s.val = 0 then prev (ix2 7 k) else tail (ix2 (⟨s.val - 1, by omega⟩ : Fin 8) k) := by
  have hs : IntOp.cmpi .eq (BitVec.ofNat 32 s.val) 0#32 = BitVec.ofBool (decide (s.val = 0)) :=
    WordCmp.cmpi_eq_ofNat (w := 32) (a := s.val) (b := 0) (by omega) (by omega)
  pointwise [haloOf]
  rw [hs]
  by_cases h : s.val = 0
  · rw [if_pos h, decide_eq_true h]
    refine congrArg prev ?_
    refine congrArg (fun z => ix2 z k) (Fin.ext ?_)
    show (s.val + 8 - 1) % 8 = 7; omega
  · rw [if_neg h, decide_eq_false h]
    refine congrArg tail ?_
    refine congrArg (fun z => ix2 z k) (Fin.ext ?_)
    show (s.val + 8 - 1) % 8 = s.val - 1; omega

/-- Row `s` of the `i`-th eight before the first. -/
def frow (i : Fin 3) (s : Fin 8) : Fin 24 := ⟨8 * i.val + s.val, by omega⟩

/-- The rows before the first. -/
theorem beforeOf_at (u : FVec Ideal S512x512 .f32) (prev : Vec Ideal S24x512 .f32) (i : Fin 3) (s : Fin 8) (k : Fin 512) :
    beforeOf u prev (ix2 (frow i s) k) =
      if s.val = 0 then prev (ix2 (frow i 7) k) else u (ix2 (⟨487 + 8 * i.val + s.val, by omega⟩ : Fin 512) k) := by
  unfold frow
  have h1 : i = 0 ∨ i = 1 ∨ i = 2 := by omega
  rcases h1 with rfl | rfl | rfl <;>
  · pointwise [beforeOf]
    try rw [dif_neg (by omega), dif_neg (by omega)]
    rw [haloOf_at]
    by_cases h : s.val = 0
    · rw [if_pos (by first | exact h | (dsimp only; omega)), if_pos h]
      pointwise []
    · rw [if_neg (by first | exact h | (dsimp only; omega)), if_neg h]
      pointwise [tailOf]
      refine congrArg u (congrArg (fun z => ix2 z k) (Fin.ext ?_))
      try dsimp only
      omega

/-! ## Rows before -/

section Past
variable (I : Inp) (b s : Fin 8)

/-- A row at least `8 n` down: `n` positions before it is `8 n` rows up. -/
theorem past_row (n : Nat) (p p' : Fin 512) (h : p.val = p'.val + 8 * n) (ch : Fin 4096) :
    past I b (pos s (home p)) n ch = raw I b (pos s (home p')) ch := by
  refine past_of I b _ n _ ?_ ch
  show 512 * s.val + (64 * (p.val % 8) + p.val / 8) = 512 * s.val + (64 * (p'.val % 8) + p'.val / 8) + n
  omega

/-- A row less than `8 n` down: counted from its run's first position. -/
theorem past_fix (n g : Nat) (s' : Fin 8) (p : Fin 512) (h : p.val = 8 * g + s'.val) (hg : g ≤ n) (ch : Fin 4096) :
    past I b (pos s (home p)) n ch = past I b (pos s (runStart s')) (n - g) ch := by
  refine past_back I b _ n g _ ?_ hg ch
  show 512 * s.val + (64 * (p.val % 8) + p.val / 8) = 512 * s.val + 64 * s'.val + g
  omega

variable {I b s} {i : Fin 8} {u : FVec Ideal S512x512 .f32}
  (hu : ∀ p k, u (ix2 p k) = raw I b (pos s (home p)) (chan i k))
include hu

/-- The rows before the first, as numbers. -/
theorem before_past (prev : Vec Ideal S24x512 .f32)
    (hp : ∀ (n : Fin 3) k, prev (ix2 (frow n 7) k) = past I b (pos s 0) (3 - n.val) (chan i k)) (n : Fin 3) (s' : Fin 8) (k : Fin 512) :
    beforeOf u prev (ix2 (frow n s') k) = past I b (pos s (runStart s')) (3 - n.val) (chan i k) := by
  rw [beforeOf_at]
  by_cases h : s'.val = 0
  · rw [if_pos h, hp]
    congr 2
    apply Fin.ext
    show 0 = 64 * s'.val; omega
  · rw [if_neg h, hu]
    refine (past_of I b _ _ _ ?_ _).symm
    show 512 * s.val + 64 * s'.val = 512 * s.val + (64 * ((487 + 8 * n.val + s'.val) % 8) + (487 + 8 * n.val + s'.val) / 8) + (3 - n.val)
    omega

omit hu in
/-- Two rows with one number. -/
theorem row_eq {n : Nat} (v : FVec Ideal (⟨2, ![n, 512]⟩ : Shape) .f32) (x y : Fin n) (h : x.val = y.val) (k : Fin 512) :
    v (ix2 x k) = v (ix2 y k) := congrArg v (congrArg (fun z => ix2 z k) (Fin.ext h))

theorem back0_at (j : Fin 16) (a : Fin 32) (k : Fin 512) : back0 u j (ix2 a k) = raw I b (pos s (home (brow j a))) (chan i k) := by
  refine Eq.trans ?_ (hu _ k)
  pointwise [back0]
  rfl

variable {fix : FVec Ideal S24x512 .f32}
  (hx : ∀ (n : Fin 3) s' k, fix (ix2 (frow n s') k) = past I b (pos s (runStart s')) (3 - n.val) (chan i k))
include hx

theorem back1_at (j : Fin 16) (a : Fin 32) (k : Fin 512) :
    back1 u fix j (ix2 a k) = past I b (pos s (home (brow j a))) 1 (chan i k) := by
  obtain ⟨j, hj⟩ := j
  cases j with
  | zero =>
    pointwise [back1]
    split_ifs with h
    · refine Eq.trans ?_ ((hx 2 ⟨a.val, h⟩ k).trans (past_fix I b s 1 0 ⟨a.val, h⟩ _ ?_ (by decide) _).symm)
      · exact row_eq fix _ _ rfl k
      · show 32 * 0 + a.val = 8 * 0 + a.val; omega
    · refine Eq.trans (hu _ k) (past_row I b s 1 _ _ ?_ _).symm
      show 32 * 0 + a.val = a.val - 8 + 8 * 1; omega
    · next h0 => exact absurd rfl h0
  | succ j =>
    pointwise [back1]
    refine Eq.trans (hu _ k) (past_row I b s 1 _ _ ?_ _).symm
    show 32 * (j + 1) + a.val = 32 * j + 24 + a.val + 8 * 1; omega

theorem back2_at (j : Fin 16) (a : Fin 32) (k : Fin 512) :
    back2 u fix j (ix2 a k) = past I b (pos s (home (brow j a))) 2 (chan i k) := by
  obtain ⟨j, hj⟩ := j
  cases j with
  | zero =>
    pointwise [back2]
    split_ifs with h
    · refine Eq.trans ?_ ((hx ⟨1 + a.val / 8, by omega⟩ ⟨a.val % 8, by omega⟩ k).trans
        ((congrArg (fun n => past I b _ n _) (by show 3 - (1 + a.val / 8) = 2 - a.val / 8; omega)).trans
          (past_fix I b s 2 (a.val / 8) ⟨a.val % 8, by omega⟩ _ ?_ (by omega) _).symm))
      · refine row_eq fix _ _ ?_ k
        show 8 + a.val = 8 * (1 + a.val / 8) + a.val % 8; omega
      · show 32 * 0 + a.val = 8 * (a.val / 8) + a.val % 8; omega
    · refine Eq.trans (hu _ k) (past_row I b s 2 _ _ ?_ _).symm
      show 32 * 0 + a.val = a.val - 16 + 8 * 2; omega
    · next h0 => exact absurd rfl h0
  | succ j =>
    pointwise [back2]
    refine Eq.trans (hu _ k) (past_row I b s 2 _ _ ?_ _).symm
    show 32 * (j + 1) + a.val = 32 * j + 16 + a.val + 8 * 2; omega

theorem back3_at (j : Fin 16) (a : Fin 32) (k : Fin 512) :
    back3 u fix j (ix2 a k) = past I b (pos s (home (brow j a))) 3 (chan i k) := by
  obtain ⟨j, hj⟩ := j
  cases j with
  | zero =>
    pointwise [back3]
    split_ifs with h
    · refine Eq.trans ?_ ((hx ⟨a.val / 8, by omega⟩ ⟨a.val % 8, by omega⟩ k).trans
        (past_fix I b s 3 (a.val / 8) ⟨a.val % 8, by omega⟩ _ ?_ (by omega) _).symm)
      · refine row_eq fix _ _ ?_ k
        show a.val = 8 * (a.val / 8) + a.val % 8; omega
      · show 32 * 0 + a.val = 8 * (a.val / 8) + a.val % 8; omega
    · refine Eq.trans (hu _ k) (past_row I b s 3 _ _ ?_ _).symm
      show 32 * 0 + a.val = a.val - 24 + 8 * 3; omega
    · next h0 => exact absurd rfl h0
  | succ j =>
    pointwise [back3]
    refine Eq.trans (hu _ k) (past_row I b s 3 _ _ ?_ _).symm
    show 32 * (j + 1) + a.val = 32 * j + 8 + a.val + 8 * 3; omega

/-- The four taps and the bias. -/
theorem convOf_at (tap : Fin 4 → Vec Ideal S1x512 .f32) (bias : Vec Ideal S1x512 .f32) (ht : ∀ k c, tap k (ix2 0 c) = I.cw k (chan i c))
    (hb : ∀ c, bias (ix2 0 c) = I.cb (chan i c)) (j : Fin 16) (a : Fin 32) (k : Fin 512) :
    convOf u fix tap bias j (ix2 a k) = conv I b (pos s (home (brow j a))) (chan i k) := by
  pointwise [convOf]
  rw [back0_at hu, back1_at hu hx, back2_at hu hx, back3_at hu hx, ht, ht, ht, ht, hb]
  rfl
end Past

/-- The gating. -/
theorem siluOf_at (v : FVec Ideal S32x512 .f32) (i : S32x512.Idx) :
    siluOf v i = Ideal.ofBits .f32 0x3F000000#32 * v i + Ideal.ofBits .f32 0x3F000000#32 * v i * Ideal.tanh (Ideal.ofBits .f32 0x3F000000#32 * v i) := by
  rw [eq_ix2 i]
  pointwise [siluOf, halfOf]

/-! ## The grid point -/

section Point
variable {D : Loads Ideal} {I : Inp} {b s : Fin 8} (hR : Reads D I b s)
include hR

/-- A normalized row. -/
theorem row_at (r : Fin 512) (q : Fin 1024) : normRows D.x D.nw (ix2 r q) = Cert.Ffn.norm (I.x b (pos s r)) I.nw q := by
  rw [normRows_at]
  simp only [hR.x, hR.nw]

/-- A chunk of the gate. -/
theorem gateOf_at (i : Fin 8) (r : Fin 512) (c : Fin 256) :
    gateOf D i (ix2 r c) = proj I b (pos s r) ⟨256 * i.val + c.val, by omega⟩ := by
  pointwise [gateOf, rowsOf]
  refine Finset.sum_congr rfl fun k _ => ?_
  rw [row_at hR, hR.wz]

/-- The gate's block. -/
theorem gates_at (r : Fin 512) (j : Fin 2048) : View.canon (gatePieces D 8) (ix2 r j) = zv I b (pos s r) j := by
  refine (gate_at D r j).trans ((gateOf_at hR _ r _).trans (congrArg (proj I b _) (Fin.ext ?_)))
  show 256 * (j.val / 256) + j.val % 256 = j.val; omega

/-- The step sizes: what the rounding left of a row of real numbers is nothing, and so of the weights. -/
theorem stepOf_at (hI : Finite I) (r : Fin 512) (h : Fin 128) : stepOf D (ix2 r h) = dtv I b (pos s r) h := by
  unfold dtv
  pointwise [stepOf]
  refine (sum_first _ fun k hk => ?_).trans (Finset.sum_congr rfl fun k _ => ?_)
  · by_cases h2 : k.val < 2048
    · pointwise [rowsOf]
      rw [dif_neg (by omega), dif_pos (by omega), row_at hR, (isReal_row b (pos s r) hI _).sub_self, zero_mul]
    · pointwise [rowsOf]
      have e : k = ⟨2048 + (k.val - 2048), by omega⟩ := Fin.ext (by dsimp only; omega)
      rw [congrArg (fun z => D.wdt (ix2 z h)) e, hR.w3 ⟨k.val - 2048, by omega⟩, (isReal_stepw hI _ h).sub_self, mul_zero]
  · pointwise [rowsOf]
    refine congrArg₂ (· * ·) (row_at hR r k) (hR.w1 k h)

variable {sig : RefSig} {κ : Kind} {sp sp' : Space} (vp : View sig κ sp S8x512x128 .f32) (vs : View sig κ sp' S2x4x512x128 .f32)

/-- A chunk before the convolution. -/
theorem rawOf_at (i : Fin 8) (p : Fin 512) (k : Fin 512) :
    rawOf D (movedOf vp D) i (ix2 p k) = raw I b (pos s (home p)) (chan i k) := by
  unfold raw proj
  generalize hm : movedOf vp D = v
  pointwise [rawOf]
  subst hm
  refine Finset.sum_congr rfl fun j _ => ?_
  refine congrArg₂ (· * ·) ((moved_at vp _ p j).trans (row_at hR _ _)) (hR.wx i j k)

/-- The rows a chunk leaves for the next tile. -/
theorem kept_at (i : Fin 8) (n : Fin 3) (k : Fin 512) :
    tailOf (rawOf D (movedOf vp D) i) (ix2 (frow n 7) k) = raw I b (pos s ⟨509 + n.val, by omega⟩) (chan i k) := by
  unfold frow
  pointwise [tailOf]
  rw [rawOf_at hR]
  congr 2
  apply Fin.ext
  show 64 * ((488 + (8 * n.val + 7)) % 8) + (488 + (8 * n.val + 7)) / 8 = 509 + n.val
  omega

variable (hI : Finite I) (prev : Fin 8 → Vec Ideal S24x512 .f32)
  (hp : ∀ i (n : Fin 3) k, prev i (ix2 (frow n 7) k) = past I b (pos s 0) (3 - n.val) (chan i k))
include hI hp

/-- A block of a chunk. -/
theorem actOf_at (i : Fin 8) (j : Fin 16) (a : Fin 32) (k : Fin 512) :
    actOf D (movedOf vp D) prev i j (ix2 a k) = xv I b (pos s (home (brow j a))) (chan i k) := by
  unfold actOf
  rw [siluOf_at, convOf_at (rawOf_at hR vp i) (before_past (rawOf_at hR vp i) (prev i) (hp i)) (D.tap i) (D.bias i) (hR.tap i) (hR.bias i)]
  exact gate_conv b _ hI _

/-- The channels' block. -/
theorem outs_at (r : Fin 512) (ch : Fin 4096) :
    View.canon (outPieces vs (actOf D (movedOf vp D) prev) 256) (ix2 r ch) = xv I b (pos s r) ch := by
  refine (out_at vs _ r ch).trans ((actOf_at hR vp hI prev hp _ _ _ _).trans ?_)
  have e1 : brow (blockNo (away r)) (blockRow (away r)) = away r := by
    apply Fin.ext; show 32 * ((away r).val / 32) + (away r).val % 32 = (away r).val; omega
  have e2 : chan (chunk ch) (inChunk ch) = ch := by
    apply Fin.ext; show 512 * (ch.val / 512) + ch.val % 512 = ch.val; omega
  rw [e1, e2, home_away]
end Point

end Cert.InProj.Body

end
-- ==== Proof.InHost.lean ====
/- The input projection: the blocks a grid point loads hold one tile of one batch of the arguments. -/
module

public import proofs.«01_k».proof.Proof.Gen.Kernel4Ideal.Value
public import proofs.«01_k».proof.Proof.InPieces
public import proofs.«01_k».proof.Proof.InRead
public import proofs.«01_k».proof.Proof.FfnBlocks
public import proofs.«01_k».proof.Proof.Load

@[expose] public section

set_option maxRecDepth 16384

noncomputable section

namespace Cert.InProj.Host

open Idealize.ShloMosaic Idealize.ShloMosaic.TcCoe Cert.Kernel4Ideal Cert.Kernel4Ideal.Gen Cert.Kernel4Ideal.Value
open Cert.InProj.Body Cert.Load
open Cert.Ffn.Host (unmoved)
open Cert.Ffn.Body (pos)

variable (m : (ℓ : Loc nD τ sig) → Buf (Elt Ideal) ℓ) (d : Dev nD)

/-- The arguments by coordinates. -/
def inp : Inp where
  x b s q := m (d.tc.loc main_arg0) (ix3 b s q)
  nw q := m (d.tc.loc main_arg1) (ix1 q)
  w k c := m (d.tc.loc main_arg2) (ix2 k c)
  cw k ch := m (d.tc.loc main_arg3) (ix2 k ch)
  cb ch := m (d.tc.loc main_arg4) (ix1 ch)

theorem v0_at (r : Fin 32768) (q : Fin 1024) : V m d main_v0 (ix2 r q) = (inp m d).x ⟨r.val / 4096, by omega⟩ ⟨r.val % 4096, by omega⟩ q := by
  unfold V inp
  after_reads_at
theorem v12_at (q : Fin 1024) : V m d main_v12 (ix2 0 q) = (inp m d).nw q := by
  unfold V inp
  after_reads_at
theorem v2_at (k : Fin 1024) (c : Fin 2048) : V m d main_v2 (ix2 k c) = (inp m d).w k ⟨c.val, by omega⟩ := by
  unfold V inp
  after_reads_at
theorem v4_at (k : Fin 1024) (c : Fin 4096) : V m d main_v4 (ix2 k c) = (inp m d).w k ⟨2048 + c.val, by omega⟩ := by
  unfold V inp
  after_reads_at
theorem taps_at (k : Fin 4) (ch : Fin 4096) : V m d main_arg3 (ix2 k ch) = (inp m d).cw k ch := by
  unfold V inp
  after_reads_at
theorem v13_at (ch : Fin 4096) : V m d main_v13 (ix2 0 ch) = (inp m d).cb ch := by
  unfold V inp
  after_reads_at

/-- The integer zero, as a number. -/
theorem no_number : (FloatOps.sitofp (F := Ideal) .f32 (0#32) : EReal) = 0 := by
  show (((0#32 : BitVec 32).toInt : ℝ) : EReal) = 0
  simp

/-- The step sizes' weights: once, and what the change of format left of them. -/
theorem v11_first (k : Fin 1024) (h : Fin 128) : V m d main_v11 (ix2 (⟨k.val, by omega⟩ : Fin 3072) h) = stepw (inp m d) k h := by
  unfold V inp stepw
  after_reads_at
  after_reads_at
  rw [no_number]
theorem v11_last (k : Fin 1024) (h : Fin 128) :
    V m d main_v11 (ix2 (⟨2048 + k.val, by omega⟩ : Fin 3072) h) = stepw (inp m d) k h - stepw (inp m d) k h := by
  unfold V inp stepw
  after_reads_at
  rw [dif_neg (by omega), dif_neg (by omega)]
  have e : (⟨2048 + k.val - 1024 - 1024, by omega⟩ : Fin 1024) = k := Fin.ext (by show 2048 + k.val - 1024 - 1024 = k.val; omega)
  rw [e]
  after_reads_at
  rw [no_number]

/-- Row `r` of point `t`'s blocks, in an array of every position. -/
def row (t : Fin cfg0.N) (r : Fin 512) : Fin 32768 := ⟨512 * t.val + r.val, by have := lt_of_lt_of_eq t.isLt (show cfg0.N = 64 from N_0); omega⟩

variable (t : Fin cfg0.N)

/-- The block indices: the point's number down the rows of the moving window, zero elsewhere. -/
theorem idx_all : ∀ t : Fin grid0.N, (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) := by decide +kernel

theorem blk0_at (r : Fin 512) (q : Fin 1024) : iblk m d 0 t (ix2 r q) = V m d main_v0 (ix2 (row t r) q) := by
  unfold row; blk_simp [iblk]; blk_ext! <;> (have h := idx_all t; omega)
theorem blk1_at (q : Fin 1024) : iblk m d 1 t (ix2 0 q) = V m d main_v12 (ix2 0 q) := by
  blk_simp [iblk]; blk_ext! <;> (have h := idx_all t; omega)
theorem blk2_at (k : Fin 1024) (c : Fin 2048) : iblk m d 2 t (ix2 k c) = V m d main_v2 (ix2 k c) := by
  blk_simp [iblk]; blk_ext! <;> (have h := idx_all t; omega)
theorem blk3_at (k : Fin 1024) (c : Fin 4096) : iblk m d 3 t (ix2 k c) = V m d main_v4 (ix2 k c) := by
  blk_simp [iblk]; blk_ext! <;> (have h := idx_all t; omega)
theorem blk4_at (k : Fin 3072) (h : Fin 128) : iblk m d 4 t (ix2 k h) = V m d main_v11 (ix2 k h) := by
  blk_simp [iblk]; blk_ext! <;> (have h := idx_all t; omega)
theorem blk5_at (k : Fin 4) (ch : Fin 4096) : iblk m d 5 t (ix2 k ch) = V m d main_arg3 (ix2 k ch) := by
  blk_simp [iblk]; blk_ext! <;> (have h := idx_all t; omega)
theorem blk6_at (ch : Fin 4096) : iblk m d 6 t (ix2 0 ch) = V m d main_v13 (ix2 0 ch) := by
  blk_simp [iblk]; blk_ext! <;> (have h := idx_all t; omega)

/-- What point `t` loads. -/
def loads : Loads Ideal :=
  loadsOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m d 0 t) (iblk m d 1 t) (iblk m d 2 t) (iblk m d 3 t) (iblk m d 4 t) (iblk m d 5 t) (iblk m d 6 t)

/-- The batch of a point, and the tile it treats. -/
def bat : Fin 8 := ⟨t.val / 8, by have := lt_of_lt_of_eq t.isLt (show cfg0.N = 64 from N_0); omega⟩
def tile : Fin 8 := ⟨t.val % 8, by omega⟩

theorem reads : Reads (loads m d t) (inp m d) (bat t) (tile t) where
  x r q := by
    refine (congrFun (shapeCast_self _ _) _).trans
      ((load_at (hs0_0 t) _ _ _ inb_S512x1024_S512x1024_0_0 (ix2 r q) _ (unmoved r q)).trans ((blk0_at m d t r q).trans ((v0_at m d _ q).trans ?_)))
    congr 1 <;> apply Fin.ext
    · show (512 * t.val + r.val) / 4096 = t.val / 8; omega
    · show (512 * t.val + r.val) % 4096 = 512 * (t.val % 8) + r.val; omega
  nw q := (load_at (hs0_1 t) _ _ _ _ _ (ix2 0 q) (unmoved 0 q)).trans ((blk1_at m d t q).trans (v12_at m d q))
  wz i k c := by
    refine (load_at (hs0_2 t) _ _ _ _ _ (ix2 k (⟨256 * i.val + c.val, by omega⟩ : Fin 2048)) ?_).trans ((blk2_at m d t _ _).trans (v2_at m d _ _))
    intro a; fin_cases a; exacts [(Nat.zero_add _).symm, rfl]
  wx i k c := by
    refine (load_at (hs0_3 t) _ _ _ _ _ (ix2 k (chan i c)) ?_).trans ((blk3_at m d t _ _).trans (v4_at m d _ _))
    intro a; fin_cases a; exacts [(Nat.zero_add _).symm, rfl]
  tap i k c := by
    refine (load_at (hs0_5 t) _ _ _ _ _ (ix2 k (chan i c)) ?_).trans ((blk5_at m d t _ _).trans (taps_at m d _ _))
    intro a; fin_cases a <;> rfl
  bias i c := by
    refine (load_at (hs0_6 t) _ _ _ _ _ (ix2 0 (chan i c)) ?_).trans ((blk6_at m d t _).trans (v13_at m d _))
    intro a; fin_cases a <;> rfl
  w1 k h := (load_at (hs0_4 t) _ _ _ _ _ (ix2 (⟨k.val, by omega⟩ : Fin 3072) h) (unmoved _ h)).trans ((blk4_at m d t _ h).trans (v11_first m d k h))
  w3 k h := (load_at (hs0_4 t) _ _ _ _ _ (ix2 (⟨2048 + k.val, by omega⟩ : Fin 3072) h) (unmoved _ h)).trans ((blk4_at m d t _ h).trans (v11_last m d k h))

end Cert.InProj.Host

end
-- ==== Proof.InPoints.lean ====
/- The input projection, point by point: what one grid point stores, and the kernel's three results from all of them. -/
module

public import proofs.«01_k».proof.Proof.InHost
public import proofs.«01_k».proof.Proof.InLists

@[expose] public section

set_option maxRecDepth 16384

noncomputable section

namespace Cert.InProj.Host

open Idealize.ShloMosaic Idealize.ShloMosaic.TcCoe Cert.Kernel4Ideal Cert.Kernel4Ideal.Gen Cert.Kernel4Ideal.Value
open Cert.InProj.Body
open Cert.Ffn.Host (unmoved)
open Cert.Ffn.Body (pos)

variable {m : (ℓ : Loc nD τ sig) → Buf (Elt Ideal) ℓ} {d : Dev nD}

/-- Every channel lies in a chunk. -/
theorem exists_chan (ch : Fin 4096) : ∃ i k, ch = chan i k :=
  ⟨⟨ch.val / 512, by omega⟩, ⟨ch.val % 512, by omega⟩, Fin.ext (by show ch.val = 512 * (ch.val / 512) + ch.val % 512; omega)⟩

/-- A chunk's columns in the kept rows. -/
theorem tail_idx (i : Fin 8) (x : Fin 24) (k : Fin 512) : (rTail i).emb (ix2 x k) = (ix2 x (chan i k) : S24x4096.Idx) := by
  funext a; apply Fin.ext
  refine (ValueKit.rect_emb_unit_val _ _ _ _ a).trans ?_
  fin_cases a
  exacts [Nat.zero_add _, rfl]

/-- The zeros a batch's first tile starts from. -/
theorem zeroTail_at (x : Fin 24) (ch : Fin 4096) : View.canon (zeroTail (F := Ideal)) (ix2 x ch) = 0 := by
  have e : (ix2 x ch : S24x4096.Idx) = (Rect.unit ![0, 0] S24x4096.size inb_S24x4096_S24x4096_0_0).emb (ix2 x ch) := by
    funext a; apply Fin.ext
    refine Eq.trans ?_ (ValueKit.rect_emb_unit_val _ _ _ _ a).symm
    exact unmoved x ch a
  rw [e]
  refine (View.canon_cons_emb (Val := Elt Ideal) (Rect.unit ![0, 0] S24x4096.size inb_S24x4096_S24x4096_0_0) _ _ _).trans ?_
  rw [shapeCast_self]
  exact Ideal.ofBits_zero_f32

/-- Before a batch's first tile there is nothing. -/
theorem prevA_at {sig : RefSig} {k : Kind} {sp : Space} (vp : View sig k sp S8x512x128 .f32) (vt : View sig k sp S24x4096 .f32)
    (D : Loads Ideal) (I : Inp) (b s : Fin 8) (hs : s.val = 0) (i : Fin 8) (n : Fin 3) (c : Fin 512) :
    prevA vp vt D i (ix2 (frow n 7) c) = past I b (pos s 0) (3 - n.val) (chan i c) := by
  unfold prevA past
  rw [View.readCov_eq_canon', if_neg ?_]
  · refine (tail_before _ _ _ i _).trans ?_
    rw [tail_idx]
    exact zeroTail_at _ _
  · show ¬3 - n.val ≤ 512 * s.val + 0
    omega

/-- The step sizes are stored whole. -/
theorem steps_at (D : Loads Ideal) (r : Fin 512) (h : Fin 128) : View.canon (stepPieces D) (ix2 r h) = stepOf D (ix2 r h) := by
  have e : (ix2 r h : S512x128.Idx) = (Rect.unit ![0, 0] S512x128.size inb_S512x128_S512x128_0_0).emb (ix2 r h) := by
    funext a; apply Fin.ext
    refine Eq.trans ?_ (ValueKit.rect_emb_unit_val _ _ _ _ a).symm
    exact unmoved r h a
  unfold stepPieces
  exact (congrArg _ e).trans (View.canon_cons_emb (Val := Elt Ideal) (Rect.unit ![0, 0] S512x128.size inb_S512x128_S512x128_0_0) _ _ _)

/-- What a point leaves: three blocks of results, and the kept rows. -/
abbrev Stored := Vec Ideal S512x2048 .bf16 × Vec Ideal S512x4096 .bf16 × Vec Ideal S512x128 .f32 × Vec Ideal S24x4096 .f32

variable (m d) in
/-- After a point: the raw channels of the tile's last three positions, and the point's rows of the three results. -/
structure Left (t : Fin cfg0.N) (o : Stored) : Prop where
  kept : ∀ (n : Fin 3) ch, o.2.2.2 (ix2 (frow n 7) ch) = raw (inp m d) (bat t) (pos (tile t) ⟨509 + n.val, by omega⟩) ch
  gate : ∀ r j, o.1 (ix2 r j) = zv (inp m d) (bat t) (pos (tile t) r) j
  chans : ∀ r ch, o.2.1 (ix2 r ch) = xv (inp m d) (bat t) (pos (tile t) r) ch
  steps : ∀ r h, o.2.2.1 (ix2 r h) = dtv (inp m d) (bat t) (pos (tile t) r) h

variable (hI : Finite (inp m d))
include hI

section Lists
variable {t : Fin cfg0.N} (prev : Fin 8 → Vec Ideal S24x512 .f32) (L : List (View.Piece (Elt Ideal) S24x4096 .f32))
  (H : ∀ i (n : Fin 3) k, prev i (ix2 (frow n 7) k) = past (inp m d) (bat t) (pos (tile t) 0) (3 - n.val) (chan i k))
include H

theorem left_of_lists (o : Stored) (arg12 : Memref sig .tc .vmem S8x512x128 .f32) (arg13 : Memref sig .tc .vmem S2x4x512x128 .f32)
    (hz : o.1 = View.canon (gatePieces (loads m d t) 8))
    (hx : o.2.1 = View.canon (outPieces arg13.view (actOf (loads m d t) (movedOf arg12.view (loads m d t)) prev) 256))
    (hd : o.2.2.1 = View.canon (stepPieces (loads m d t)))
    (hs : o.2.2.2 = View.canon (tailPieces (loads m d t) (movedOf arg12.view (loads m d t)) L 8)) : Left m d t o where
  kept n ch := by
    rw [hs]
    obtain ⟨i, k, rfl⟩ := exists_chan ch
    exact (congrArg _ (tail_idx i _ k).symm).trans ((tail_at _ _ _ _ _).trans (kept_at (reads m d t) arg12.view i n k))
  gate r j := by rw [hz]; exact gates_at (reads m d t) r j
  chans r ch := by rw [hx]; exact outs_at (reads m d t) arg12.view arg13.view hI prev H r ch
  steps r h := by rw [hd]; exact (steps_at _ r h).trans (stepOf_at (reads m d t) hI r h)
end Lists

/-- One point, over what the point before left; a batch's first point starts from zeros. -/
theorem left_point (t : Fin cfg0.N) (acc : Stored)
    (h : ¬t.val % 8 = 0 → ∀ (n : Fin 3) ch, acc.2.2.2 (ix2 (frow n 7) ch) = past (inp m d) (bat t) (pos (tile t) 0) (3 - n.val) ch) :
    Left m d t (stAt0 m d t.val t.isLt acc) := by
  by_cases h0 : t.val % 8 = 0
  · rw [stAt0_A m d t acc h0]
    refine left_of_lists hI (prevA scM0_0.view scM0_2.view (loads m d t)) zeroTail (prevA_at _ _ _ _ _ _ h0) _ scM0_0 scM0_1 ?_ ?_ ?_ ?_
    · dsimp only; unfold out0_A_7; rw [View.read_writes_junk_eq_canon]
      exact congrArg View.canon (gate_A ..)
    · dsimp only; unfold out0_A_8; rw [View.read_writes_junk_eq_canon]
      exact congrArg View.canon (out_A ..)
    · dsimp only; unfold out0_A_9; rw [View.read_writes_junk_eq_canon]
      exact congrArg View.canon (step_A ..)
    · dsimp only; unfold sout0_A_2; rw [View.read_writes_junk_eq_canon]
      exact congrArg View.canon (tail_A ..)
  · rw [stAt0_B m d t acc h0]
    refine left_of_lists hI (prevB scM0_2 (Memref.isWhole_whole _) acc.2.2.2) [] (fun i n k => ?_) _ scM0_0 scM0_1 ?_ ?_ ?_ ?_
    · unfold prevB
      rw [View.readAt_eq_ld, Memref.IsWhole.read_unread]
      exact (congrArg acc.2.2.2 (tail_idx i _ k)).trans (h h0 n _)
    · dsimp only; unfold out0_B_7; rw [View.read_writes_junk_eq_canon]
      exact congrArg View.canon (gate_B ..)
    · dsimp only; unfold out0_B_8; rw [View.read_writes_junk_eq_canon]
      exact congrArg View.canon (out_B ..)
    · dsimp only; unfold out0_B_9; rw [View.read_writes_junk_eq_canon]
      exact congrArg View.canon (step_B ..)
    · dsimp only; unfold sout0_B_2; rw [View.read_writes_junk_eq_canon]
      exact congrArg View.canon (tail_B ..)

/-- Every point. -/
theorem left_all (n : Nat) (hn : n < cfg0.N) : Left m d ⟨n, hn⟩ (outsAt0 m d n hn) := by
  induction n with
  | zero =>
    rw [outsAt0_zero]
    exact left_point hI ⟨0, hn⟩ _ (fun h => absurd (Nat.zero_mod _) h)
  | succ n ih =>
    rw [outsAt0_succ]
    refine left_point hI ⟨n + 1, hn⟩ _ (fun h i ch => ?_)
    replace h : ¬(n + 1) % 8 = 0 := h
    refine ((ih (Nat.lt_of_succ_lt hn)).kept i ch).trans ?_
    have hb : bat (⟨n + 1, hn⟩ : Fin cfg0.N) = bat ⟨n, Nat.lt_of_succ_lt hn⟩ := by
      apply Fin.ext; show (n + 1) / 8 = n / 8; omega
    rw [hb]
    refine (past_of _ _ _ _ _ ?_ ch).symm
    show 512 * ((n + 1) % 8) + 0 = 512 * (n % 8) + (509 + i.val) + (3 - i.val)
    omega

/-- A row's point, and the batch and the position it stands for. -/
theorem row_point (r : Fin 32768) (p : Nat) (hp : p = r.val / 512) : ∃ hlt : p < cfg0.N,
    bat (⟨p, hlt⟩ : Fin cfg0.N) = ⟨r.val / 4096, by omega⟩ ∧
      pos (tile (⟨p, hlt⟩ : Fin cfg0.N)) ⟨r.val % 512, by omega⟩ = ⟨r.val % 4096, by omega⟩ := by
  subst hp
  refine ⟨lt_of_lt_of_eq (b := 64) (by omega) (show cfg0.N = 64 from N_0).symm, Fin.ext ?_, Fin.ext ?_⟩
  · show r.val / 512 / 8 = r.val / 4096; omega
  · show 512 * (r.val / 512 % 8) + r.val % 512 = r.val % 4096; omega

/-- The first result: the gate. -/
theorem gate_at_row (r : Fin 32768) (j : Fin 2048) :
    G7 m d (ix2 r j) = zv (inp m d) ⟨r.val / 4096, by omega⟩ ⟨r.val % 4096, by omega⟩ j := by
  obtain ⟨hlt, hb, ht⟩ := row_point hI r (pt7Of (ix2 r j)) (by show 1 * (r.val / 512 - 0) + 1 * (j.val / 2048 - 0) = _; omega)
  have hl : loc7Of (ix2 r j) = ix2 (⟨r.val % 512, by omega⟩ : Fin 512) j := by
    funext a; apply Fin.ext
    fin_cases a
    · rfl
    · show j.val % 2048 = j.val; omega
  unfold G7
  rw [dif_pos hlt, hl, ← outsAt0_sweep m d _ hlt, (left_all hI _ hlt).gate, hb, ht]

/-- The second: the channels after the convolution and the gating. -/
theorem chans_at_row (r : Fin 32768) (ch : Fin 4096) :
    G8 m d (ix2 r ch) = xv (inp m d) ⟨r.val / 4096, by omega⟩ ⟨r.val % 4096, by omega⟩ ch := by
  obtain ⟨hlt, hb, ht⟩ := row_point hI r (pt8Of (ix2 r ch)) (by show 1 * (r.val / 512 - 0) + 1 * (ch.val / 4096 - 0) = _; omega)
  have hl : loc8Of (ix2 r ch) = ix2 (⟨r.val % 512, by omega⟩ : Fin 512) ch := by
    funext a; apply Fin.ext
    fin_cases a
    · rfl
    · show ch.val % 4096 = ch.val; omega
  unfold G8
  rw [dif_pos hlt, hl, ← outsAt0_sweep m d _ hlt, (left_all hI _ hlt).chans, hb, ht]

/-- The third: the step sizes. -/
theorem steps_at_row (r : Fin 32768) (h : Fin 128) :
    G9 m d (ix2 r h) = dtv (inp m d) ⟨r.val / 4096, by omega⟩ ⟨r.val % 4096, by omega⟩ h := by
  obtain ⟨hlt, hb, ht⟩ := row_point hI r (pt9Of (ix2 r h)) (by show 1 * (r.val / 512 - 0) + 1 * (h.val / 128 - 0) = _; omega)
  have hl : loc9Of (ix2 r h) = ix2 (⟨r.val % 512, by omega⟩ : Fin 512) h := by
    funext a; apply Fin.ext
    fin_cases a
    · rfl
    · show h.val % 128 = h.val; omega
  unfold G9
  rw [dif_pos hlt, hl, ← outsAt0_sweep m d _ hlt, (left_all hI _ hlt).steps, hb, ht]

end Cert.InProj.Host

end
-- ==== Proof.InRef.lean ====
/- The input projection's reference in stages, each read at an index: its three results at a row are the gate, the channels and the step sizes. -/
module

public import proofs.«01_k».proof.Proof.Gen.Reference4Ideal.Run
public import proofs.«01_k».proof.Proof.FfnRef
public import proofs.«01_k».proof.Proof.InSpec

@[expose] public section

set_option maxRecDepth 16384

noncomputable section

namespace Cert.Reference4Ideal.Stages

open Idealize.ShloMosaic Idealize.ShloMosaic.TcCoe Idealize.ShloMosaic.StableHlo
open Cert.Reference4Ideal Cert.Reference4Ideal.Gen Cert.InProj
open Cert.Reference2Ideal.Stages (Num scaled scaled_at)

variable (m : (ℓ : Loc nD τ sig) → Buf (Elt Ideal) ℓ) (d : Dev nD)

/-- The projection of every position. -/
def projected : Num S8x4096x6176 :=
  Host.dotGeneral (φ₂ := .f32) dot_S8x4096x1024_S1024x6176_S8x4096x6176_2_0_01_1_n_n none
    (scaled (m (d.tc.loc main_arg0)) (m (d.tc.loc main_arg1)) : FVec Ideal S8x4096x1024 .f32) (m (d.tc.loc main_arg2))

/-- The gate's columns, by rows. -/
def gateRows (u : Num S8x4096x6176) : FVec Ideal S32768x2048 .bf16 :=
  truncf .bf16 (shapeCast _ (extractStridedSlice S8x4096x2048 ![0, 0, 0] u slices_S8x4096x6176_S8x4096x2048_0_0_0)
    shapeCasts_S8x4096x2048_S32768x2048) bitsLt_bf16_f32

/-- The step sizes' columns and 96 of zeros, by rows. -/
def stepRows (u : Num S8x4096x6176) : Num S32768x128 :=
  shapeCast _ (pad S8x4096x128 ![0, 0, 0] ![0, 0, 96] ![0, 0, 0] (extractStridedSlice S8x4096x32 ![0, 0, 6144] u slices_S8x4096x6176_S8x4096x32_0_0_6144)
    (sitofp .f32 (constantI S_ 32 0#32)) pads_S8x4096x32_S8x4096x128_000_000_0960 h_S_) shapeCasts_S8x4096x128_S32768x128

/-- The channels' columns. -/
def channels (u : Num S8x4096x6176) : Num S8x4096x4096 := extractStridedSlice S8x4096x4096 ![0, 0, 2048] u slices_S8x4096x6176_S8x4096x4096_0_0_2048

/-- Three rows of zeros before each batch. -/
def padded (u : Num S8x4096x4096) : Num S8x4099x4096 :=
  pad S8x4099x4096 ![0, 3, 0] ![0, 0, 0] ![0, 0, 0] u (sitofp .f32 (constantI S_ 32 0#32)) pads_S8x4096x4096_S8x4099x4096_000_300_000 h_S_

/-- One tap's weights at every position. -/
def spread (w : Num S1x4096) : Num S8x4096x4096 :=
  broadcastInDim S8x4096x4096 ![0, 1, 2] bcast_S1x1x4096_S8x4096x4096_0_1_2 (broadcastInDim S1x1x4096 ![2] bcast_S4096_S1x1x4096_2
    (shapeCast S4096 w shapeCasts_S1x4096_S4096))

/-- Four taps and the bias. -/
def tapped (p : Num S8x4099x4096) (cw : Num S4x4096) (cb : Num S4096) : Num S8x4096x4096 :=
  addf (addf (addf (addf
    (mulf (spread (extractStridedSlice S1x4096 ![0, 0] cw slices_S4x4096_S1x4096_0_0))
      (extractStridedSlice S8x4096x4096 ![0, 0, 0] p slices_S8x4099x4096_S8x4096x4096_0_0_0))
    (mulf (spread (extractStridedSlice S1x4096 ![1, 0] cw slices_S4x4096_S1x4096_1_0))
      (extractStridedSlice S8x4096x4096 ![0, 1, 0] p slices_S8x4099x4096_S8x4096x4096_0_1_0)))
    (mulf (spread (extractStridedSlice S1x4096 ![2, 0] cw slices_S4x4096_S1x4096_2_0))
      (extractStridedSlice S8x4096x4096 ![0, 2, 0] p slices_S8x4099x4096_S8x4096x4096_0_2_0)))
    (mulf (spread (extractStridedSlice S1x4096 ![3, 0] cw slices_S4x4096_S1x4096_3_0))
      (extractStridedSlice S8x4096x4096 ![0, 3, 0] p slices_S8x4099x4096_S8x4096x4096_0_3_0)))
    (broadcastInDim S8x4096x4096 ![0, 1, 2] bcast_S1x1x4096_S8x4096x4096_0_1_2 (broadcastInDim S1x1x4096 ![2] bcast_S4096_S1x1x4096_2 cb))

/-- Each number times its logistic. -/
def gated (s : Num S8x4096x4096) : Num S8x4096x4096 :=
  mulf s (Host.divf (broadcastInDim S8x4096x4096 ![] bcast_S_S8x4096x4096 (constant S_ .f32 0x3F800000#32))
    (addf (broadcastInDim S8x4096x4096 ![] bcast_S_S8x4096x4096 (constant S_ .f32 0x3F800000#32)) (Host.exp (Host.negf s))))

/-- The channels, by rows. -/
def channelRows (s : Num S8x4096x4096) : FVec Ideal S32768x4096 .bf16 :=
  truncf .bf16 (shapeCast _ (gated s) shapeCasts_S8x4096x4096_S32768x4096) bitsLt_bf16_f32

set_option maxHeartbeats 2000000 in
/-- The second result is the stages in turn. -/
theorem staged : Value.res_main_v53 m d =
    channelRows (tapped (padded (channels (projected m d))) (m (d.tc.loc main_arg3)) (m (d.tc.loc main_arg4))) := by
  unfold Value.res_main_v53 channelRows gated tapped spread padded channels projected scaled
  rfl

/-- The reference's arguments by coordinates. -/
def given : Inp where
  x b s q := m (d.tc.loc main_arg0) (ix3 b s q)
  nw q := m (d.tc.loc main_arg1) (ix1 q)
  w k c := m (d.tc.loc main_arg2) (ix2 k c)
  cw k ch := m (d.tc.loc main_arg3) (ix2 k ch)
  cb ch := m (d.tc.loc main_arg4) (ix1 ch)

theorem projected_at (b : Fin 8) (t : Fin 4096) (c : Fin 6176) : projected m d (ix3 b t c) = proj (given m d) b t c := by
  pointwise [projected]
  refine Finset.sum_congr rfl fun k _ => ?_
  rw [scaled_at]
  rfl

/-- The integer zero, as a number. -/
theorem no_number : (FloatOps.sitofp (F := Ideal) .f32 (0#32) : EReal) = 0 := by
  show (((0#32 : BitVec 32).toInt : ℝ) : EReal) = 0
  simp

theorem gateRows_at (r : Fin 32768) (j : Fin 2048) :
    gateRows (projected m d) (ix2 r j) = zv (given m d) ⟨r.val / 4096, by omega⟩ ⟨r.val % 4096, by omega⟩ j := by
  unfold zv
  rw [← projected_at]
  generalize projected m d = u
  pointwise [gateRows]

theorem stepRows_at (r : Fin 32768) (h : Fin 128) :
    stepRows (projected m d) (ix2 r h) = dtv (given m d) ⟨r.val / 4096, by omega⟩ ⟨r.val % 4096, by omega⟩ h := by
  have hu := projected_at m d ⟨r.val / 4096, by omega⟩ ⟨r.val % 4096, by omega⟩
  generalize projected m d = u at hu ⊢
  unfold dtv stepw
  pointwise [stepRows]
  by_cases h' : h.val < 32
  · rw [dif_pos ⟨by omega, by omega, h'⟩]
    simp only [dif_pos h']
    exact hu _
  · rw [dif_neg fun h => h' h.2.2]
    simp only [dif_neg h', mul_zero, Finset.sum_const_zero]
    exact no_number

theorem padded_at (u : Num S8x4096x4096) (b : Fin 8) (t : Fin 4099) (ch : Fin 4096) :
    padded u (ix3 b t ch) = if h : 3 ≤ t.val then u (ix3 b (⟨t.val - 3, by omega⟩ : Fin 4096) ch) else 0 := by
  pointwise [padded]
  by_cases h : 3 ≤ t.val
  · rw [dif_pos h, dif_pos ⟨h, by omega⟩]
  · rw [dif_neg h, dif_neg fun h' => h h'.1]
    exact no_number

theorem tapped_at (b : Fin 8) (t : Fin 4096) (ch : Fin 4096) :
    tapped (padded (channels (projected m d))) (m (d.tc.loc main_arg3)) (m (d.tc.loc main_arg4)) (ix3 b t ch) = conv (given m d) b t ch := by
  have hu (t' : Fin 4096) : channels (projected m d) (ix3 b t' ch) = raw (given m d) b t' ch := by
    unfold raw
    rw [← projected_at]
    generalize projected m d = u
    pointwise [channels]
  have hp (k : Fin 4) : padded (channels (projected m d)) (ix3 b (⟨k.val + t.val, by omega⟩ : Fin 4099) ch) = past (given m d) b t (3 - k.val) ch := by
    rw [padded_at]
    unfold past
    by_cases h : 3 - k.val ≤ t.val
    · rw [dif_pos (by show 3 ≤ k.val + t.val; omega), if_pos h, hu]
      congr 1; apply Fin.ext; show k.val + t.val - 3 = t.val - (3 - k.val); omega
    · rw [dif_neg (by show ¬3 ≤ k.val + t.val; omega), if_neg h]
  unfold conv
  generalize channels _ = u at hu hp ⊢
  generalize padded u = p at hp ⊢
  have h0 : p (ix3 b (⟨t.val, by omega⟩ : Fin 4099) ch) = past (given m d) b t 3 ch :=
    (congrArg (fun z => p (ix3 b z ch)) (Fin.ext (Nat.zero_add _).symm)).trans (hp 0)
  have h1 : p (ix3 b (⟨1 + t.val, by omega⟩ : Fin 4099) ch) = past (given m d) b t 2 ch := hp 1
  have h2 : p (ix3 b (⟨2 + t.val, by omega⟩ : Fin 4099) ch) = past (given m d) b t 1 ch := hp 2
  have h3 : p (ix3 b (⟨3 + t.val, by omega⟩ : Fin 4099) ch) = raw (given m d) b t ch := (hp 3).trans (past_zero _ b t ch)
  pointwise [tapped, spread]
  rw [h0, h1, h2, h3]
  have back (x y z u v : EReal) : x + y + z + u + v = u + z + y + x + v := by rw [add_comm (x + y + z), add_comm (x + y), add_comm x, ← add_assoc, ← add_assoc]
  exact back _ _ _ _ _

theorem channelRows_at (r : Fin 32768) (ch : Fin 4096) :
    Value.res_main_v53 m d (ix2 r ch) = xv (given m d) ⟨r.val / 4096, by omega⟩ ⟨r.val % 4096, by omega⟩ ch := by
  rw [staged]
  unfold xv
  rw [← tapped_at]
  generalize tapped _ _ _ = s
  pointwise [channelRows, gated]
  rfl

end Cert.Reference4Ideal.Stages

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Step
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Points
public import proofs.«01_k».proof.Proof.RefRead
public import proofs.«01_k».proof.Proof.FfnPoints
public import proofs.«01_k».proof.Proof.FfnRef
public import proofs.«01_k».proof.Proof.Ffn1Points
public import proofs.«01_k».proof.Proof.Ffn1Ref
public import proofs.«01_k».proof.Proof.InPoints
public import proofs.«01_k».proof.Proof.InRef
public import Idealize.ShloMosaic.Adequacy
public import Idealize.ShloMosaic.Init

@[expose] public section

noncomputable section

namespace Cert.Proof

open Idealize.ShloMosaic Idealize.SL.Sem Cert.Kernel

/-- The scan program runs, leaves its arguments alone and ends with every counter at zero. -/
theorem frame_kernel : Cert.quiescent_Kernel := fun m ρ _ => Cert.Kernel.Gen.frame m ρ

/-- The same of the idealized program. -/
theorem frame_kernel_ideal : Cert.quiescent_KernelIdeal := fun m ρ _ => Cert.KernelIdeal.Gen.frame m ρ

/-- The masking constant is read as minus infinity, at every place it stands. -/
theorem mask_is_bot : Cert.preserves_Kernel_KernelIdeal :=
  IdealRules.named_const.statement Cert.KernelIdeal.κ "mask" .f32 0xF149F2CA#32 ⊥ rfl

/-- The reference runs and leaves its arguments alone. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The precondition's stated facts: a number spreads over each array. -/
instance gates_facts : Cert.Pre_finite_gates.Facts where
  bitsLt_bf16_f32 := by decide
  bcast_S_S8x4096x2048 := by decide
  bcast_S_S8x4096x32 := by decide
  bcast_S_S32 := by decide

/-- A number whose size is below infinity is real. -/
theorem real_of_small (v : EReal)
    (h : FloatOps.cmpf (F := Ideal) (φ := .f32) .olt (FloatOps.hostAbsf (F := Ideal) (φ := .f32) v)
      (Ideal.ofBits .f32 0x7F800000#32) = 1#1) : Cert.Ssd.IsReal v := by
  have e : Ideal.ofBits .f32 0x7F800000#32 = (⊤ : EReal) := rfl
  rw [e] at h
  have h' : max v (-v) < ⊤ := by
    by_contra hn
    have : FloatOps.cmpf (F := Ideal) (φ := .f32) .olt (FloatOps.hostAbsf (F := Ideal) (φ := .f32) v) (⊤ : EReal) = 0#1 := by
      show BitVec.ofBool (decide (max v (-v) < ⊤)) = 0#1
      rw [decide_eq_false hn]; rfl
    rw [this] at h
    exact absurd h (by decide)
  refine Cert.Ssd.isReal_of_bounds ((le_max_left _ _).trans_lt h') ?_
  have hneg : -v < ⊤ := (le_max_right _ _).trans_lt h'
  rw [bot_lt_iff_ne_bot]
  rintro rfl
  exact absurd hneg (by simp)

/-- The precondition says the gate, the step sizes' summands and the rates' logarithms are real. -/
theorem finite (m : (ℓ : Loc Cert.KernelIdeal.nD Cert.KernelIdeal.τ Cert.KernelIdeal.sig) → Buf (Elt Ideal) ℓ)
    (h : @Cert.Pre_KernelIdeal_finite_gates gates_facts m) (c : Dev Cert.KernelIdeal.nD) :
    Cert.KernelIdeal.Chunk.Finite (Cert.KernelIdeal.Host.inp m c) where
  z b s ch := real_of_small _ (congrFun (h c).1 (ix3 b s ch))
  dt b s k := real_of_small _ (congrFun (h c).2.1 (ix3 b s k))
  bias k := real_of_small _ (congrFun (h c).2.2.1 (ix1 k))
  alog k := real_of_small _ (congrFun (h c).2.2.2 (ix1 k))

/-- The kernel's result is the reference's, from memories that agree on the arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hf : Cert.KernelIdeal.Chunk.Finite (Cert.KernelIdeal.Host.inp m c))
    (hi : Cert.ReferenceIdeal.Loop.given m' c = Cert.KernelIdeal.Host.inp m c) :
    Cert.ReferenceIdeal.Loop.res m' c = Cert.KernelIdeal.Value.G10 m c := by
  funext i
  have e := eq_ix2 i
  rw [e]
  exact (Cert.ReferenceIdeal.Loop.res_at m' c _ _).trans
    ((congrArg (fun I => Cert.Ssd.outv I _ _ _ _) hi).trans (Cert.KernelIdeal.Host.result_at hf _ _).symm)

/-- The value claim: both programs end with the same result. -/
theorem value_claim : @Cert.algebraic_KernelIdeal_ReferenceIdeal_pre_finite_gates Cert.KernelIdeal.Gen.facts
    Cert.ReferenceIdeal.Gen.facts gates_facts := by
  intro m g m' g' hpre hargs
  refine ⟨fun c => Cert.KernelIdeal.Value.G10 m c, Cert.KernelIdeal.Value.run m g, ?_⟩
  refine (θ_run Cert.ReferenceIdeal.defs _ _).mono (fun r h c => ⟨?_, (h c).2⟩) (Cert.ReferenceIdeal.Value.run m' g')
  refine (h c).1.trans ((Cert.ReferenceIdeal.Loop.out_eq m' c).trans (same m m' c (finite m hpre c) ?_))
  obtain ⟨h0, h1, h2, h3, h4, h5, h6, h7, h8⟩ := hargs c
  unfold Cert.ReferenceIdeal.Loop.given Cert.KernelIdeal.Host.inp
  rw [h0, h1, h2, h3, h4, h5, h6, h7, h8]

/-- The feed-forward program runs, leaves its arguments alone and ends with every counter at zero. -/
theorem frame_kernel2 : Cert.quiescent_Kernel2 := fun m ρ _ => Cert.Kernel2.Gen.frame m ρ

/-- The same of the idealized feed-forward program. -/
theorem frame_kernel2_ideal : Cert.quiescent_Kernel2Ideal := fun m ρ _ => Cert.Kernel2Ideal.Gen.frame m ρ

/-- The feed-forward reference runs and leaves its arguments alone. -/
theorem frame_reference2_ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The logistic's base-two factor is read as minus one over the logarithm of two. -/
theorem factor_is_log : Cert.preserves_Kernel2_Kernel2Ideal :=
  IdealRules.named_const.statement Cert.Kernel2Ideal.κ "neg_log2e" .f32 0xBFB8AA3B#32 ((-((Real.log 2)⁻¹) : ℝ) : EReal) rfl

/-- The feed-forward kernel's result is its reference's, from memories that agree on the arguments. -/
theorem same2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (hi : Cert.Reference2Ideal.Stages.given m' c = Cert.Ffn.Host.inp m c) :
    Cert.Reference2Ideal.Value.res_main_v57 m' c = Cert.Kernel2Ideal.Value.G8 m c := by
  funext i
  have e := eq_ix2 i
  rw [e]
  exact (Cert.Reference2Ideal.Stages.res_at m' c _ _).trans
    ((congrArg (fun I => Cert.Ffn.outv I _ _ _) hi).trans (Cert.Ffn.Host.result_at m c _ _).symm)

/-- The feed-forward value claim: both programs end with the same result. -/
theorem value_claim2 : @Cert.algebraic_Kernel2Ideal_Reference2Ideal Cert.Kernel2Ideal.Gen.facts Cert.Reference2Ideal.Gen.facts := by
  intro m g m' g' _ hargs
  refine ⟨fun c => Cert.Kernel2Ideal.Value.G8 m c, Cert.Kernel2Ideal.Value.run m g, ?_⟩
  refine (θ_run Cert.Reference2Ideal.defs _ _).mono (fun r h c => ⟨?_, (h c).2⟩) (Cert.Reference2Ideal.Value.run m' g')
  refine (h c).1.trans (same2 m m' c ?_)
  obtain ⟨h0, h1, h2, h3, h4, h5, h6, h7⟩ := hargs c
  unfold Cert.Reference2Ideal.Stages.given Cert.Ffn.Host.inp
  rw [h0, h1, h2, h3, h4, h5, h6, h7]

/-- The first feed-forward program runs, leaves its arguments alone and ends with every counter at zero. -/
theorem frame_kernel3 : Cert.quiescent_Kernel3 := fun m ρ _ => Cert.Kernel3.Gen.frame m ρ

/-- The same of the idealized first feed-forward program. -/
theorem frame_kernel3_ideal : Cert.quiescent_Kernel3Ideal := fun m ρ _ => Cert.Kernel3Ideal.Gen.frame m ρ

/-- The first feed-forward reference runs and leaves its arguments alone. -/
theorem frame_reference3_ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The first feed-forward call's logistic factor is read as minus one over the logarithm of two. -/
theorem factor_is_log3 : Cert.preserves_Kernel3_Kernel3Ideal :=
  IdealRules.named_const.statement Cert.Kernel3Ideal.κ "neg_log2e" .f32 0xBFB8AA3B#32 ((-((Real.log 2)⁻¹) : ℝ) : EReal) rfl

/-- The first feed-forward kernel's result is its reference's, from memories that agree on the arguments. -/
theorem same3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (hi : Cert.Reference3Ideal.Stages.given m' c = Cert.Ffn1.Host.inp m c) :
    Cert.Reference3Ideal.Value.res_main_v41 m' c = Cert.Kernel3Ideal.Value.G6 m c := by
  funext i
  have e := eq_ix2 i
  rw [e]
  exact (Cert.Reference3Ideal.Stages.res_at m' c _ _).trans
    ((congrArg (fun I => Cert.Ffn.resid I _ _ _ + Cert.Ffn.down I _ _ _) hi).trans (Cert.Ffn1.Host.result_at m c _ _).symm)

/-- The first feed-forward value claim: both programs end with the same result. -/
theorem value_claim3 : @Cert.algebraic_Kernel3Ideal_Reference3Ideal Cert.Kernel3Ideal.Gen.facts Cert.Reference3Ideal.Gen.facts := by
  intro m g m' g' _ hargs
  refine ⟨fun c => Cert.Kernel3Ideal.Value.G6 m c, Cert.Kernel3Ideal.Value.run m g, ?_⟩
  refine (θ_run Cert.Reference3Ideal.defs _ _).mono (fun r h c => ⟨?_, (h c).2⟩) (Cert.Reference3Ideal.Value.run m' g')
  refine (h c).1.trans (same3 m m' c ?_)
  obtain ⟨h0, h1, h2, h3, h4, h5⟩ := hargs c
  unfold Cert.Reference3Ideal.Stages.given Cert.Ffn1.Host.inp
  rw [h0, h1, h2, h3, h4, h5]

/-- The input projection's program runs, leaves its arguments alone and ends with every counter at zero. -/
theorem frame_kernel4 : Cert.quiescent_Kernel4 := fun m ρ _ => Cert.Kernel4.Gen.frame m ρ

/-- The same of the idealized input projection. -/
theorem frame_kernel4_ideal : Cert.quiescent_Kernel4Ideal := fun m ρ _ => Cert.Kernel4Ideal.Gen.frame m ρ

/-- The input projection's reference runs and leaves its arguments alone. -/
theorem frame_reference4_ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

/-- Nothing of the input projection is read otherwise. -/
theorem nothing_named : Cert.preserves_Kernel4_Kernel4Ideal := trivial

/-- The second precondition's stated facts: a number spreads over each array, and the columns taken are there. -/
instance inputs_facts : Cert.Pre_finite_inputs.Facts where
  bcast_S_S1024 := by decide
  slices_S1024x6176_S1024x4128_0_2048 := by decide
  bcast_S_S1024x4128 := by decide
  bcast_S_S4x4096 := by decide
  bcast_S_S4096 := by decide

/-- The columns from 2048 on, read at an index. -/
theorem columns_at (w : FVec Ideal Cert.Pre_finite_inputs.S1024x6176 .f32) (k : Fin 1024) (c : Fin 4128) :
    extractStridedSlice Cert.Pre_finite_inputs.S1024x4128 ![0, 2048] w inputs_facts.slices_S1024x6176_S1024x4128_0_2048 (ix2 k c) =
      w (ix2 k (⟨2048 + c.val, by omega⟩ : Fin 6176)) := by
  pointwise []

/-- The second precondition says the weights of the channels and of the step sizes are real. -/
theorem finite4 (m : (ℓ : Loc Cert.Kernel4Ideal.nD Cert.Kernel4Ideal.τ Cert.Kernel4Ideal.sig) → Buf (Elt Ideal) ℓ)
    (h : @Cert.Pre_Kernel4Ideal_finite_inputs inputs_facts m) (c : Dev Cert.Kernel4Ideal.nD) :
    Cert.InProj.Finite (Cert.InProj.Host.inp m c) where
  nw q := real_of_small _ (congrFun (h c).1 (ix1 q))
  w k j hj := by
    have e : j = ⟨2048 + (⟨j.val - 2048, by omega⟩ : Fin 4128).val, by show 2048 + (j.val - 2048) < 6176; omega⟩ :=
      Fin.ext (by show j.val = 2048 + (j.val - 2048); omega)
    rw [e]
    exact (congrArg Cert.Ssd.IsReal (columns_at (m (c.tc.loc Cert.Kernel4Ideal.main_arg2)) k _)).mp
      (real_of_small _ (congrFun (h c).2.1 (ix2 k _)))
  cw k ch := real_of_small _ (congrFun (h c).2.2.1 (ix2 k ch))
  cb ch := real_of_small _ (congrFun (h c).2.2.2 (ix1 ch))

section InputProjection
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)
  (c : Dev Cert.Kernel4Ideal.nD) (hf : Cert.InProj.Finite (Cert.InProj.Host.inp m c))
  (hi : Cert.Reference4Ideal.Stages.given m' c = Cert.InProj.Host.inp m c)
include hf hi

/-- The kernel's gate is the reference's, from memories that agree on the arguments. -/
theorem same_gate : Cert.Reference4Ideal.Stages.gateRows (Cert.Reference4Ideal.Stages.projected m' c) = Cert.Kernel4Ideal.Value.G7 m c := by
  funext i
  have e := eq_ix2 i
  rw [e]
  exact (Cert.Reference4Ideal.Stages.gateRows_at m' c _ _).trans
    ((congrArg (fun I => Cert.InProj.zv I _ _ _) hi).trans (Cert.InProj.Host.gate_at_row hf _ _).symm)

/-- So are its channels. -/
theorem same_channels : Cert.Reference4Ideal.Value.res_main_v53 m' c = Cert.Kernel4Ideal.Value.G8 m c := by
  funext i
  have e := eq_ix2 i
  rw [e]
  exact (Cert.Reference4Ideal.Stages.channelRows_at m' c _ _).trans
    ((congrArg (fun I => Cert.InProj.xv I _ _ _) hi).trans (Cert.InProj.Host.chans_at_row hf _ _).symm)

/-- And its step sizes. -/
theorem same_steps : Cert.Reference4Ideal.Stages.stepRows (Cert.Reference4Ideal.Stages.projected m' c) = Cert.Kernel4Ideal.Value.G9 m c := by
  funext i
  have e := eq_ix2 i
  rw [e]
  exact (Cert.Reference4Ideal.Stages.stepRows_at m' c _ _).trans
    ((congrArg (fun I => Cert.InProj.dtv I _ _ _) hi).trans (Cert.InProj.Host.steps_at_row hf _ _).symm)
end InputProjection

/-- The input projection's value claim: both programs end with the same three results. -/
theorem value_claim4 : @Cert.algebraic_Kernel4Ideal_Reference4Ideal_pre_finite_inputs Cert.Kernel4Ideal.Gen.facts
    Cert.Reference4Ideal.Gen.facts inputs_facts := by
  intro m g m' g' hpre hargs
  have hi (c : Dev Cert.Kernel4Ideal.nD) : Cert.Reference4Ideal.Stages.given m' c = Cert.InProj.Host.inp m c := by
    obtain ⟨h0, h1, h2, h3, h4⟩ := hargs c
    unfold Cert.Reference4Ideal.Stages.given Cert.InProj.Host.inp
    rw [h0, h1, h2, h3, h4]
  refine ⟨fun c => Cert.Kernel4Ideal.Value.G7 m c, fun c => Cert.Kernel4Ideal.Value.G8 m c, fun c => Cert.Kernel4Ideal.Value.G9 m c,
    Cert.Kernel4Ideal.Value.run m g, ?_⟩
  refine (θ_run Cert.Reference4Ideal.defs _ _).mono (fun r h c => ⟨?_, ?_, ?_, (h c).2.2.2⟩) (Cert.Reference4Ideal.Value.run m' g')
  · exact (h c).1.trans (same_gate m m' c (finite4 m hpre c) (hi c))
  · exact (h c).2.1.trans (same_channels m m' c (finite4 m hpre c) (hi c))
  · exact (h c).2.2.1.trans (same_steps m m' c (finite4 m hpre c) (hi c))

/-- Everything the certificate states. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, gates_facts, inputs_facts,
    frame_kernel, frame_kernel_ideal, fun m g _ => frame_kernel_ideal m g trivial, frame_reference_ideal,
    fun m g _ => frame_reference_ideal m g trivial, frame_kernel2, frame_kernel2_ideal, frame_reference2_ideal,
    frame_kernel3, frame_kernel3_ideal, frame_reference3_ideal,
    frame_kernel4, frame_kernel4_ideal, fun m g _ => frame_kernel4_ideal m g trivial, frame_reference4_ideal,
    fun m g _ => frame_reference4_ideal m g trivial,
    mask_is_bot, value_claim, factor_is_log, value_claim2, factor_is_log3, value_claim3, nothing_named, value_claim4⟩

end Cert.Proof

end
